-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S2x128x1024 : Shape := ⟨3, ![2, 128, 1024]⟩
abbrev S4x128x1024 : Shape := ⟨3, ![4, 128, 1024]⟩
abbrev S8x128x1024 : Shape := ⟨3, ![8, 128, 1024]⟩
abbrev S2 : Shape := ⟨1, ![2]⟩
abbrev S8 : Shape := ⟨1, ![8]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 2
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .local _ .vmem, ⟨0, _⟩ => ⟨S2x128x1024, .f32⟩
  | .local _ .vmem, ⟨1, _⟩ => ⟨S2x128x1024, .f32⟩
  | .local _ .vmem, ⟨2, _⟩ => ⟨S2x128x1024, .f32⟩
  | .local _ .vmem, ⟨3, _⟩ => ⟨S4x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S2x128x1024, .bf16⟩
  | .local _ .vmem, ⟨7, _⟩ => ⟨S2x128x1024, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 3 42 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 2

abbrev nD : Nat := 16
abbrev τ : Topo := Topo.v7x

variable {F : FTy → Type} [FloatOps F]

abbrev grid0 : Pipeline.Grid := .none

def k0_off1 (d0 : Dev nD) (c0_i32 : BitVec 32) : Fin 3 → Nat :=
  let c0_i32_6 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.addi c0_i32 v5
  let c128_i32 : BitVec 32 := 128#32
  let v15 : BitVec 32 := Scalar.muli v14 c128_i32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c1024_i32_5 : BitVec 32 := 1024#32
  let v13 : BitVec 32 := Scalar.muli v12 c1024_i32_5
  ![0, v15.toNat, v13.toNat]
def k0_off2 (d0 : Dev nD) (c0_i32_18 : BitVec 32) : Fin 3 → Nat :=
  let c0_i32_20 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.addi c0_i32_18 v5
  let c128_i32_19 : BitVec 32 := 128#32
  let v31 : BitVec 32 := Scalar.muli v30 c128_i32_19
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  ![0, v31.toNat, v11.toNat]
def k0_off3 (d0 : Dev nD) (c0_i32_26 : BitVec 32) : Fin 3 → Nat :=
  let c0_i32_28 : BitVec 32 := 0#32
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_25 v5
  let v39 : BitVec 32 := Scalar.addi c0_i32_26 v38
  let c128_i32_27 : BitVec 32 := 128#32
  let v40 : BitVec 32 := Scalar.muli v39 c128_i32_27
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  ![0, v40.toNat, v11.toNat]
def k0_dev1 (d0 : Dev nD) : Nat :=
  let c0_i32_35 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_34 : BitVec 32 := 8#32
  let v48 : BitVec 32 := Scalar.muli v9 c8_i32_34
  let v49 : BitVec 32 := Scalar.addi c0_i32_35 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v50 : BitVec 32 := Scalar.muli v5 c4_i32_36
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v52 : BitVec 32 := Scalar.muli v8 c1_i32_37
  let v53 : BitVec 32 := Scalar.addi v51 v52
  v53.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v54 : BitVec 32 := Scalar.muli v2 c8_i32_39
  let v55 : BitVec 32 := Scalar.addi c0_i32_40 v54
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_41 : BitVec 32 := 4#32
  let v56 : BitVec 32 := Scalar.muli v10 c4_i32_41
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v58 : BitVec 32 := Scalar.muli v8 c1_i32_42
  let v59 : BitVec 32 := Scalar.addi v57 v58
  v59.toNat
def k0_dev3 (d0 : Dev nD) : Nat :=
  let c0_i32_66 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_65 : BitVec 32 := 8#32
  let v80 : BitVec 32 := Scalar.muli v9 c8_i32_65
  let v81 : BitVec 32 := Scalar.addi c0_i32_66 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v82 : BitVec 32 := Scalar.muli v5 c4_i32_67
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v84 : BitVec 32 := Scalar.muli v8 c1_i32_68
  let v85 : BitVec 32 := Scalar.addi v83 v84
  v85.toNat
def k0_dev4 (d0 : Dev nD) : Nat :=
  let c0_i32_94 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_93 : BitVec 32 := 8#32
  let v114 : BitVec 32 := Scalar.muli v9 c8_i32_93
  let v115 : BitVec 32 := Scalar.addi c0_i32_94 v114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v116 : BitVec 32 := Scalar.muli v5 c4_i32_95
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v118 : BitVec 32 := Scalar.muli v8 c1_i32_96
  let v119 : BitVec 32 := Scalar.addi v117 v118
  v119.toNat
def k0_dev5 (d0 : Dev nD) : Nat :=
  let c0_i32_123 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_122 : BitVec 32 := 8#32
  let v148 : BitVec 32 := Scalar.muli v9 c8_i32_122
  let v149 : BitVec 32 := Scalar.addi c0_i32_123 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_124 : BitVec 32 := 4#32
  let v150 : BitVec 32 := Scalar.muli v5 c4_i32_124
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v152 : BitVec 32 := Scalar.muli v8 c1_i32_125
  let v153 : BitVec 32 := Scalar.addi v151 v152
  v153.toNat
def k0_dev6 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v174 : BitVec 32 := Scalar.muli v2 c8_i32_146
  let v175 : BitVec 32 := Scalar.addi c0_i32_147 v174
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_148 : BitVec 32 := 4#32
  let v176 : BitVec 32 := Scalar.muli v10 c4_i32_148
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v178 : BitVec 32 := Scalar.muli v8 c1_i32_149
  let v179 : BitVec 32 := Scalar.addi v177 v178
  v179.toNat
def k0_dev7 (d0 : Dev nD) : Nat :=
  let c0_i32_174 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_173 : BitVec 32 := 8#32
  let v208 : BitVec 32 := Scalar.muli v9 c8_i32_173
  let v209 : BitVec 32 := Scalar.addi c0_i32_174 v208
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v210 : BitVec 32 := Scalar.muli v5 c4_i32_175
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v212 : BitVec 32 := Scalar.muli v8 c1_i32_176
  let v213 : BitVec 32 := Scalar.addi v211 v212
  v213.toNat
def k0_off4 (d0 : Dev nD) (c0_i32_202 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v245 : BitVec 32 := Scalar.addi c0_i32_202 v5
  let c128_i32_203 : BitVec 32 := 128#32
  let v246 : BitVec 32 := Scalar.muli v245 c128_i32_203
  let c0_i32_206 : BitVec 32 := 0#32
  ![v246.toNat, 0]
def k0_dev8 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v264 : BitVec 32 := Scalar.muli v2 c8_i32_225
  let v265 : BitVec 32 := Scalar.addi c0_i32_226 v264
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_227 : BitVec 32 := 4#32
  let v266 : BitVec 32 := Scalar.muli v10 c4_i32_227
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v268 : BitVec 32 := Scalar.muli v8 c1_i32_228
  let v269 : BitVec 32 := Scalar.addi v267 v268
  v269.toNat
def k0_dev9 (d0 : Dev nD) : Nat :=
  let c0_i32_264 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_263 : BitVec 32 := 8#32
  let v304 : BitVec 32 := Scalar.muli v9 c8_i32_263
  let v305 : BitVec 32 := Scalar.addi c0_i32_264 v304
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_265 : BitVec 32 := 4#32
  let v306 : BitVec 32 := Scalar.muli v5 c4_i32_265
  let v307 : BitVec 32 := Scalar.addi v305 v306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v308 : BitVec 32 := Scalar.muli v8 c1_i32_266
  let v309 : BitVec 32 := Scalar.addi v307 v308
  v309.toNat
def k0_off5 (d0 : Dev nD) (c0_i32_334 : BitVec 32) : Fin 2 → Nat :=
  let c1_i32_333 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v384 : BitVec 32 := Scalar.subi c1_i32_333 v5
  let v385 : BitVec 32 := Scalar.addi c0_i32_334 v384
  let c128_i32_335 : BitVec 32 := 128#32
  let v386 : BitVec 32 := Scalar.muli v385 c128_i32_335
  let c0_i32_338 : BitVec 32 := 0#32
  ![v386.toNat, 0]
def k0_dev10 (d0 : Dev nD) : Nat :=
  let c0_i32_343 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_342 : BitVec 32 := 8#32
  let v392 : BitVec 32 := Scalar.muli v2 c8_i32_342
  let v393 : BitVec 32 := Scalar.addi c0_i32_343 v392
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_344 : BitVec 32 := 4#32
  let v394 : BitVec 32 := Scalar.muli v10 c4_i32_344
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v396 : BitVec 32 := Scalar.muli v8 c1_i32_345
  let v397 : BitVec 32 := Scalar.addi v395 v396
  v397.toNat
def k0_dev11 (d0 : Dev nD) : Nat :=
  let c0_i32_363 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_362 : BitVec 32 := 8#32
  let v410 : BitVec 32 := Scalar.muli v2 c8_i32_362
  let v411 : BitVec 32 := Scalar.addi c0_i32_363 v410
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_364 : BitVec 32 := 4#32
  let v412 : BitVec 32 := Scalar.muli v10 c4_i32_364
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v414 : BitVec 32 := Scalar.muli v8 c1_i32_365
  let v415 : BitVec 32 := Scalar.addi v413 v414
  v415.toNat
def k0_dev12 (d0 : Dev nD) : Nat :=
  let c0_i32_400 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_399 : BitVec 32 := 8#32
  let v450 : BitVec 32 := Scalar.muli v9 c8_i32_399
  let v451 : BitVec 32 := Scalar.addi c0_i32_400 v450
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_401 : BitVec 32 := 4#32
  let v452 : BitVec 32 := Scalar.muli v5 c4_i32_401
  let v453 : BitVec 32 := Scalar.addi v451 v452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v454 : BitVec 32 := Scalar.muli v8 c1_i32_402
  let v455 : BitVec 32 := Scalar.addi v453 v454
  v455.toNat
def k0_dev13 (d0 : Dev nD) : Nat :=
  let c0_i32_484 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_483 : BitVec 32 := 8#32
  let v543 : BitVec 32 := Scalar.muli v2 c8_i32_483
  let v544 : BitVec 32 := Scalar.addi c0_i32_484 v543
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_485 : BitVec 32 := 4#32
  let v545 : BitVec 32 := Scalar.muli v10 c4_i32_485
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_486 : BitVec 32 := 1#32
  let v547 : BitVec 32 := Scalar.muli v8 c1_i32_486
  let v548 : BitVec 32 := Scalar.addi v546 v547
  v548.toNat
def k0_dev14 (d0 : Dev nD) : Nat :=
  let c0_i32_504 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_503 : BitVec 32 := 8#32
  let v561 : BitVec 32 := Scalar.muli v2 c8_i32_503
  let v562 : BitVec 32 := Scalar.addi c0_i32_504 v561
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_505 : BitVec 32 := 4#32
  let v563 : BitVec 32 := Scalar.muli v10 c4_i32_505
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_506 : BitVec 32 := 1#32
  let v565 : BitVec 32 := Scalar.muli v8 c1_i32_506
  let v566 : BitVec 32 := Scalar.addi v564 v565
  v566.toNat
def k0_dev15 (d0 : Dev nD) : Nat :=
  let c0_i32_542 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_541 : BitVec 32 := 8#32
  let v601 : BitVec 32 := Scalar.muli v9 c8_i32_541
  let v602 : BitVec 32 := Scalar.addi c0_i32_542 v601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_543 : BitVec 32 := 4#32
  let v603 : BitVec 32 := Scalar.muli v5 c4_i32_543
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v605 : BitVec 32 := Scalar.muli v8 c1_i32_544
  let v606 : BitVec 32 := Scalar.addi v604 v605
  v606.toNat
def k0_dev16 (d0 : Dev nD) : Nat :=
  let c0_i32_631 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_630 : BitVec 32 := 8#32
  let v699 : BitVec 32 := Scalar.muli v2 c8_i32_630
  let v700 : BitVec 32 := Scalar.addi c0_i32_631 v699
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_632 : BitVec 32 := 4#32
  let v701 : BitVec 32 := Scalar.muli v10 c4_i32_632
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_633 : BitVec 32 := 1#32
  let v703 : BitVec 32 := Scalar.muli v8 c1_i32_633
  let v704 : BitVec 32 := Scalar.addi v702 v703
  v704.toNat
def k0_dev17 (d0 : Dev nD) : Nat :=
  let c0_i32_645 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_644 : BitVec 32 := 8#32
  let v711 : BitVec 32 := Scalar.muli v9 c8_i32_644
  let v712 : BitVec 32 := Scalar.addi c0_i32_645 v711
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_646 : BitVec 32 := 4#32
  let v713 : BitVec 32 := Scalar.muli v5 c4_i32_646
  let v714 : BitVec 32 := Scalar.addi v712 v713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_647 : BitVec 32 := 1#32
  let v715 : BitVec 32 := Scalar.muli v8 c1_i32_647
  let v716 : BitVec 32 := Scalar.addi v714 v715
  v716.toNat
def k0_dev18 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_664 : BitVec 32 := 8#32
  let v729 : BitVec 32 := Scalar.muli v2 c8_i32_664
  let v730 : BitVec 32 := Scalar.addi c0_i32_665 v729
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_666 : BitVec 32 := 4#32
  let v731 : BitVec 32 := Scalar.muli v10 c4_i32_666
  let v732 : BitVec 32 := Scalar.addi v730 v731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_667 : BitVec 32 := 1#32
  let v733 : BitVec 32 := Scalar.muli v8 c1_i32_667
  let v734 : BitVec 32 := Scalar.addi v732 v733
  v734.toNat
def k0_dev19 (d0 : Dev nD) : Nat :=
  let c0_i32_702 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_701 : BitVec 32 := 8#32
  let v769 : BitVec 32 := Scalar.muli v9 c8_i32_701
  let v770 : BitVec 32 := Scalar.addi c0_i32_702 v769
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_703 : BitVec 32 := 4#32
  let v771 : BitVec 32 := Scalar.muli v5 c4_i32_703
  let v772 : BitVec 32 := Scalar.addi v770 v771
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v773 : BitVec 32 := Scalar.muli v8 c1_i32_704
  let v774 : BitVec 32 := Scalar.addi v772 v773
  v774.toNat
def k0_dev20 (d0 : Dev nD) : Nat :=
  let c0_i32_790 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_789 : BitVec 32 := 8#32
  let v867 : BitVec 32 := Scalar.muli v2 c8_i32_789
  let v868 : BitVec 32 := Scalar.addi c0_i32_790 v867
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_791 : BitVec 32 := 4#32
  let v869 : BitVec 32 := Scalar.muli v10 c4_i32_791
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v871 : BitVec 32 := Scalar.muli v8 c1_i32_792
  let v872 : BitVec 32 := Scalar.addi v870 v871
  v872.toNat
def k0_dev21 (d0 : Dev nD) : Nat :=
  let c0_i32_804 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_803 : BitVec 32 := 8#32
  let v879 : BitVec 32 := Scalar.muli v9 c8_i32_803
  let v880 : BitVec 32 := Scalar.addi c0_i32_804 v879
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_805 : BitVec 32 := 4#32
  let v881 : BitVec 32 := Scalar.muli v5 c4_i32_805
  let v882 : BitVec 32 := Scalar.addi v880 v881
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v883 : BitVec 32 := Scalar.muli v8 c1_i32_806
  let v884 : BitVec 32 := Scalar.addi v882 v883
  v884.toNat
def k0_dev22 (d0 : Dev nD) : Nat :=
  let c0_i32_824 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_823 : BitVec 32 := 8#32
  let v897 : BitVec 32 := Scalar.muli v2 c8_i32_823
  let v898 : BitVec 32 := Scalar.addi c0_i32_824 v897
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_825 : BitVec 32 := 4#32
  let v899 : BitVec 32 := Scalar.muli v10 c4_i32_825
  let v900 : BitVec 32 := Scalar.addi v898 v899
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_826 : BitVec 32 := 1#32
  let v901 : BitVec 32 := Scalar.muli v8 c1_i32_826
  let v902 : BitVec 32 := Scalar.addi v900 v901
  v902.toNat
def k0_dev23 (d0 : Dev nD) : Nat :=
  let c0_i32_864 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_863 : BitVec 32 := 8#32
  let v937 : BitVec 32 := Scalar.muli v9 c8_i32_863
  let v938 : BitVec 32 := Scalar.addi c0_i32_864 v937
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_865 : BitVec 32 := 4#32
  let v939 : BitVec 32 := Scalar.muli v5 c4_i32_865
  let v940 : BitVec 32 := Scalar.addi v938 v939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_866 : BitVec 32 := 1#32
  let v941 : BitVec 32 := Scalar.muli v8 c1_i32_866
  let v942 : BitVec 32 := Scalar.addi v940 v941
  v942.toNat
def k0_dev24 (d0 : Dev nD) : Nat :=
  let c0_i32_952 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_951 : BitVec 32 := 8#32
  let v1035 : BitVec 32 := Scalar.muli v2 c8_i32_951
  let v1036 : BitVec 32 := Scalar.addi c0_i32_952 v1035
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_953 : BitVec 32 := 4#32
  let v1037 : BitVec 32 := Scalar.muli v10 c4_i32_953
  let v1038 : BitVec 32 := Scalar.addi v1036 v1037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_954 : BitVec 32 := 1#32
  let v1039 : BitVec 32 := Scalar.muli v8 c1_i32_954
  let v1040 : BitVec 32 := Scalar.addi v1038 v1039
  v1040.toNat
def k0_dev25 (d0 : Dev nD) : Nat :=
  let c0_i32_966 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_965 : BitVec 32 := 8#32
  let v1047 : BitVec 32 := Scalar.muli v9 c8_i32_965
  let v1048 : BitVec 32 := Scalar.addi c0_i32_966 v1047
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1049 : BitVec 32 := Scalar.muli v5 c4_i32_967
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_968 : BitVec 32 := 1#32
  let v1051 : BitVec 32 := Scalar.muli v8 c1_i32_968
  let v1052 : BitVec 32 := Scalar.addi v1050 v1051
  v1052.toNat
def k0_dev26 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1065 : BitVec 32 := Scalar.muli v2 c8_i32_985
  let v1066 : BitVec 32 := Scalar.addi c0_i32_986 v1065
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_987 : BitVec 32 := 4#32
  let v1067 : BitVec 32 := Scalar.muli v10 c4_i32_987
  let v1068 : BitVec 32 := Scalar.addi v1066 v1067
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1069 : BitVec 32 := Scalar.muli v8 c1_i32_988
  let v1070 : BitVec 32 := Scalar.addi v1068 v1069
  v1070.toNat
def k0_dev27 (d0 : Dev nD) : Nat :=
  let c0_i32_1026 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1025 : BitVec 32 := 8#32
  let v1105 : BitVec 32 := Scalar.muli v9 c8_i32_1025
  let v1106 : BitVec 32 := Scalar.addi c0_i32_1026 v1105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1027 : BitVec 32 := 4#32
  let v1107 : BitVec 32 := Scalar.muli v5 c4_i32_1027
  let v1108 : BitVec 32 := Scalar.addi v1106 v1107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1028 : BitVec 32 := 1#32
  let v1109 : BitVec 32 := Scalar.muli v8 c1_i32_1028
  let v1110 : BitVec 32 := Scalar.addi v1108 v1109
  v1110.toNat
def k0_dev28 (d0 : Dev nD) : Nat :=
  let c0_i32_1114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1113 : BitVec 32 := 8#32
  let v1203 : BitVec 32 := Scalar.muli v2 c8_i32_1113
  let v1204 : BitVec 32 := Scalar.addi c0_i32_1114 v1203
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1115 : BitVec 32 := 4#32
  let v1205 : BitVec 32 := Scalar.muli v10 c4_i32_1115
  let v1206 : BitVec 32 := Scalar.addi v1204 v1205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1116 : BitVec 32 := 1#32
  let v1207 : BitVec 32 := Scalar.muli v8 c1_i32_1116
  let v1208 : BitVec 32 := Scalar.addi v1206 v1207
  v1208.toNat
def k0_dev29 (d0 : Dev nD) : Nat :=
  let c0_i32_1128 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1127 : BitVec 32 := 8#32
  let v1215 : BitVec 32 := Scalar.muli v9 c8_i32_1127
  let v1216 : BitVec 32 := Scalar.addi c0_i32_1128 v1215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1129 : BitVec 32 := 4#32
  let v1217 : BitVec 32 := Scalar.muli v5 c4_i32_1129
  let v1218 : BitVec 32 := Scalar.addi v1216 v1217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1130 : BitVec 32 := 1#32
  let v1219 : BitVec 32 := Scalar.muli v8 c1_i32_1130
  let v1220 : BitVec 32 := Scalar.addi v1218 v1219
  v1220.toNat
def k0_dev30 (d0 : Dev nD) : Nat :=
  let c0_i32_1148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1147 : BitVec 32 := 8#32
  let v1233 : BitVec 32 := Scalar.muli v2 c8_i32_1147
  let v1234 : BitVec 32 := Scalar.addi c0_i32_1148 v1233
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1149 : BitVec 32 := 4#32
  let v1235 : BitVec 32 := Scalar.muli v10 c4_i32_1149
  let v1236 : BitVec 32 := Scalar.addi v1234 v1235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1150 : BitVec 32 := 1#32
  let v1237 : BitVec 32 := Scalar.muli v8 c1_i32_1150
  let v1238 : BitVec 32 := Scalar.addi v1236 v1237
  v1238.toNat
def k0_dev31 (d0 : Dev nD) : Nat :=
  let c0_i32_1188 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1187 : BitVec 32 := 8#32
  let v1273 : BitVec 32 := Scalar.muli v9 c8_i32_1187
  let v1274 : BitVec 32 := Scalar.addi c0_i32_1188 v1273
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1189 : BitVec 32 := 4#32
  let v1275 : BitVec 32 := Scalar.muli v5 c4_i32_1189
  let v1276 : BitVec 32 := Scalar.addi v1274 v1275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1190 : BitVec 32 := 1#32
  let v1277 : BitVec 32 := Scalar.muli v8 c1_i32_1190
  let v1278 : BitVec 32 := Scalar.addi v1276 v1277
  v1278.toNat
def k0_dev32 (d0 : Dev nD) : Nat :=
  let c0_i32_1276 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1275 : BitVec 32 := 8#32
  let v1371 : BitVec 32 := Scalar.muli v2 c8_i32_1275
  let v1372 : BitVec 32 := Scalar.addi c0_i32_1276 v1371
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1277 : BitVec 32 := 4#32
  let v1373 : BitVec 32 := Scalar.muli v10 c4_i32_1277
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1278 : BitVec 32 := 1#32
  let v1375 : BitVec 32 := Scalar.muli v8 c1_i32_1278
  let v1376 : BitVec 32 := Scalar.addi v1374 v1375
  v1376.toNat
def k0_dev33 (d0 : Dev nD) : Nat :=
  let c0_i32_1290 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1289 : BitVec 32 := 8#32
  let v1383 : BitVec 32 := Scalar.muli v9 c8_i32_1289
  let v1384 : BitVec 32 := Scalar.addi c0_i32_1290 v1383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1291 : BitVec 32 := 4#32
  let v1385 : BitVec 32 := Scalar.muli v5 c4_i32_1291
  let v1386 : BitVec 32 := Scalar.addi v1384 v1385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1292 : BitVec 32 := 1#32
  let v1387 : BitVec 32 := Scalar.muli v8 c1_i32_1292
  let v1388 : BitVec 32 := Scalar.addi v1386 v1387
  v1388.toNat
def k0_dev34 (d0 : Dev nD) : Nat :=
  let c0_i32_1312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1311 : BitVec 32 := 8#32
  let v1401 : BitVec 32 := Scalar.muli v2 c8_i32_1311
  let v1402 : BitVec 32 := Scalar.addi c0_i32_1312 v1401
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1313 : BitVec 32 := 4#32
  let v1403 : BitVec 32 := Scalar.muli v10 c4_i32_1313
  let v1404 : BitVec 32 := Scalar.addi v1402 v1403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1405 : BitVec 32 := Scalar.muli v8 c1_i32_1314
  let v1406 : BitVec 32 := Scalar.addi v1404 v1405
  v1406.toNat
def k0_dev35 (d0 : Dev nD) : Nat :=
  let c0_i32_1352 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1351 : BitVec 32 := 8#32
  let v1441 : BitVec 32 := Scalar.muli v9 c8_i32_1351
  let v1442 : BitVec 32 := Scalar.addi c0_i32_1352 v1441
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1353 : BitVec 32 := 4#32
  let v1443 : BitVec 32 := Scalar.muli v5 c4_i32_1353
  let v1444 : BitVec 32 := Scalar.addi v1442 v1443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1354 : BitVec 32 := 1#32
  let v1445 : BitVec 32 := Scalar.muli v8 c1_i32_1354
  let v1446 : BitVec 32 := Scalar.addi v1444 v1445
  v1446.toNat
def k0_dev36 (d0 : Dev nD) : Nat :=
  let c0_i32_1441 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1440 : BitVec 32 := 8#32
  let v1539 : BitVec 32 := Scalar.muli v2 c8_i32_1440
  let v1540 : BitVec 32 := Scalar.addi c0_i32_1441 v1539
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1442 : BitVec 32 := 4#32
  let v1541 : BitVec 32 := Scalar.muli v10 c4_i32_1442
  let v1542 : BitVec 32 := Scalar.addi v1540 v1541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1443 : BitVec 32 := 1#32
  let v1543 : BitVec 32 := Scalar.muli v8 c1_i32_1443
  let v1544 : BitVec 32 := Scalar.addi v1542 v1543
  v1544.toNat
def k0_dev37 (d0 : Dev nD) : Nat :=
  let c0_i32_1455 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1454 : BitVec 32 := 8#32
  let v1551 : BitVec 32 := Scalar.muli v9 c8_i32_1454
  let v1552 : BitVec 32 := Scalar.addi c0_i32_1455 v1551
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1456 : BitVec 32 := 4#32
  let v1553 : BitVec 32 := Scalar.muli v5 c4_i32_1456
  let v1554 : BitVec 32 := Scalar.addi v1552 v1553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1457 : BitVec 32 := 1#32
  let v1555 : BitVec 32 := Scalar.muli v8 c1_i32_1457
  let v1556 : BitVec 32 := Scalar.addi v1554 v1555
  v1556.toNat
def k0_dev38 (d0 : Dev nD) : Nat :=
  let c0_i32_1477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1476 : BitVec 32 := 8#32
  let v1569 : BitVec 32 := Scalar.muli v2 c8_i32_1476
  let v1570 : BitVec 32 := Scalar.addi c0_i32_1477 v1569
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1478 : BitVec 32 := 4#32
  let v1571 : BitVec 32 := Scalar.muli v10 c4_i32_1478
  let v1572 : BitVec 32 := Scalar.addi v1570 v1571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1479 : BitVec 32 := 1#32
  let v1573 : BitVec 32 := Scalar.muli v8 c1_i32_1479
  let v1574 : BitVec 32 := Scalar.addi v1572 v1573
  v1574.toNat
def k0_dev39 (d0 : Dev nD) : Nat :=
  let c0_i32_1517 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1516 : BitVec 32 := 8#32
  let v1609 : BitVec 32 := Scalar.muli v9 c8_i32_1516
  let v1610 : BitVec 32 := Scalar.addi c0_i32_1517 v1609
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1518 : BitVec 32 := 4#32
  let v1611 : BitVec 32 := Scalar.muli v5 c4_i32_1518
  let v1612 : BitVec 32 := Scalar.addi v1610 v1611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1519 : BitVec 32 := 1#32
  let v1613 : BitVec 32 := Scalar.muli v8 c1_i32_1519
  let v1614 : BitVec 32 := Scalar.addi v1612 v1613
  v1614.toNat
def k0_dev40 (d0 : Dev nD) : Nat :=
  let c0_i32_1606 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1605 : BitVec 32 := 8#32
  let v1707 : BitVec 32 := Scalar.muli v2 c8_i32_1605
  let v1708 : BitVec 32 := Scalar.addi c0_i32_1606 v1707
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1607 : BitVec 32 := 4#32
  let v1709 : BitVec 32 := Scalar.muli v10 c4_i32_1607
  let v1710 : BitVec 32 := Scalar.addi v1708 v1709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1608 : BitVec 32 := 1#32
  let v1711 : BitVec 32 := Scalar.muli v8 c1_i32_1608
  let v1712 : BitVec 32 := Scalar.addi v1710 v1711
  v1712.toNat
def k0_dev41 (d0 : Dev nD) : Nat :=
  let c0_i32_1620 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1619 : BitVec 32 := 8#32
  let v1719 : BitVec 32 := Scalar.muli v9 c8_i32_1619
  let v1720 : BitVec 32 := Scalar.addi c0_i32_1620 v1719
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1621 : BitVec 32 := 4#32
  let v1721 : BitVec 32 := Scalar.muli v5 c4_i32_1621
  let v1722 : BitVec 32 := Scalar.addi v1720 v1721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1622 : BitVec 32 := 1#32
  let v1723 : BitVec 32 := Scalar.muli v8 c1_i32_1622
  let v1724 : BitVec 32 := Scalar.addi v1722 v1723
  v1724.toNat
def k0_dev42 (d0 : Dev nD) : Nat :=
  let c0_i32_1642 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1641 : BitVec 32 := 8#32
  let v1737 : BitVec 32 := Scalar.muli v2 c8_i32_1641
  let v1738 : BitVec 32 := Scalar.addi c0_i32_1642 v1737
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1643 : BitVec 32 := 4#32
  let v1739 : BitVec 32 := Scalar.muli v10 c4_i32_1643
  let v1740 : BitVec 32 := Scalar.addi v1738 v1739
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1644 : BitVec 32 := 1#32
  let v1741 : BitVec 32 := Scalar.muli v8 c1_i32_1644
  let v1742 : BitVec 32 := Scalar.addi v1740 v1741
  v1742.toNat
def k0_dev43 (d0 : Dev nD) : Nat :=
  let c0_i32_1682 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1681 : BitVec 32 := 8#32
  let v1777 : BitVec 32 := Scalar.muli v9 c8_i32_1681
  let v1778 : BitVec 32 := Scalar.addi c0_i32_1682 v1777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1683 : BitVec 32 := 4#32
  let v1779 : BitVec 32 := Scalar.muli v5 c4_i32_1683
  let v1780 : BitVec 32 := Scalar.addi v1778 v1779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1684 : BitVec 32 := 1#32
  let v1781 : BitVec 32 := Scalar.muli v8 c1_i32_1684
  let v1782 : BitVec 32 := Scalar.addi v1780 v1781
  v1782.toNat
def k0_dev44 (d0 : Dev nD) : Nat :=
  let c0_i32_1771 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1770 : BitVec 32 := 8#32
  let v1875 : BitVec 32 := Scalar.muli v2 c8_i32_1770
  let v1876 : BitVec 32 := Scalar.addi c0_i32_1771 v1875
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1772 : BitVec 32 := 4#32
  let v1877 : BitVec 32 := Scalar.muli v10 c4_i32_1772
  let v1878 : BitVec 32 := Scalar.addi v1876 v1877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1773 : BitVec 32 := 1#32
  let v1879 : BitVec 32 := Scalar.muli v8 c1_i32_1773
  let v1880 : BitVec 32 := Scalar.addi v1878 v1879
  v1880.toNat
def k0_dev45 (d0 : Dev nD) : Nat :=
  let c0_i32_1785 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1784 : BitVec 32 := 8#32
  let v1887 : BitVec 32 := Scalar.muli v9 c8_i32_1784
  let v1888 : BitVec 32 := Scalar.addi c0_i32_1785 v1887
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1786 : BitVec 32 := 4#32
  let v1889 : BitVec 32 := Scalar.muli v5 c4_i32_1786
  let v1890 : BitVec 32 := Scalar.addi v1888 v1889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1787 : BitVec 32 := 1#32
  let v1891 : BitVec 32 := Scalar.muli v8 c1_i32_1787
  let v1892 : BitVec 32 := Scalar.addi v1890 v1891
  v1892.toNat
def k0_dev46 (d0 : Dev nD) : Nat :=
  let c0_i32_1807 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1806 : BitVec 32 := 8#32
  let v1905 : BitVec 32 := Scalar.muli v2 c8_i32_1806
  let v1906 : BitVec 32 := Scalar.addi c0_i32_1807 v1905
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1808 : BitVec 32 := 4#32
  let v1907 : BitVec 32 := Scalar.muli v10 c4_i32_1808
  let v1908 : BitVec 32 := Scalar.addi v1906 v1907
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1809 : BitVec 32 := 1#32
  let v1909 : BitVec 32 := Scalar.muli v8 c1_i32_1809
  let v1910 : BitVec 32 := Scalar.addi v1908 v1909
  v1910.toNat
def k0_dev47 (d0 : Dev nD) : Nat :=
  let c0_i32_1847 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1846 : BitVec 32 := 8#32
  let v1945 : BitVec 32 := Scalar.muli v9 c8_i32_1846
  let v1946 : BitVec 32 := Scalar.addi c0_i32_1847 v1945
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1848 : BitVec 32 := 4#32
  let v1947 : BitVec 32 := Scalar.muli v5 c4_i32_1848
  let v1948 : BitVec 32 := Scalar.addi v1946 v1947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1849 : BitVec 32 := 1#32
  let v1949 : BitVec 32 := Scalar.muli v8 c1_i32_1849
  let v1950 : BitVec 32 := Scalar.addi v1948 v1949
  v1950.toNat
def k0_dev48 (d0 : Dev nD) : Nat :=
  let c0_i32_1936 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1935 : BitVec 32 := 8#32
  let v2043 : BitVec 32 := Scalar.muli v2 c8_i32_1935
  let v2044 : BitVec 32 := Scalar.addi c0_i32_1936 v2043
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1937 : BitVec 32 := 4#32
  let v2045 : BitVec 32 := Scalar.muli v10 c4_i32_1937
  let v2046 : BitVec 32 := Scalar.addi v2044 v2045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1938 : BitVec 32 := 1#32
  let v2047 : BitVec 32 := Scalar.muli v8 c1_i32_1938
  let v2048 : BitVec 32 := Scalar.addi v2046 v2047
  v2048.toNat
def k0_dev49 (d0 : Dev nD) : Nat :=
  let c0_i32_1950 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1949 : BitVec 32 := 8#32
  let v2055 : BitVec 32 := Scalar.muli v9 c8_i32_1949
  let v2056 : BitVec 32 := Scalar.addi c0_i32_1950 v2055
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1951 : BitVec 32 := 4#32
  let v2057 : BitVec 32 := Scalar.muli v5 c4_i32_1951
  let v2058 : BitVec 32 := Scalar.addi v2056 v2057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1952 : BitVec 32 := 1#32
  let v2059 : BitVec 32 := Scalar.muli v8 c1_i32_1952
  let v2060 : BitVec 32 := Scalar.addi v2058 v2059
  v2060.toNat
def k0_dev50 (d0 : Dev nD) : Nat :=
  let c0_i32_1972 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1971 : BitVec 32 := 8#32
  let v2073 : BitVec 32 := Scalar.muli v2 c8_i32_1971
  let v2074 : BitVec 32 := Scalar.addi c0_i32_1972 v2073
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1973 : BitVec 32 := 4#32
  let v2075 : BitVec 32 := Scalar.muli v10 c4_i32_1973
  let v2076 : BitVec 32 := Scalar.addi v2074 v2075
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1974 : BitVec 32 := 1#32
  let v2077 : BitVec 32 := Scalar.muli v8 c1_i32_1974
  let v2078 : BitVec 32 := Scalar.addi v2076 v2077
  v2078.toNat
def k0_dev51 (d0 : Dev nD) : Nat :=
  let c0_i32_2012 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2011 : BitVec 32 := 8#32
  let v2113 : BitVec 32 := Scalar.muli v9 c8_i32_2011
  let v2114 : BitVec 32 := Scalar.addi c0_i32_2012 v2113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2013 : BitVec 32 := 4#32
  let v2115 : BitVec 32 := Scalar.muli v5 c4_i32_2013
  let v2116 : BitVec 32 := Scalar.addi v2114 v2115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2014 : BitVec 32 := 1#32
  let v2117 : BitVec 32 := Scalar.muli v8 c1_i32_2014
  let v2118 : BitVec 32 := Scalar.addi v2116 v2117
  v2118.toNat
def k0_dev52 (d0 : Dev nD) : Nat :=
  let c0_i32_2101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2100 : BitVec 32 := 8#32
  let v2211 : BitVec 32 := Scalar.muli v2 c8_i32_2100
  let v2212 : BitVec 32 := Scalar.addi c0_i32_2101 v2211
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2102 : BitVec 32 := 4#32
  let v2213 : BitVec 32 := Scalar.muli v10 c4_i32_2102
  let v2214 : BitVec 32 := Scalar.addi v2212 v2213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2103 : BitVec 32 := 1#32
  let v2215 : BitVec 32 := Scalar.muli v8 c1_i32_2103
  let v2216 : BitVec 32 := Scalar.addi v2214 v2215
  v2216.toNat
def k0_dev53 (d0 : Dev nD) : Nat :=
  let c0_i32_2115 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2114 : BitVec 32 := 8#32
  let v2223 : BitVec 32 := Scalar.muli v9 c8_i32_2114
  let v2224 : BitVec 32 := Scalar.addi c0_i32_2115 v2223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2116 : BitVec 32 := 4#32
  let v2225 : BitVec 32 := Scalar.muli v5 c4_i32_2116
  let v2226 : BitVec 32 := Scalar.addi v2224 v2225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2117 : BitVec 32 := 1#32
  let v2227 : BitVec 32 := Scalar.muli v8 c1_i32_2117
  let v2228 : BitVec 32 := Scalar.addi v2226 v2227
  v2228.toNat
def k0_dev54 (d0 : Dev nD) : Nat :=
  let c0_i32_2137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2136 : BitVec 32 := 8#32
  let v2241 : BitVec 32 := Scalar.muli v2 c8_i32_2136
  let v2242 : BitVec 32 := Scalar.addi c0_i32_2137 v2241
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2138 : BitVec 32 := 4#32
  let v2243 : BitVec 32 := Scalar.muli v10 c4_i32_2138
  let v2244 : BitVec 32 := Scalar.addi v2242 v2243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2139 : BitVec 32 := 1#32
  let v2245 : BitVec 32 := Scalar.muli v8 c1_i32_2139
  let v2246 : BitVec 32 := Scalar.addi v2244 v2245
  v2246.toNat
def k0_dev55 (d0 : Dev nD) : Nat :=
  let c0_i32_2177 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2176 : BitVec 32 := 8#32
  let v2281 : BitVec 32 := Scalar.muli v9 c8_i32_2176
  let v2282 : BitVec 32 := Scalar.addi c0_i32_2177 v2281
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2178 : BitVec 32 := 4#32
  let v2283 : BitVec 32 := Scalar.muli v5 c4_i32_2178
  let v2284 : BitVec 32 := Scalar.addi v2282 v2283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2179 : BitVec 32 := 1#32
  let v2285 : BitVec 32 := Scalar.muli v8 c1_i32_2179
  let v2286 : BitVec 32 := Scalar.addi v2284 v2285
  v2286.toNat
def k0_dev56 (d0 : Dev nD) : Nat :=
  let c0_i32_2266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2265 : BitVec 32 := 8#32
  let v2379 : BitVec 32 := Scalar.muli v2 c8_i32_2265
  let v2380 : BitVec 32 := Scalar.addi c0_i32_2266 v2379
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2267 : BitVec 32 := 4#32
  let v2381 : BitVec 32 := Scalar.muli v10 c4_i32_2267
  let v2382 : BitVec 32 := Scalar.addi v2380 v2381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2268 : BitVec 32 := 1#32
  let v2383 : BitVec 32 := Scalar.muli v8 c1_i32_2268
  let v2384 : BitVec 32 := Scalar.addi v2382 v2383
  v2384.toNat
def k0_dev57 (d0 : Dev nD) : Nat :=
  let c0_i32_2280 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2279 : BitVec 32 := 8#32
  let v2391 : BitVec 32 := Scalar.muli v9 c8_i32_2279
  let v2392 : BitVec 32 := Scalar.addi c0_i32_2280 v2391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2281 : BitVec 32 := 4#32
  let v2393 : BitVec 32 := Scalar.muli v5 c4_i32_2281
  let v2394 : BitVec 32 := Scalar.addi v2392 v2393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2282 : BitVec 32 := 1#32
  let v2395 : BitVec 32 := Scalar.muli v8 c1_i32_2282
  let v2396 : BitVec 32 := Scalar.addi v2394 v2395
  v2396.toNat
def k0_dev58 (d0 : Dev nD) : Nat :=
  let c0_i32_2302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2301 : BitVec 32 := 8#32
  let v2409 : BitVec 32 := Scalar.muli v2 c8_i32_2301
  let v2410 : BitVec 32 := Scalar.addi c0_i32_2302 v2409
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2303 : BitVec 32 := 4#32
  let v2411 : BitVec 32 := Scalar.muli v10 c4_i32_2303
  let v2412 : BitVec 32 := Scalar.addi v2410 v2411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2304 : BitVec 32 := 1#32
  let v2413 : BitVec 32 := Scalar.muli v8 c1_i32_2304
  let v2414 : BitVec 32 := Scalar.addi v2412 v2413
  v2414.toNat
def k0_dev59 (d0 : Dev nD) : Nat :=
  let c0_i32_2342 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2341 : BitVec 32 := 8#32
  let v2449 : BitVec 32 := Scalar.muli v9 c8_i32_2341
  let v2450 : BitVec 32 := Scalar.addi c0_i32_2342 v2449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2343 : BitVec 32 := 4#32
  let v2451 : BitVec 32 := Scalar.muli v5 c4_i32_2343
  let v2452 : BitVec 32 := Scalar.addi v2450 v2451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2344 : BitVec 32 := 1#32
  let v2453 : BitVec 32 := Scalar.muli v8 c1_i32_2344
  let v2454 : BitVec 32 := Scalar.addi v2452 v2453
  v2454.toNat
def k0_dev60 (d0 : Dev nD) : Nat :=
  let c0_i32_2431 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2430 : BitVec 32 := 8#32
  let v2547 : BitVec 32 := Scalar.muli v2 c8_i32_2430
  let v2548 : BitVec 32 := Scalar.addi c0_i32_2431 v2547
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2432 : BitVec 32 := 4#32
  let v2549 : BitVec 32 := Scalar.muli v10 c4_i32_2432
  let v2550 : BitVec 32 := Scalar.addi v2548 v2549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2433 : BitVec 32 := 1#32
  let v2551 : BitVec 32 := Scalar.muli v8 c1_i32_2433
  let v2552 : BitVec 32 := Scalar.addi v2550 v2551
  v2552.toNat
def k0_dev61 (d0 : Dev nD) : Nat :=
  let c0_i32_2445 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2444 : BitVec 32 := 8#32
  let v2559 : BitVec 32 := Scalar.muli v9 c8_i32_2444
  let v2560 : BitVec 32 := Scalar.addi c0_i32_2445 v2559
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2446 : BitVec 32 := 4#32
  let v2561 : BitVec 32 := Scalar.muli v5 c4_i32_2446
  let v2562 : BitVec 32 := Scalar.addi v2560 v2561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2447 : BitVec 32 := 1#32
  let v2563 : BitVec 32 := Scalar.muli v8 c1_i32_2447
  let v2564 : BitVec 32 := Scalar.addi v2562 v2563
  v2564.toNat
def k0_dev62 (d0 : Dev nD) : Nat :=
  let c0_i32_2467 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2466 : BitVec 32 := 8#32
  let v2577 : BitVec 32 := Scalar.muli v2 c8_i32_2466
  let v2578 : BitVec 32 := Scalar.addi c0_i32_2467 v2577
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2468 : BitVec 32 := 4#32
  let v2579 : BitVec 32 := Scalar.muli v10 c4_i32_2468
  let v2580 : BitVec 32 := Scalar.addi v2578 v2579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2469 : BitVec 32 := 1#32
  let v2581 : BitVec 32 := Scalar.muli v8 c1_i32_2469
  let v2582 : BitVec 32 := Scalar.addi v2580 v2581
  v2582.toNat
def k0_dev63 (d0 : Dev nD) : Nat :=
  let c0_i32_2507 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2506 : BitVec 32 := 8#32
  let v2617 : BitVec 32 := Scalar.muli v9 c8_i32_2506
  let v2618 : BitVec 32 := Scalar.addi c0_i32_2507 v2617
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2508 : BitVec 32 := 4#32
  let v2619 : BitVec 32 := Scalar.muli v5 c4_i32_2508
  let v2620 : BitVec 32 := Scalar.addi v2618 v2619
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2509 : BitVec 32 := 1#32
  let v2621 : BitVec 32 := Scalar.muli v8 c1_i32_2509
  let v2622 : BitVec 32 := Scalar.addi v2620 v2621
  v2622.toNat
def k0_dev64 (d0 : Dev nD) : Nat :=
  let c0_i32_2596 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2595 : BitVec 32 := 8#32
  let v2715 : BitVec 32 := Scalar.muli v2 c8_i32_2595
  let v2716 : BitVec 32 := Scalar.addi c0_i32_2596 v2715
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2597 : BitVec 32 := 4#32
  let v2717 : BitVec 32 := Scalar.muli v10 c4_i32_2597
  let v2718 : BitVec 32 := Scalar.addi v2716 v2717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2598 : BitVec 32 := 1#32
  let v2719 : BitVec 32 := Scalar.muli v8 c1_i32_2598
  let v2720 : BitVec 32 := Scalar.addi v2718 v2719
  v2720.toNat
def k0_dev65 (d0 : Dev nD) : Nat :=
  let c0_i32_2610 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2609 : BitVec 32 := 8#32
  let v2727 : BitVec 32 := Scalar.muli v9 c8_i32_2609
  let v2728 : BitVec 32 := Scalar.addi c0_i32_2610 v2727
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2611 : BitVec 32 := 4#32
  let v2729 : BitVec 32 := Scalar.muli v5 c4_i32_2611
  let v2730 : BitVec 32 := Scalar.addi v2728 v2729
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2612 : BitVec 32 := 1#32
  let v2731 : BitVec 32 := Scalar.muli v8 c1_i32_2612
  let v2732 : BitVec 32 := Scalar.addi v2730 v2731
  v2732.toNat
def k0_dev66 (d0 : Dev nD) : Nat :=
  let c0_i32_2632 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2631 : BitVec 32 := 8#32
  let v2745 : BitVec 32 := Scalar.muli v2 c8_i32_2631
  let v2746 : BitVec 32 := Scalar.addi c0_i32_2632 v2745
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2633 : BitVec 32 := 4#32
  let v2747 : BitVec 32 := Scalar.muli v10 c4_i32_2633
  let v2748 : BitVec 32 := Scalar.addi v2746 v2747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2634 : BitVec 32 := 1#32
  let v2749 : BitVec 32 := Scalar.muli v8 c1_i32_2634
  let v2750 : BitVec 32 := Scalar.addi v2748 v2749
  v2750.toNat
def k0_dev67 (d0 : Dev nD) : Nat :=
  let c0_i32_2672 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2671 : BitVec 32 := 8#32
  let v2785 : BitVec 32 := Scalar.muli v9 c8_i32_2671
  let v2786 : BitVec 32 := Scalar.addi c0_i32_2672 v2785
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2673 : BitVec 32 := 4#32
  let v2787 : BitVec 32 := Scalar.muli v5 c4_i32_2673
  let v2788 : BitVec 32 := Scalar.addi v2786 v2787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2674 : BitVec 32 := 1#32
  let v2789 : BitVec 32 := Scalar.muli v8 c1_i32_2674
  let v2790 : BitVec 32 := Scalar.addi v2788 v2789
  v2790.toNat
def k0_dev68 (d0 : Dev nD) : Nat :=
  let c0_i32_2761 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2760 : BitVec 32 := 8#32
  let v2883 : BitVec 32 := Scalar.muli v2 c8_i32_2760
  let v2884 : BitVec 32 := Scalar.addi c0_i32_2761 v2883
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2762 : BitVec 32 := 4#32
  let v2885 : BitVec 32 := Scalar.muli v10 c4_i32_2762
  let v2886 : BitVec 32 := Scalar.addi v2884 v2885
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2763 : BitVec 32 := 1#32
  let v2887 : BitVec 32 := Scalar.muli v8 c1_i32_2763
  let v2888 : BitVec 32 := Scalar.addi v2886 v2887
  v2888.toNat
def k0_dev69 (d0 : Dev nD) : Nat :=
  let c0_i32_2775 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2774 : BitVec 32 := 8#32
  let v2895 : BitVec 32 := Scalar.muli v9 c8_i32_2774
  let v2896 : BitVec 32 := Scalar.addi c0_i32_2775 v2895
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2776 : BitVec 32 := 4#32
  let v2897 : BitVec 32 := Scalar.muli v5 c4_i32_2776
  let v2898 : BitVec 32 := Scalar.addi v2896 v2897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2777 : BitVec 32 := 1#32
  let v2899 : BitVec 32 := Scalar.muli v8 c1_i32_2777
  let v2900 : BitVec 32 := Scalar.addi v2898 v2899
  v2900.toNat
def k0_dev70 (d0 : Dev nD) : Nat :=
  let c0_i32_2797 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2796 : BitVec 32 := 8#32
  let v2913 : BitVec 32 := Scalar.muli v2 c8_i32_2796
  let v2914 : BitVec 32 := Scalar.addi c0_i32_2797 v2913
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2798 : BitVec 32 := 4#32
  let v2915 : BitVec 32 := Scalar.muli v10 c4_i32_2798
  let v2916 : BitVec 32 := Scalar.addi v2914 v2915
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2799 : BitVec 32 := 1#32
  let v2917 : BitVec 32 := Scalar.muli v8 c1_i32_2799
  let v2918 : BitVec 32 := Scalar.addi v2916 v2917
  v2918.toNat
def k0_dev71 (d0 : Dev nD) : Nat :=
  let c0_i32_2837 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2836 : BitVec 32 := 8#32
  let v2953 : BitVec 32 := Scalar.muli v9 c8_i32_2836
  let v2954 : BitVec 32 := Scalar.addi c0_i32_2837 v2953
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2838 : BitVec 32 := 4#32
  let v2955 : BitVec 32 := Scalar.muli v5 c4_i32_2838
  let v2956 : BitVec 32 := Scalar.addi v2954 v2955
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2839 : BitVec 32 := 1#32
  let v2957 : BitVec 32 := Scalar.muli v8 c1_i32_2839
  let v2958 : BitVec 32 := Scalar.addi v2956 v2957
  v2958.toNat
def k0_dev72 (d0 : Dev nD) : Nat :=
  let c0_i32_2926 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2925 : BitVec 32 := 8#32
  let v3051 : BitVec 32 := Scalar.muli v2 c8_i32_2925
  let v3052 : BitVec 32 := Scalar.addi c0_i32_2926 v3051
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2927 : BitVec 32 := 4#32
  let v3053 : BitVec 32 := Scalar.muli v10 c4_i32_2927
  let v3054 : BitVec 32 := Scalar.addi v3052 v3053
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2928 : BitVec 32 := 1#32
  let v3055 : BitVec 32 := Scalar.muli v8 c1_i32_2928
  let v3056 : BitVec 32 := Scalar.addi v3054 v3055
  v3056.toNat
def k0_dev73 (d0 : Dev nD) : Nat :=
  let c0_i32_2940 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2939 : BitVec 32 := 8#32
  let v3063 : BitVec 32 := Scalar.muli v9 c8_i32_2939
  let v3064 : BitVec 32 := Scalar.addi c0_i32_2940 v3063
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2941 : BitVec 32 := 4#32
  let v3065 : BitVec 32 := Scalar.muli v5 c4_i32_2941
  let v3066 : BitVec 32 := Scalar.addi v3064 v3065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2942 : BitVec 32 := 1#32
  let v3067 : BitVec 32 := Scalar.muli v8 c1_i32_2942
  let v3068 : BitVec 32 := Scalar.addi v3066 v3067
  v3068.toNat
def k0_dev74 (d0 : Dev nD) : Nat :=
  let c0_i32_2962 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2961 : BitVec 32 := 8#32
  let v3081 : BitVec 32 := Scalar.muli v2 c8_i32_2961
  let v3082 : BitVec 32 := Scalar.addi c0_i32_2962 v3081
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2963 : BitVec 32 := 4#32
  let v3083 : BitVec 32 := Scalar.muli v10 c4_i32_2963
  let v3084 : BitVec 32 := Scalar.addi v3082 v3083
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2964 : BitVec 32 := 1#32
  let v3085 : BitVec 32 := Scalar.muli v8 c1_i32_2964
  let v3086 : BitVec 32 := Scalar.addi v3084 v3085
  v3086.toNat
def k0_dev75 (d0 : Dev nD) : Nat :=
  let c0_i32_3002 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3001 : BitVec 32 := 8#32
  let v3121 : BitVec 32 := Scalar.muli v9 c8_i32_3001
  let v3122 : BitVec 32 := Scalar.addi c0_i32_3002 v3121
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3003 : BitVec 32 := 4#32
  let v3123 : BitVec 32 := Scalar.muli v5 c4_i32_3003
  let v3124 : BitVec 32 := Scalar.addi v3122 v3123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3004 : BitVec 32 := 1#32
  let v3125 : BitVec 32 := Scalar.muli v8 c1_i32_3004
  let v3126 : BitVec 32 := Scalar.addi v3124 v3125
  v3126.toNat
def k0_dev76 (d0 : Dev nD) : Nat :=
  let c0_i32_3091 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3090 : BitVec 32 := 8#32
  let v3219 : BitVec 32 := Scalar.muli v2 c8_i32_3090
  let v3220 : BitVec 32 := Scalar.addi c0_i32_3091 v3219
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3092 : BitVec 32 := 4#32
  let v3221 : BitVec 32 := Scalar.muli v10 c4_i32_3092
  let v3222 : BitVec 32 := Scalar.addi v3220 v3221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3093 : BitVec 32 := 1#32
  let v3223 : BitVec 32 := Scalar.muli v8 c1_i32_3093
  let v3224 : BitVec 32 := Scalar.addi v3222 v3223
  v3224.toNat
def k0_dev77 (d0 : Dev nD) : Nat :=
  let c0_i32_3105 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3104 : BitVec 32 := 8#32
  let v3231 : BitVec 32 := Scalar.muli v9 c8_i32_3104
  let v3232 : BitVec 32 := Scalar.addi c0_i32_3105 v3231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3106 : BitVec 32 := 4#32
  let v3233 : BitVec 32 := Scalar.muli v5 c4_i32_3106
  let v3234 : BitVec 32 := Scalar.addi v3232 v3233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3107 : BitVec 32 := 1#32
  let v3235 : BitVec 32 := Scalar.muli v8 c1_i32_3107
  let v3236 : BitVec 32 := Scalar.addi v3234 v3235
  v3236.toNat
def k0_dev78 (d0 : Dev nD) : Nat :=
  let c0_i32_3127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3126 : BitVec 32 := 8#32
  let v3249 : BitVec 32 := Scalar.muli v2 c8_i32_3126
  let v3250 : BitVec 32 := Scalar.addi c0_i32_3127 v3249
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3128 : BitVec 32 := 4#32
  let v3251 : BitVec 32 := Scalar.muli v10 c4_i32_3128
  let v3252 : BitVec 32 := Scalar.addi v3250 v3251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3129 : BitVec 32 := 1#32
  let v3253 : BitVec 32 := Scalar.muli v8 c1_i32_3129
  let v3254 : BitVec 32 := Scalar.addi v3252 v3253
  v3254.toNat
def k0_dev79 (d0 : Dev nD) : Nat :=
  let c0_i32_3167 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3166 : BitVec 32 := 8#32
  let v3289 : BitVec 32 := Scalar.muli v9 c8_i32_3166
  let v3290 : BitVec 32 := Scalar.addi c0_i32_3167 v3289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3168 : BitVec 32 := 4#32
  let v3291 : BitVec 32 := Scalar.muli v5 c4_i32_3168
  let v3292 : BitVec 32 := Scalar.addi v3290 v3291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3169 : BitVec 32 := 1#32
  let v3293 : BitVec 32 := Scalar.muli v8 c1_i32_3169
  let v3294 : BitVec 32 := Scalar.addi v3292 v3293
  v3294.toNat
def k0_dev80 (d0 : Dev nD) : Nat :=
  let c0_i32_3256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3255 : BitVec 32 := 8#32
  let v3387 : BitVec 32 := Scalar.muli v2 c8_i32_3255
  let v3388 : BitVec 32 := Scalar.addi c0_i32_3256 v3387
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3257 : BitVec 32 := 4#32
  let v3389 : BitVec 32 := Scalar.muli v10 c4_i32_3257
  let v3390 : BitVec 32 := Scalar.addi v3388 v3389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3258 : BitVec 32 := 1#32
  let v3391 : BitVec 32 := Scalar.muli v8 c1_i32_3258
  let v3392 : BitVec 32 := Scalar.addi v3390 v3391
  v3392.toNat
def k0_dev81 (d0 : Dev nD) : Nat :=
  let c0_i32_3270 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3269 : BitVec 32 := 8#32
  let v3399 : BitVec 32 := Scalar.muli v9 c8_i32_3269
  let v3400 : BitVec 32 := Scalar.addi c0_i32_3270 v3399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3271 : BitVec 32 := 4#32
  let v3401 : BitVec 32 := Scalar.muli v5 c4_i32_3271
  let v3402 : BitVec 32 := Scalar.addi v3400 v3401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3272 : BitVec 32 := 1#32
  let v3403 : BitVec 32 := Scalar.muli v8 c1_i32_3272
  let v3404 : BitVec 32 := Scalar.addi v3402 v3403
  v3404.toNat
def k0_dev82 (d0 : Dev nD) : Nat :=
  let c0_i32_3292 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3291 : BitVec 32 := 8#32
  let v3417 : BitVec 32 := Scalar.muli v2 c8_i32_3291
  let v3418 : BitVec 32 := Scalar.addi c0_i32_3292 v3417
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3293 : BitVec 32 := 4#32
  let v3419 : BitVec 32 := Scalar.muli v10 c4_i32_3293
  let v3420 : BitVec 32 := Scalar.addi v3418 v3419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3294 : BitVec 32 := 1#32
  let v3421 : BitVec 32 := Scalar.muli v8 c1_i32_3294
  let v3422 : BitVec 32 := Scalar.addi v3420 v3421
  v3422.toNat
def k0_dev83 (d0 : Dev nD) : Nat :=
  let c0_i32_3332 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3331 : BitVec 32 := 8#32
  let v3457 : BitVec 32 := Scalar.muli v9 c8_i32_3331
  let v3458 : BitVec 32 := Scalar.addi c0_i32_3332 v3457
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3333 : BitVec 32 := 4#32
  let v3459 : BitVec 32 := Scalar.muli v5 c4_i32_3333
  let v3460 : BitVec 32 := Scalar.addi v3458 v3459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3334 : BitVec 32 := 1#32
  let v3461 : BitVec 32 := Scalar.muli v8 c1_i32_3334
  let v3462 : BitVec 32 := Scalar.addi v3460 v3461
  v3462.toNat
def k0_dev84 (d0 : Dev nD) : Nat :=
  let c0_i32_3421 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3420 : BitVec 32 := 8#32
  let v3555 : BitVec 32 := Scalar.muli v2 c8_i32_3420
  let v3556 : BitVec 32 := Scalar.addi c0_i32_3421 v3555
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3422 : BitVec 32 := 4#32
  let v3557 : BitVec 32 := Scalar.muli v10 c4_i32_3422
  let v3558 : BitVec 32 := Scalar.addi v3556 v3557
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3423 : BitVec 32 := 1#32
  let v3559 : BitVec 32 := Scalar.muli v8 c1_i32_3423
  let v3560 : BitVec 32 := Scalar.addi v3558 v3559
  v3560.toNat
def k0_dev85 (d0 : Dev nD) : Nat :=
  let c0_i32_3435 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3434 : BitVec 32 := 8#32
  let v3567 : BitVec 32 := Scalar.muli v9 c8_i32_3434
  let v3568 : BitVec 32 := Scalar.addi c0_i32_3435 v3567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3436 : BitVec 32 := 4#32
  let v3569 : BitVec 32 := Scalar.muli v5 c4_i32_3436
  let v3570 : BitVec 32 := Scalar.addi v3568 v3569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3437 : BitVec 32 := 1#32
  let v3571 : BitVec 32 := Scalar.muli v8 c1_i32_3437
  let v3572 : BitVec 32 := Scalar.addi v3570 v3571
  v3572.toNat
def k0_dev86 (d0 : Dev nD) : Nat :=
  let c0_i32_3457 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3456 : BitVec 32 := 8#32
  let v3585 : BitVec 32 := Scalar.muli v2 c8_i32_3456
  let v3586 : BitVec 32 := Scalar.addi c0_i32_3457 v3585
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3458 : BitVec 32 := 4#32
  let v3587 : BitVec 32 := Scalar.muli v10 c4_i32_3458
  let v3588 : BitVec 32 := Scalar.addi v3586 v3587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3459 : BitVec 32 := 1#32
  let v3589 : BitVec 32 := Scalar.muli v8 c1_i32_3459
  let v3590 : BitVec 32 := Scalar.addi v3588 v3589
  v3590.toNat
def k0_dev87 (d0 : Dev nD) : Nat :=
  let c0_i32_3497 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3496 : BitVec 32 := 8#32
  let v3625 : BitVec 32 := Scalar.muli v9 c8_i32_3496
  let v3626 : BitVec 32 := Scalar.addi c0_i32_3497 v3625
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3498 : BitVec 32 := 4#32
  let v3627 : BitVec 32 := Scalar.muli v5 c4_i32_3498
  let v3628 : BitVec 32 := Scalar.addi v3626 v3627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3499 : BitVec 32 := 1#32
  let v3629 : BitVec 32 := Scalar.muli v8 c1_i32_3499
  let v3630 : BitVec 32 := Scalar.addi v3628 v3629
  v3630.toNat
def k0_dev88 (d0 : Dev nD) : Nat :=
  let c0_i32_3586 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3585 : BitVec 32 := 8#32
  let v3723 : BitVec 32 := Scalar.muli v2 c8_i32_3585
  let v3724 : BitVec 32 := Scalar.addi c0_i32_3586 v3723
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3587 : BitVec 32 := 4#32
  let v3725 : BitVec 32 := Scalar.muli v10 c4_i32_3587
  let v3726 : BitVec 32 := Scalar.addi v3724 v3725
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3588 : BitVec 32 := 1#32
  let v3727 : BitVec 32 := Scalar.muli v8 c1_i32_3588
  let v3728 : BitVec 32 := Scalar.addi v3726 v3727
  v3728.toNat
def k0_dev89 (d0 : Dev nD) : Nat :=
  let c0_i32_3600 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3599 : BitVec 32 := 8#32
  let v3735 : BitVec 32 := Scalar.muli v9 c8_i32_3599
  let v3736 : BitVec 32 := Scalar.addi c0_i32_3600 v3735
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3601 : BitVec 32 := 4#32
  let v3737 : BitVec 32 := Scalar.muli v5 c4_i32_3601
  let v3738 : BitVec 32 := Scalar.addi v3736 v3737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3602 : BitVec 32 := 1#32
  let v3739 : BitVec 32 := Scalar.muli v8 c1_i32_3602
  let v3740 : BitVec 32 := Scalar.addi v3738 v3739
  v3740.toNat
def k0_dev90 (d0 : Dev nD) : Nat :=
  let c0_i32_3622 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3621 : BitVec 32 := 8#32
  let v3753 : BitVec 32 := Scalar.muli v2 c8_i32_3621
  let v3754 : BitVec 32 := Scalar.addi c0_i32_3622 v3753
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3623 : BitVec 32 := 4#32
  let v3755 : BitVec 32 := Scalar.muli v10 c4_i32_3623
  let v3756 : BitVec 32 := Scalar.addi v3754 v3755
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3624 : BitVec 32 := 1#32
  let v3757 : BitVec 32 := Scalar.muli v8 c1_i32_3624
  let v3758 : BitVec 32 := Scalar.addi v3756 v3757
  v3758.toNat
def k0_dev91 (d0 : Dev nD) : Nat :=
  let c0_i32_3662 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3661 : BitVec 32 := 8#32
  let v3793 : BitVec 32 := Scalar.muli v9 c8_i32_3661
  let v3794 : BitVec 32 := Scalar.addi c0_i32_3662 v3793
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3663 : BitVec 32 := 4#32
  let v3795 : BitVec 32 := Scalar.muli v5 c4_i32_3663
  let v3796 : BitVec 32 := Scalar.addi v3794 v3795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3664 : BitVec 32 := 1#32
  let v3797 : BitVec 32 := Scalar.muli v8 c1_i32_3664
  let v3798 : BitVec 32 := Scalar.addi v3796 v3797
  v3798.toNat
def k0_dev92 (d0 : Dev nD) : Nat :=
  let c0_i32_3751 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3750 : BitVec 32 := 8#32
  let v3891 : BitVec 32 := Scalar.muli v2 c8_i32_3750
  let v3892 : BitVec 32 := Scalar.addi c0_i32_3751 v3891
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3752 : BitVec 32 := 4#32
  let v3893 : BitVec 32 := Scalar.muli v10 c4_i32_3752
  let v3894 : BitVec 32 := Scalar.addi v3892 v3893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3753 : BitVec 32 := 1#32
  let v3895 : BitVec 32 := Scalar.muli v8 c1_i32_3753
  let v3896 : BitVec 32 := Scalar.addi v3894 v3895
  v3896.toNat
def k0_dev93 (d0 : Dev nD) : Nat :=
  let c0_i32_3765 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3764 : BitVec 32 := 8#32
  let v3903 : BitVec 32 := Scalar.muli v9 c8_i32_3764
  let v3904 : BitVec 32 := Scalar.addi c0_i32_3765 v3903
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3766 : BitVec 32 := 4#32
  let v3905 : BitVec 32 := Scalar.muli v5 c4_i32_3766
  let v3906 : BitVec 32 := Scalar.addi v3904 v3905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3767 : BitVec 32 := 1#32
  let v3907 : BitVec 32 := Scalar.muli v8 c1_i32_3767
  let v3908 : BitVec 32 := Scalar.addi v3906 v3907
  v3908.toNat
def k0_dev94 (d0 : Dev nD) : Nat :=
  let c0_i32_3787 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3786 : BitVec 32 := 8#32
  let v3921 : BitVec 32 := Scalar.muli v2 c8_i32_3786
  let v3922 : BitVec 32 := Scalar.addi c0_i32_3787 v3921
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3788 : BitVec 32 := 4#32
  let v3923 : BitVec 32 := Scalar.muli v10 c4_i32_3788
  let v3924 : BitVec 32 := Scalar.addi v3922 v3923
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3789 : BitVec 32 := 1#32
  let v3925 : BitVec 32 := Scalar.muli v8 c1_i32_3789
  let v3926 : BitVec 32 := Scalar.addi v3924 v3925
  v3926.toNat
def k0_dev95 (d0 : Dev nD) : Nat :=
  let c0_i32_3827 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3826 : BitVec 32 := 8#32
  let v3961 : BitVec 32 := Scalar.muli v9 c8_i32_3826
  let v3962 : BitVec 32 := Scalar.addi c0_i32_3827 v3961
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3828 : BitVec 32 := 4#32
  let v3963 : BitVec 32 := Scalar.muli v5 c4_i32_3828
  let v3964 : BitVec 32 := Scalar.addi v3962 v3963
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3829 : BitVec 32 := 1#32
  let v3965 : BitVec 32 := Scalar.muli v8 c1_i32_3829
  let v3966 : BitVec 32 := Scalar.addi v3964 v3965
  v3966.toNat
def k0_dev96 (d0 : Dev nD) : Nat :=
  let c0_i32_3916 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3915 : BitVec 32 := 8#32
  let v4059 : BitVec 32 := Scalar.muli v2 c8_i32_3915
  let v4060 : BitVec 32 := Scalar.addi c0_i32_3916 v4059
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3917 : BitVec 32 := 4#32
  let v4061 : BitVec 32 := Scalar.muli v10 c4_i32_3917
  let v4062 : BitVec 32 := Scalar.addi v4060 v4061
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3918 : BitVec 32 := 1#32
  let v4063 : BitVec 32 := Scalar.muli v8 c1_i32_3918
  let v4064 : BitVec 32 := Scalar.addi v4062 v4063
  v4064.toNat
def k0_dev97 (d0 : Dev nD) : Nat :=
  let c0_i32_3930 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3929 : BitVec 32 := 8#32
  let v4071 : BitVec 32 := Scalar.muli v9 c8_i32_3929
  let v4072 : BitVec 32 := Scalar.addi c0_i32_3930 v4071
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3931 : BitVec 32 := 4#32
  let v4073 : BitVec 32 := Scalar.muli v5 c4_i32_3931
  let v4074 : BitVec 32 := Scalar.addi v4072 v4073
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3932 : BitVec 32 := 1#32
  let v4075 : BitVec 32 := Scalar.muli v8 c1_i32_3932
  let v4076 : BitVec 32 := Scalar.addi v4074 v4075
  v4076.toNat
def k0_dev98 (d0 : Dev nD) : Nat :=
  let c0_i32_3952 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3951 : BitVec 32 := 8#32
  let v4089 : BitVec 32 := Scalar.muli v2 c8_i32_3951
  let v4090 : BitVec 32 := Scalar.addi c0_i32_3952 v4089
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_3953 : BitVec 32 := 4#32
  let v4091 : BitVec 32 := Scalar.muli v10 c4_i32_3953
  let v4092 : BitVec 32 := Scalar.addi v4090 v4091
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3954 : BitVec 32 := 1#32
  let v4093 : BitVec 32 := Scalar.muli v8 c1_i32_3954
  let v4094 : BitVec 32 := Scalar.addi v4092 v4093
  v4094.toNat
def k0_dev99 (d0 : Dev nD) : Nat :=
  let c0_i32_3992 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_3991 : BitVec 32 := 8#32
  let v4129 : BitVec 32 := Scalar.muli v9 c8_i32_3991
  let v4130 : BitVec 32 := Scalar.addi c0_i32_3992 v4129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3993 : BitVec 32 := 4#32
  let v4131 : BitVec 32 := Scalar.muli v5 c4_i32_3993
  let v4132 : BitVec 32 := Scalar.addi v4130 v4131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3994 : BitVec 32 := 1#32
  let v4133 : BitVec 32 := Scalar.muli v8 c1_i32_3994
  let v4134 : BitVec 32 := Scalar.addi v4132 v4133
  v4134.toNat
def k0_dev100 (d0 : Dev nD) : Nat :=
  let c0_i32_4081 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4080 : BitVec 32 := 8#32
  let v4227 : BitVec 32 := Scalar.muli v2 c8_i32_4080
  let v4228 : BitVec 32 := Scalar.addi c0_i32_4081 v4227
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4082 : BitVec 32 := 4#32
  let v4229 : BitVec 32 := Scalar.muli v10 c4_i32_4082
  let v4230 : BitVec 32 := Scalar.addi v4228 v4229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4083 : BitVec 32 := 1#32
  let v4231 : BitVec 32 := Scalar.muli v8 c1_i32_4083
  let v4232 : BitVec 32 := Scalar.addi v4230 v4231
  v4232.toNat
def k0_dev101 (d0 : Dev nD) : Nat :=
  let c0_i32_4095 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4094 : BitVec 32 := 8#32
  let v4239 : BitVec 32 := Scalar.muli v9 c8_i32_4094
  let v4240 : BitVec 32 := Scalar.addi c0_i32_4095 v4239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4096 : BitVec 32 := 4#32
  let v4241 : BitVec 32 := Scalar.muli v5 c4_i32_4096
  let v4242 : BitVec 32 := Scalar.addi v4240 v4241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4097 : BitVec 32 := 1#32
  let v4243 : BitVec 32 := Scalar.muli v8 c1_i32_4097
  let v4244 : BitVec 32 := Scalar.addi v4242 v4243
  v4244.toNat
def k0_dev102 (d0 : Dev nD) : Nat :=
  let c0_i32_4117 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4116 : BitVec 32 := 8#32
  let v4257 : BitVec 32 := Scalar.muli v2 c8_i32_4116
  let v4258 : BitVec 32 := Scalar.addi c0_i32_4117 v4257
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4118 : BitVec 32 := 4#32
  let v4259 : BitVec 32 := Scalar.muli v10 c4_i32_4118
  let v4260 : BitVec 32 := Scalar.addi v4258 v4259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4119 : BitVec 32 := 1#32
  let v4261 : BitVec 32 := Scalar.muli v8 c1_i32_4119
  let v4262 : BitVec 32 := Scalar.addi v4260 v4261
  v4262.toNat
def k0_dev103 (d0 : Dev nD) : Nat :=
  let c0_i32_4157 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4156 : BitVec 32 := 8#32
  let v4297 : BitVec 32 := Scalar.muli v9 c8_i32_4156
  let v4298 : BitVec 32 := Scalar.addi c0_i32_4157 v4297
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4158 : BitVec 32 := 4#32
  let v4299 : BitVec 32 := Scalar.muli v5 c4_i32_4158
  let v4300 : BitVec 32 := Scalar.addi v4298 v4299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4159 : BitVec 32 := 1#32
  let v4301 : BitVec 32 := Scalar.muli v8 c1_i32_4159
  let v4302 : BitVec 32 := Scalar.addi v4300 v4301
  v4302.toNat
def k0_dev104 (d0 : Dev nD) : Nat :=
  let c0_i32_4246 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4245 : BitVec 32 := 8#32
  let v4395 : BitVec 32 := Scalar.muli v2 c8_i32_4245
  let v4396 : BitVec 32 := Scalar.addi c0_i32_4246 v4395
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4247 : BitVec 32 := 4#32
  let v4397 : BitVec 32 := Scalar.muli v10 c4_i32_4247
  let v4398 : BitVec 32 := Scalar.addi v4396 v4397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4248 : BitVec 32 := 1#32
  let v4399 : BitVec 32 := Scalar.muli v8 c1_i32_4248
  let v4400 : BitVec 32 := Scalar.addi v4398 v4399
  v4400.toNat
def k0_dev105 (d0 : Dev nD) : Nat :=
  let c0_i32_4260 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4259 : BitVec 32 := 8#32
  let v4407 : BitVec 32 := Scalar.muli v9 c8_i32_4259
  let v4408 : BitVec 32 := Scalar.addi c0_i32_4260 v4407
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4261 : BitVec 32 := 4#32
  let v4409 : BitVec 32 := Scalar.muli v5 c4_i32_4261
  let v4410 : BitVec 32 := Scalar.addi v4408 v4409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4262 : BitVec 32 := 1#32
  let v4411 : BitVec 32 := Scalar.muli v8 c1_i32_4262
  let v4412 : BitVec 32 := Scalar.addi v4410 v4411
  v4412.toNat
def k0_dev106 (d0 : Dev nD) : Nat :=
  let c0_i32_4282 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4281 : BitVec 32 := 8#32
  let v4425 : BitVec 32 := Scalar.muli v2 c8_i32_4281
  let v4426 : BitVec 32 := Scalar.addi c0_i32_4282 v4425
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4283 : BitVec 32 := 4#32
  let v4427 : BitVec 32 := Scalar.muli v10 c4_i32_4283
  let v4428 : BitVec 32 := Scalar.addi v4426 v4427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4284 : BitVec 32 := 1#32
  let v4429 : BitVec 32 := Scalar.muli v8 c1_i32_4284
  let v4430 : BitVec 32 := Scalar.addi v4428 v4429
  v4430.toNat
def k0_dev107 (d0 : Dev nD) : Nat :=
  let c0_i32_4322 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4321 : BitVec 32 := 8#32
  let v4465 : BitVec 32 := Scalar.muli v9 c8_i32_4321
  let v4466 : BitVec 32 := Scalar.addi c0_i32_4322 v4465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4323 : BitVec 32 := 4#32
  let v4467 : BitVec 32 := Scalar.muli v5 c4_i32_4323
  let v4468 : BitVec 32 := Scalar.addi v4466 v4467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4324 : BitVec 32 := 1#32
  let v4469 : BitVec 32 := Scalar.muli v8 c1_i32_4324
  let v4470 : BitVec 32 := Scalar.addi v4468 v4469
  v4470.toNat
def k0_dev108 (d0 : Dev nD) : Nat :=
  let c0_i32_4411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4410 : BitVec 32 := 8#32
  let v4563 : BitVec 32 := Scalar.muli v2 c8_i32_4410
  let v4564 : BitVec 32 := Scalar.addi c0_i32_4411 v4563
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4412 : BitVec 32 := 4#32
  let v4565 : BitVec 32 := Scalar.muli v10 c4_i32_4412
  let v4566 : BitVec 32 := Scalar.addi v4564 v4565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4413 : BitVec 32 := 1#32
  let v4567 : BitVec 32 := Scalar.muli v8 c1_i32_4413
  let v4568 : BitVec 32 := Scalar.addi v4566 v4567
  v4568.toNat
def k0_dev109 (d0 : Dev nD) : Nat :=
  let c0_i32_4425 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4424 : BitVec 32 := 8#32
  let v4575 : BitVec 32 := Scalar.muli v9 c8_i32_4424
  let v4576 : BitVec 32 := Scalar.addi c0_i32_4425 v4575
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4426 : BitVec 32 := 4#32
  let v4577 : BitVec 32 := Scalar.muli v5 c4_i32_4426
  let v4578 : BitVec 32 := Scalar.addi v4576 v4577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4427 : BitVec 32 := 1#32
  let v4579 : BitVec 32 := Scalar.muli v8 c1_i32_4427
  let v4580 : BitVec 32 := Scalar.addi v4578 v4579
  v4580.toNat
def k0_dev110 (d0 : Dev nD) : Nat :=
  let c0_i32_4447 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4446 : BitVec 32 := 8#32
  let v4593 : BitVec 32 := Scalar.muli v2 c8_i32_4446
  let v4594 : BitVec 32 := Scalar.addi c0_i32_4447 v4593
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4448 : BitVec 32 := 4#32
  let v4595 : BitVec 32 := Scalar.muli v10 c4_i32_4448
  let v4596 : BitVec 32 := Scalar.addi v4594 v4595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4449 : BitVec 32 := 1#32
  let v4597 : BitVec 32 := Scalar.muli v8 c1_i32_4449
  let v4598 : BitVec 32 := Scalar.addi v4596 v4597
  v4598.toNat
def k0_dev111 (d0 : Dev nD) : Nat :=
  let c0_i32_4487 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4486 : BitVec 32 := 8#32
  let v4633 : BitVec 32 := Scalar.muli v9 c8_i32_4486
  let v4634 : BitVec 32 := Scalar.addi c0_i32_4487 v4633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4488 : BitVec 32 := 4#32
  let v4635 : BitVec 32 := Scalar.muli v5 c4_i32_4488
  let v4636 : BitVec 32 := Scalar.addi v4634 v4635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4489 : BitVec 32 := 1#32
  let v4637 : BitVec 32 := Scalar.muli v8 c1_i32_4489
  let v4638 : BitVec 32 := Scalar.addi v4636 v4637
  v4638.toNat
def k0_dev112 (d0 : Dev nD) : Nat :=
  let c0_i32_4576 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4575 : BitVec 32 := 8#32
  let v4731 : BitVec 32 := Scalar.muli v2 c8_i32_4575
  let v4732 : BitVec 32 := Scalar.addi c0_i32_4576 v4731
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4577 : BitVec 32 := 4#32
  let v4733 : BitVec 32 := Scalar.muli v10 c4_i32_4577
  let v4734 : BitVec 32 := Scalar.addi v4732 v4733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4578 : BitVec 32 := 1#32
  let v4735 : BitVec 32 := Scalar.muli v8 c1_i32_4578
  let v4736 : BitVec 32 := Scalar.addi v4734 v4735
  v4736.toNat
def k0_dev113 (d0 : Dev nD) : Nat :=
  let c0_i32_4590 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4589 : BitVec 32 := 8#32
  let v4743 : BitVec 32 := Scalar.muli v9 c8_i32_4589
  let v4744 : BitVec 32 := Scalar.addi c0_i32_4590 v4743
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4591 : BitVec 32 := 4#32
  let v4745 : BitVec 32 := Scalar.muli v5 c4_i32_4591
  let v4746 : BitVec 32 := Scalar.addi v4744 v4745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4592 : BitVec 32 := 1#32
  let v4747 : BitVec 32 := Scalar.muli v8 c1_i32_4592
  let v4748 : BitVec 32 := Scalar.addi v4746 v4747
  v4748.toNat
def k0_dev114 (d0 : Dev nD) : Nat :=
  let c0_i32_4612 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4611 : BitVec 32 := 8#32
  let v4761 : BitVec 32 := Scalar.muli v2 c8_i32_4611
  let v4762 : BitVec 32 := Scalar.addi c0_i32_4612 v4761
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4613 : BitVec 32 := 4#32
  let v4763 : BitVec 32 := Scalar.muli v10 c4_i32_4613
  let v4764 : BitVec 32 := Scalar.addi v4762 v4763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4614 : BitVec 32 := 1#32
  let v4765 : BitVec 32 := Scalar.muli v8 c1_i32_4614
  let v4766 : BitVec 32 := Scalar.addi v4764 v4765
  v4766.toNat
def k0_dev115 (d0 : Dev nD) : Nat :=
  let c0_i32_4652 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4651 : BitVec 32 := 8#32
  let v4801 : BitVec 32 := Scalar.muli v9 c8_i32_4651
  let v4802 : BitVec 32 := Scalar.addi c0_i32_4652 v4801
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4653 : BitVec 32 := 4#32
  let v4803 : BitVec 32 := Scalar.muli v5 c4_i32_4653
  let v4804 : BitVec 32 := Scalar.addi v4802 v4803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4654 : BitVec 32 := 1#32
  let v4805 : BitVec 32 := Scalar.muli v8 c1_i32_4654
  let v4806 : BitVec 32 := Scalar.addi v4804 v4805
  v4806.toNat
def k0_dev116 (d0 : Dev nD) : Nat :=
  let c0_i32_4741 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4740 : BitVec 32 := 8#32
  let v4899 : BitVec 32 := Scalar.muli v2 c8_i32_4740
  let v4900 : BitVec 32 := Scalar.addi c0_i32_4741 v4899
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4742 : BitVec 32 := 4#32
  let v4901 : BitVec 32 := Scalar.muli v10 c4_i32_4742
  let v4902 : BitVec 32 := Scalar.addi v4900 v4901
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4743 : BitVec 32 := 1#32
  let v4903 : BitVec 32 := Scalar.muli v8 c1_i32_4743
  let v4904 : BitVec 32 := Scalar.addi v4902 v4903
  v4904.toNat
def k0_dev117 (d0 : Dev nD) : Nat :=
  let c0_i32_4755 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4754 : BitVec 32 := 8#32
  let v4911 : BitVec 32 := Scalar.muli v9 c8_i32_4754
  let v4912 : BitVec 32 := Scalar.addi c0_i32_4755 v4911
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4756 : BitVec 32 := 4#32
  let v4913 : BitVec 32 := Scalar.muli v5 c4_i32_4756
  let v4914 : BitVec 32 := Scalar.addi v4912 v4913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4757 : BitVec 32 := 1#32
  let v4915 : BitVec 32 := Scalar.muli v8 c1_i32_4757
  let v4916 : BitVec 32 := Scalar.addi v4914 v4915
  v4916.toNat
def k0_dev118 (d0 : Dev nD) : Nat :=
  let c0_i32_4777 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4776 : BitVec 32 := 8#32
  let v4929 : BitVec 32 := Scalar.muli v2 c8_i32_4776
  let v4930 : BitVec 32 := Scalar.addi c0_i32_4777 v4929
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4778 : BitVec 32 := 4#32
  let v4931 : BitVec 32 := Scalar.muli v10 c4_i32_4778
  let v4932 : BitVec 32 := Scalar.addi v4930 v4931
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4779 : BitVec 32 := 1#32
  let v4933 : BitVec 32 := Scalar.muli v8 c1_i32_4779
  let v4934 : BitVec 32 := Scalar.addi v4932 v4933
  v4934.toNat
def k0_dev119 (d0 : Dev nD) : Nat :=
  let c0_i32_4817 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4816 : BitVec 32 := 8#32
  let v4969 : BitVec 32 := Scalar.muli v9 c8_i32_4816
  let v4970 : BitVec 32 := Scalar.addi c0_i32_4817 v4969
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4818 : BitVec 32 := 4#32
  let v4971 : BitVec 32 := Scalar.muli v5 c4_i32_4818
  let v4972 : BitVec 32 := Scalar.addi v4970 v4971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4819 : BitVec 32 := 1#32
  let v4973 : BitVec 32 := Scalar.muli v8 c1_i32_4819
  let v4974 : BitVec 32 := Scalar.addi v4972 v4973
  v4974.toNat
def k0_dev120 (d0 : Dev nD) : Nat :=
  let c0_i32_4906 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4905 : BitVec 32 := 8#32
  let v5067 : BitVec 32 := Scalar.muli v2 c8_i32_4905
  let v5068 : BitVec 32 := Scalar.addi c0_i32_4906 v5067
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4907 : BitVec 32 := 4#32
  let v5069 : BitVec 32 := Scalar.muli v10 c4_i32_4907
  let v5070 : BitVec 32 := Scalar.addi v5068 v5069
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4908 : BitVec 32 := 1#32
  let v5071 : BitVec 32 := Scalar.muli v8 c1_i32_4908
  let v5072 : BitVec 32 := Scalar.addi v5070 v5071
  v5072.toNat
def k0_dev121 (d0 : Dev nD) : Nat :=
  let c0_i32_4920 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4919 : BitVec 32 := 8#32
  let v5079 : BitVec 32 := Scalar.muli v9 c8_i32_4919
  let v5080 : BitVec 32 := Scalar.addi c0_i32_4920 v5079
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4921 : BitVec 32 := 4#32
  let v5081 : BitVec 32 := Scalar.muli v5 c4_i32_4921
  let v5082 : BitVec 32 := Scalar.addi v5080 v5081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4922 : BitVec 32 := 1#32
  let v5083 : BitVec 32 := Scalar.muli v8 c1_i32_4922
  let v5084 : BitVec 32 := Scalar.addi v5082 v5083
  v5084.toNat
def k0_dev122 (d0 : Dev nD) : Nat :=
  let c0_i32_4942 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4941 : BitVec 32 := 8#32
  let v5097 : BitVec 32 := Scalar.muli v2 c8_i32_4941
  let v5098 : BitVec 32 := Scalar.addi c0_i32_4942 v5097
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_4943 : BitVec 32 := 4#32
  let v5099 : BitVec 32 := Scalar.muli v10 c4_i32_4943
  let v5100 : BitVec 32 := Scalar.addi v5098 v5099
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4944 : BitVec 32 := 1#32
  let v5101 : BitVec 32 := Scalar.muli v8 c1_i32_4944
  let v5102 : BitVec 32 := Scalar.addi v5100 v5101
  v5102.toNat
def k0_dev123 (d0 : Dev nD) : Nat :=
  let c0_i32_4982 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4981 : BitVec 32 := 8#32
  let v5137 : BitVec 32 := Scalar.muli v9 c8_i32_4981
  let v5138 : BitVec 32 := Scalar.addi c0_i32_4982 v5137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4983 : BitVec 32 := 4#32
  let v5139 : BitVec 32 := Scalar.muli v5 c4_i32_4983
  let v5140 : BitVec 32 := Scalar.addi v5138 v5139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4984 : BitVec 32 := 1#32
  let v5141 : BitVec 32 := Scalar.muli v8 c1_i32_4984
  let v5142 : BitVec 32 := Scalar.addi v5140 v5141
  v5142.toNat
def k0_dev124 (d0 : Dev nD) : Nat :=
  let c0_i32_5071 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5070 : BitVec 32 := 8#32
  let v5235 : BitVec 32 := Scalar.muli v2 c8_i32_5070
  let v5236 : BitVec 32 := Scalar.addi c0_i32_5071 v5235
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5072 : BitVec 32 := 4#32
  let v5237 : BitVec 32 := Scalar.muli v10 c4_i32_5072
  let v5238 : BitVec 32 := Scalar.addi v5236 v5237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5073 : BitVec 32 := 1#32
  let v5239 : BitVec 32 := Scalar.muli v8 c1_i32_5073
  let v5240 : BitVec 32 := Scalar.addi v5238 v5239
  v5240.toNat
def k0_dev125 (d0 : Dev nD) : Nat :=
  let c0_i32_5085 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5084 : BitVec 32 := 8#32
  let v5247 : BitVec 32 := Scalar.muli v9 c8_i32_5084
  let v5248 : BitVec 32 := Scalar.addi c0_i32_5085 v5247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5086 : BitVec 32 := 4#32
  let v5249 : BitVec 32 := Scalar.muli v5 c4_i32_5086
  let v5250 : BitVec 32 := Scalar.addi v5248 v5249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5087 : BitVec 32 := 1#32
  let v5251 : BitVec 32 := Scalar.muli v8 c1_i32_5087
  let v5252 : BitVec 32 := Scalar.addi v5250 v5251
  v5252.toNat
def k0_dev126 (d0 : Dev nD) : Nat :=
  let c0_i32_5107 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5106 : BitVec 32 := 8#32
  let v5265 : BitVec 32 := Scalar.muli v2 c8_i32_5106
  let v5266 : BitVec 32 := Scalar.addi c0_i32_5107 v5265
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5108 : BitVec 32 := 4#32
  let v5267 : BitVec 32 := Scalar.muli v10 c4_i32_5108
  let v5268 : BitVec 32 := Scalar.addi v5266 v5267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5109 : BitVec 32 := 1#32
  let v5269 : BitVec 32 := Scalar.muli v8 c1_i32_5109
  let v5270 : BitVec 32 := Scalar.addi v5268 v5269
  v5270.toNat
def k0_dev127 (d0 : Dev nD) : Nat :=
  let c0_i32_5147 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5146 : BitVec 32 := 8#32
  let v5305 : BitVec 32 := Scalar.muli v9 c8_i32_5146
  let v5306 : BitVec 32 := Scalar.addi c0_i32_5147 v5305
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5148 : BitVec 32 := 4#32
  let v5307 : BitVec 32 := Scalar.muli v5 c4_i32_5148
  let v5308 : BitVec 32 := Scalar.addi v5306 v5307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5149 : BitVec 32 := 1#32
  let v5309 : BitVec 32 := Scalar.muli v8 c1_i32_5149
  let v5310 : BitVec 32 := Scalar.addi v5308 v5309
  v5310.toNat
def k0_dev128 (d0 : Dev nD) : Nat :=
  let c0_i32_5236 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5235 : BitVec 32 := 8#32
  let v5403 : BitVec 32 := Scalar.muli v2 c8_i32_5235
  let v5404 : BitVec 32 := Scalar.addi c0_i32_5236 v5403
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5237 : BitVec 32 := 4#32
  let v5405 : BitVec 32 := Scalar.muli v10 c4_i32_5237
  let v5406 : BitVec 32 := Scalar.addi v5404 v5405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5238 : BitVec 32 := 1#32
  let v5407 : BitVec 32 := Scalar.muli v8 c1_i32_5238
  let v5408 : BitVec 32 := Scalar.addi v5406 v5407
  v5408.toNat
def k0_dev129 (d0 : Dev nD) : Nat :=
  let c0_i32_5250 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5249 : BitVec 32 := 8#32
  let v5415 : BitVec 32 := Scalar.muli v9 c8_i32_5249
  let v5416 : BitVec 32 := Scalar.addi c0_i32_5250 v5415
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5251 : BitVec 32 := 4#32
  let v5417 : BitVec 32 := Scalar.muli v5 c4_i32_5251
  let v5418 : BitVec 32 := Scalar.addi v5416 v5417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5252 : BitVec 32 := 1#32
  let v5419 : BitVec 32 := Scalar.muli v8 c1_i32_5252
  let v5420 : BitVec 32 := Scalar.addi v5418 v5419
  v5420.toNat
def k0_dev130 (d0 : Dev nD) : Nat :=
  let c0_i32_5272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5271 : BitVec 32 := 8#32
  let v5433 : BitVec 32 := Scalar.muli v2 c8_i32_5271
  let v5434 : BitVec 32 := Scalar.addi c0_i32_5272 v5433
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5273 : BitVec 32 := 4#32
  let v5435 : BitVec 32 := Scalar.muli v10 c4_i32_5273
  let v5436 : BitVec 32 := Scalar.addi v5434 v5435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5274 : BitVec 32 := 1#32
  let v5437 : BitVec 32 := Scalar.muli v8 c1_i32_5274
  let v5438 : BitVec 32 := Scalar.addi v5436 v5437
  v5438.toNat
def k0_dev131 (d0 : Dev nD) : Nat :=
  let c0_i32_5312 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5311 : BitVec 32 := 8#32
  let v5473 : BitVec 32 := Scalar.muli v9 c8_i32_5311
  let v5474 : BitVec 32 := Scalar.addi c0_i32_5312 v5473
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5313 : BitVec 32 := 4#32
  let v5475 : BitVec 32 := Scalar.muli v5 c4_i32_5313
  let v5476 : BitVec 32 := Scalar.addi v5474 v5475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5314 : BitVec 32 := 1#32
  let v5477 : BitVec 32 := Scalar.muli v8 c1_i32_5314
  let v5478 : BitVec 32 := Scalar.addi v5476 v5477
  v5478.toNat
def k0_dev132 (d0 : Dev nD) : Nat :=
  let c0_i32_5401 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5400 : BitVec 32 := 8#32
  let v5571 : BitVec 32 := Scalar.muli v2 c8_i32_5400
  let v5572 : BitVec 32 := Scalar.addi c0_i32_5401 v5571
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5402 : BitVec 32 := 4#32
  let v5573 : BitVec 32 := Scalar.muli v10 c4_i32_5402
  let v5574 : BitVec 32 := Scalar.addi v5572 v5573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5403 : BitVec 32 := 1#32
  let v5575 : BitVec 32 := Scalar.muli v8 c1_i32_5403
  let v5576 : BitVec 32 := Scalar.addi v5574 v5575
  v5576.toNat
def k0_dev133 (d0 : Dev nD) : Nat :=
  let c0_i32_5415 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5414 : BitVec 32 := 8#32
  let v5583 : BitVec 32 := Scalar.muli v9 c8_i32_5414
  let v5584 : BitVec 32 := Scalar.addi c0_i32_5415 v5583
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5416 : BitVec 32 := 4#32
  let v5585 : BitVec 32 := Scalar.muli v5 c4_i32_5416
  let v5586 : BitVec 32 := Scalar.addi v5584 v5585
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5417 : BitVec 32 := 1#32
  let v5587 : BitVec 32 := Scalar.muli v8 c1_i32_5417
  let v5588 : BitVec 32 := Scalar.addi v5586 v5587
  v5588.toNat
def k0_dev134 (d0 : Dev nD) : Nat :=
  let c0_i32_5437 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5436 : BitVec 32 := 8#32
  let v5601 : BitVec 32 := Scalar.muli v2 c8_i32_5436
  let v5602 : BitVec 32 := Scalar.addi c0_i32_5437 v5601
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5438 : BitVec 32 := 4#32
  let v5603 : BitVec 32 := Scalar.muli v10 c4_i32_5438
  let v5604 : BitVec 32 := Scalar.addi v5602 v5603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5439 : BitVec 32 := 1#32
  let v5605 : BitVec 32 := Scalar.muli v8 c1_i32_5439
  let v5606 : BitVec 32 := Scalar.addi v5604 v5605
  v5606.toNat
def k0_dev135 (d0 : Dev nD) : Nat :=
  let c0_i32_5477 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5476 : BitVec 32 := 8#32
  let v5641 : BitVec 32 := Scalar.muli v9 c8_i32_5476
  let v5642 : BitVec 32 := Scalar.addi c0_i32_5477 v5641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5478 : BitVec 32 := 4#32
  let v5643 : BitVec 32 := Scalar.muli v5 c4_i32_5478
  let v5644 : BitVec 32 := Scalar.addi v5642 v5643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5479 : BitVec 32 := 1#32
  let v5645 : BitVec 32 := Scalar.muli v8 c1_i32_5479
  let v5646 : BitVec 32 := Scalar.addi v5644 v5645
  v5646.toNat
def k0_dev136 (d0 : Dev nD) : Nat :=
  let c0_i32_5566 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5565 : BitVec 32 := 8#32
  let v5739 : BitVec 32 := Scalar.muli v2 c8_i32_5565
  let v5740 : BitVec 32 := Scalar.addi c0_i32_5566 v5739
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5567 : BitVec 32 := 4#32
  let v5741 : BitVec 32 := Scalar.muli v10 c4_i32_5567
  let v5742 : BitVec 32 := Scalar.addi v5740 v5741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5568 : BitVec 32 := 1#32
  let v5743 : BitVec 32 := Scalar.muli v8 c1_i32_5568
  let v5744 : BitVec 32 := Scalar.addi v5742 v5743
  v5744.toNat
def k0_dev137 (d0 : Dev nD) : Nat :=
  let c0_i32_5580 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5579 : BitVec 32 := 8#32
  let v5751 : BitVec 32 := Scalar.muli v9 c8_i32_5579
  let v5752 : BitVec 32 := Scalar.addi c0_i32_5580 v5751
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5581 : BitVec 32 := 4#32
  let v5753 : BitVec 32 := Scalar.muli v5 c4_i32_5581
  let v5754 : BitVec 32 := Scalar.addi v5752 v5753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5582 : BitVec 32 := 1#32
  let v5755 : BitVec 32 := Scalar.muli v8 c1_i32_5582
  let v5756 : BitVec 32 := Scalar.addi v5754 v5755
  v5756.toNat
def k0_dev138 (d0 : Dev nD) : Nat :=
  let c0_i32_5602 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5601 : BitVec 32 := 8#32
  let v5769 : BitVec 32 := Scalar.muli v2 c8_i32_5601
  let v5770 : BitVec 32 := Scalar.addi c0_i32_5602 v5769
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5603 : BitVec 32 := 4#32
  let v5771 : BitVec 32 := Scalar.muli v10 c4_i32_5603
  let v5772 : BitVec 32 := Scalar.addi v5770 v5771
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5604 : BitVec 32 := 1#32
  let v5773 : BitVec 32 := Scalar.muli v8 c1_i32_5604
  let v5774 : BitVec 32 := Scalar.addi v5772 v5773
  v5774.toNat
def k0_dev139 (d0 : Dev nD) : Nat :=
  let c0_i32_5642 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5641 : BitVec 32 := 8#32
  let v5809 : BitVec 32 := Scalar.muli v9 c8_i32_5641
  let v5810 : BitVec 32 := Scalar.addi c0_i32_5642 v5809
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5643 : BitVec 32 := 4#32
  let v5811 : BitVec 32 := Scalar.muli v5 c4_i32_5643
  let v5812 : BitVec 32 := Scalar.addi v5810 v5811
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5644 : BitVec 32 := 1#32
  let v5813 : BitVec 32 := Scalar.muli v8 c1_i32_5644
  let v5814 : BitVec 32 := Scalar.addi v5812 v5813
  v5814.toNat
def k0_dev140 (d0 : Dev nD) : Nat :=
  let c0_i32_5731 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5730 : BitVec 32 := 8#32
  let v5907 : BitVec 32 := Scalar.muli v2 c8_i32_5730
  let v5908 : BitVec 32 := Scalar.addi c0_i32_5731 v5907
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5732 : BitVec 32 := 4#32
  let v5909 : BitVec 32 := Scalar.muli v10 c4_i32_5732
  let v5910 : BitVec 32 := Scalar.addi v5908 v5909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5733 : BitVec 32 := 1#32
  let v5911 : BitVec 32 := Scalar.muli v8 c1_i32_5733
  let v5912 : BitVec 32 := Scalar.addi v5910 v5911
  v5912.toNat
def k0_dev141 (d0 : Dev nD) : Nat :=
  let c0_i32_5745 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5744 : BitVec 32 := 8#32
  let v5919 : BitVec 32 := Scalar.muli v9 c8_i32_5744
  let v5920 : BitVec 32 := Scalar.addi c0_i32_5745 v5919
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5746 : BitVec 32 := 4#32
  let v5921 : BitVec 32 := Scalar.muli v5 c4_i32_5746
  let v5922 : BitVec 32 := Scalar.addi v5920 v5921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5747 : BitVec 32 := 1#32
  let v5923 : BitVec 32 := Scalar.muli v8 c1_i32_5747
  let v5924 : BitVec 32 := Scalar.addi v5922 v5923
  v5924.toNat
def k0_dev142 (d0 : Dev nD) : Nat :=
  let c0_i32_5767 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5766 : BitVec 32 := 8#32
  let v5937 : BitVec 32 := Scalar.muli v2 c8_i32_5766
  let v5938 : BitVec 32 := Scalar.addi c0_i32_5767 v5937
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5768 : BitVec 32 := 4#32
  let v5939 : BitVec 32 := Scalar.muli v10 c4_i32_5768
  let v5940 : BitVec 32 := Scalar.addi v5938 v5939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5769 : BitVec 32 := 1#32
  let v5941 : BitVec 32 := Scalar.muli v8 c1_i32_5769
  let v5942 : BitVec 32 := Scalar.addi v5940 v5941
  v5942.toNat
def k0_dev143 (d0 : Dev nD) : Nat :=
  let c0_i32_5807 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5806 : BitVec 32 := 8#32
  let v5977 : BitVec 32 := Scalar.muli v9 c8_i32_5806
  let v5978 : BitVec 32 := Scalar.addi c0_i32_5807 v5977
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5808 : BitVec 32 := 4#32
  let v5979 : BitVec 32 := Scalar.muli v5 c4_i32_5808
  let v5980 : BitVec 32 := Scalar.addi v5978 v5979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5809 : BitVec 32 := 1#32
  let v5981 : BitVec 32 := Scalar.muli v8 c1_i32_5809
  let v5982 : BitVec 32 := Scalar.addi v5980 v5981
  v5982.toNat
def k0_dev144 (d0 : Dev nD) : Nat :=
  let c0_i32_5896 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5895 : BitVec 32 := 8#32
  let v6075 : BitVec 32 := Scalar.muli v2 c8_i32_5895
  let v6076 : BitVec 32 := Scalar.addi c0_i32_5896 v6075
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5897 : BitVec 32 := 4#32
  let v6077 : BitVec 32 := Scalar.muli v10 c4_i32_5897
  let v6078 : BitVec 32 := Scalar.addi v6076 v6077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5898 : BitVec 32 := 1#32
  let v6079 : BitVec 32 := Scalar.muli v8 c1_i32_5898
  let v6080 : BitVec 32 := Scalar.addi v6078 v6079
  v6080.toNat
def k0_dev145 (d0 : Dev nD) : Nat :=
  let c0_i32_5910 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5909 : BitVec 32 := 8#32
  let v6087 : BitVec 32 := Scalar.muli v9 c8_i32_5909
  let v6088 : BitVec 32 := Scalar.addi c0_i32_5910 v6087
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5911 : BitVec 32 := 4#32
  let v6089 : BitVec 32 := Scalar.muli v5 c4_i32_5911
  let v6090 : BitVec 32 := Scalar.addi v6088 v6089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5912 : BitVec 32 := 1#32
  let v6091 : BitVec 32 := Scalar.muli v8 c1_i32_5912
  let v6092 : BitVec 32 := Scalar.addi v6090 v6091
  v6092.toNat
def k0_dev146 (d0 : Dev nD) : Nat :=
  let c0_i32_5932 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5931 : BitVec 32 := 8#32
  let v6105 : BitVec 32 := Scalar.muli v2 c8_i32_5931
  let v6106 : BitVec 32 := Scalar.addi c0_i32_5932 v6105
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_5933 : BitVec 32 := 4#32
  let v6107 : BitVec 32 := Scalar.muli v10 c4_i32_5933
  let v6108 : BitVec 32 := Scalar.addi v6106 v6107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5934 : BitVec 32 := 1#32
  let v6109 : BitVec 32 := Scalar.muli v8 c1_i32_5934
  let v6110 : BitVec 32 := Scalar.addi v6108 v6109
  v6110.toNat
def k0_dev147 (d0 : Dev nD) : Nat :=
  let c0_i32_5972 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5971 : BitVec 32 := 8#32
  let v6145 : BitVec 32 := Scalar.muli v9 c8_i32_5971
  let v6146 : BitVec 32 := Scalar.addi c0_i32_5972 v6145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5973 : BitVec 32 := 4#32
  let v6147 : BitVec 32 := Scalar.muli v5 c4_i32_5973
  let v6148 : BitVec 32 := Scalar.addi v6146 v6147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5974 : BitVec 32 := 1#32
  let v6149 : BitVec 32 := Scalar.muli v8 c1_i32_5974
  let v6150 : BitVec 32 := Scalar.addi v6148 v6149
  v6150.toNat
def k0_dev148 (d0 : Dev nD) : Nat :=
  let c0_i32_6061 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6060 : BitVec 32 := 8#32
  let v6243 : BitVec 32 := Scalar.muli v2 c8_i32_6060
  let v6244 : BitVec 32 := Scalar.addi c0_i32_6061 v6243
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6062 : BitVec 32 := 4#32
  let v6245 : BitVec 32 := Scalar.muli v10 c4_i32_6062
  let v6246 : BitVec 32 := Scalar.addi v6244 v6245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6063 : BitVec 32 := 1#32
  let v6247 : BitVec 32 := Scalar.muli v8 c1_i32_6063
  let v6248 : BitVec 32 := Scalar.addi v6246 v6247
  v6248.toNat
def k0_dev149 (d0 : Dev nD) : Nat :=
  let c0_i32_6075 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6074 : BitVec 32 := 8#32
  let v6255 : BitVec 32 := Scalar.muli v9 c8_i32_6074
  let v6256 : BitVec 32 := Scalar.addi c0_i32_6075 v6255
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6076 : BitVec 32 := 4#32
  let v6257 : BitVec 32 := Scalar.muli v5 c4_i32_6076
  let v6258 : BitVec 32 := Scalar.addi v6256 v6257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6077 : BitVec 32 := 1#32
  let v6259 : BitVec 32 := Scalar.muli v8 c1_i32_6077
  let v6260 : BitVec 32 := Scalar.addi v6258 v6259
  v6260.toNat
def k0_dev150 (d0 : Dev nD) : Nat :=
  let c0_i32_6097 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6096 : BitVec 32 := 8#32
  let v6273 : BitVec 32 := Scalar.muli v2 c8_i32_6096
  let v6274 : BitVec 32 := Scalar.addi c0_i32_6097 v6273
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6098 : BitVec 32 := 4#32
  let v6275 : BitVec 32 := Scalar.muli v10 c4_i32_6098
  let v6276 : BitVec 32 := Scalar.addi v6274 v6275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6099 : BitVec 32 := 1#32
  let v6277 : BitVec 32 := Scalar.muli v8 c1_i32_6099
  let v6278 : BitVec 32 := Scalar.addi v6276 v6277
  v6278.toNat
def k0_dev151 (d0 : Dev nD) : Nat :=
  let c0_i32_6137 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6136 : BitVec 32 := 8#32
  let v6313 : BitVec 32 := Scalar.muli v9 c8_i32_6136
  let v6314 : BitVec 32 := Scalar.addi c0_i32_6137 v6313
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6138 : BitVec 32 := 4#32
  let v6315 : BitVec 32 := Scalar.muli v5 c4_i32_6138
  let v6316 : BitVec 32 := Scalar.addi v6314 v6315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6139 : BitVec 32 := 1#32
  let v6317 : BitVec 32 := Scalar.muli v8 c1_i32_6139
  let v6318 : BitVec 32 := Scalar.addi v6316 v6317
  v6318.toNat
def k0_dev152 (d0 : Dev nD) : Nat :=
  let c0_i32_6226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6225 : BitVec 32 := 8#32
  let v6411 : BitVec 32 := Scalar.muli v2 c8_i32_6225
  let v6412 : BitVec 32 := Scalar.addi c0_i32_6226 v6411
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6227 : BitVec 32 := 4#32
  let v6413 : BitVec 32 := Scalar.muli v10 c4_i32_6227
  let v6414 : BitVec 32 := Scalar.addi v6412 v6413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6228 : BitVec 32 := 1#32
  let v6415 : BitVec 32 := Scalar.muli v8 c1_i32_6228
  let v6416 : BitVec 32 := Scalar.addi v6414 v6415
  v6416.toNat
def k0_dev153 (d0 : Dev nD) : Nat :=
  let c0_i32_6240 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6239 : BitVec 32 := 8#32
  let v6423 : BitVec 32 := Scalar.muli v9 c8_i32_6239
  let v6424 : BitVec 32 := Scalar.addi c0_i32_6240 v6423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6241 : BitVec 32 := 4#32
  let v6425 : BitVec 32 := Scalar.muli v5 c4_i32_6241
  let v6426 : BitVec 32 := Scalar.addi v6424 v6425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6242 : BitVec 32 := 1#32
  let v6427 : BitVec 32 := Scalar.muli v8 c1_i32_6242
  let v6428 : BitVec 32 := Scalar.addi v6426 v6427
  v6428.toNat
def k0_dev154 (d0 : Dev nD) : Nat :=
  let c0_i32_6262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6261 : BitVec 32 := 8#32
  let v6441 : BitVec 32 := Scalar.muli v2 c8_i32_6261
  let v6442 : BitVec 32 := Scalar.addi c0_i32_6262 v6441
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6263 : BitVec 32 := 4#32
  let v6443 : BitVec 32 := Scalar.muli v10 c4_i32_6263
  let v6444 : BitVec 32 := Scalar.addi v6442 v6443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6264 : BitVec 32 := 1#32
  let v6445 : BitVec 32 := Scalar.muli v8 c1_i32_6264
  let v6446 : BitVec 32 := Scalar.addi v6444 v6445
  v6446.toNat
def k0_dev155 (d0 : Dev nD) : Nat :=
  let c0_i32_6302 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6301 : BitVec 32 := 8#32
  let v6481 : BitVec 32 := Scalar.muli v9 c8_i32_6301
  let v6482 : BitVec 32 := Scalar.addi c0_i32_6302 v6481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6303 : BitVec 32 := 4#32
  let v6483 : BitVec 32 := Scalar.muli v5 c4_i32_6303
  let v6484 : BitVec 32 := Scalar.addi v6482 v6483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6304 : BitVec 32 := 1#32
  let v6485 : BitVec 32 := Scalar.muli v8 c1_i32_6304
  let v6486 : BitVec 32 := Scalar.addi v6484 v6485
  v6486.toNat
def k0_dev156 (d0 : Dev nD) : Nat :=
  let c0_i32_6391 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6390 : BitVec 32 := 8#32
  let v6579 : BitVec 32 := Scalar.muli v2 c8_i32_6390
  let v6580 : BitVec 32 := Scalar.addi c0_i32_6391 v6579
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6392 : BitVec 32 := 4#32
  let v6581 : BitVec 32 := Scalar.muli v10 c4_i32_6392
  let v6582 : BitVec 32 := Scalar.addi v6580 v6581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6393 : BitVec 32 := 1#32
  let v6583 : BitVec 32 := Scalar.muli v8 c1_i32_6393
  let v6584 : BitVec 32 := Scalar.addi v6582 v6583
  v6584.toNat
def k0_dev157 (d0 : Dev nD) : Nat :=
  let c0_i32_6405 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6404 : BitVec 32 := 8#32
  let v6591 : BitVec 32 := Scalar.muli v9 c8_i32_6404
  let v6592 : BitVec 32 := Scalar.addi c0_i32_6405 v6591
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6406 : BitVec 32 := 4#32
  let v6593 : BitVec 32 := Scalar.muli v5 c4_i32_6406
  let v6594 : BitVec 32 := Scalar.addi v6592 v6593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6407 : BitVec 32 := 1#32
  let v6595 : BitVec 32 := Scalar.muli v8 c1_i32_6407
  let v6596 : BitVec 32 := Scalar.addi v6594 v6595
  v6596.toNat
def k0_dev158 (d0 : Dev nD) : Nat :=
  let c0_i32_6427 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6426 : BitVec 32 := 8#32
  let v6609 : BitVec 32 := Scalar.muli v2 c8_i32_6426
  let v6610 : BitVec 32 := Scalar.addi c0_i32_6427 v6609
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6428 : BitVec 32 := 4#32
  let v6611 : BitVec 32 := Scalar.muli v10 c4_i32_6428
  let v6612 : BitVec 32 := Scalar.addi v6610 v6611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6429 : BitVec 32 := 1#32
  let v6613 : BitVec 32 := Scalar.muli v8 c1_i32_6429
  let v6614 : BitVec 32 := Scalar.addi v6612 v6613
  v6614.toNat
def k0_dev159 (d0 : Dev nD) : Nat :=
  let c0_i32_6467 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6466 : BitVec 32 := 8#32
  let v6649 : BitVec 32 := Scalar.muli v9 c8_i32_6466
  let v6650 : BitVec 32 := Scalar.addi c0_i32_6467 v6649
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6468 : BitVec 32 := 4#32
  let v6651 : BitVec 32 := Scalar.muli v5 c4_i32_6468
  let v6652 : BitVec 32 := Scalar.addi v6650 v6651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6469 : BitVec 32 := 1#32
  let v6653 : BitVec 32 := Scalar.muli v8 c1_i32_6469
  let v6654 : BitVec 32 := Scalar.addi v6652 v6653
  v6654.toNat
def k0_dev160 (d0 : Dev nD) : Nat :=
  let c0_i32_6556 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6555 : BitVec 32 := 8#32
  let v6747 : BitVec 32 := Scalar.muli v2 c8_i32_6555
  let v6748 : BitVec 32 := Scalar.addi c0_i32_6556 v6747
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6557 : BitVec 32 := 4#32
  let v6749 : BitVec 32 := Scalar.muli v10 c4_i32_6557
  let v6750 : BitVec 32 := Scalar.addi v6748 v6749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6558 : BitVec 32 := 1#32
  let v6751 : BitVec 32 := Scalar.muli v8 c1_i32_6558
  let v6752 : BitVec 32 := Scalar.addi v6750 v6751
  v6752.toNat
def k0_dev161 (d0 : Dev nD) : Nat :=
  let c0_i32_6570 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6569 : BitVec 32 := 8#32
  let v6759 : BitVec 32 := Scalar.muli v9 c8_i32_6569
  let v6760 : BitVec 32 := Scalar.addi c0_i32_6570 v6759
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6571 : BitVec 32 := 4#32
  let v6761 : BitVec 32 := Scalar.muli v5 c4_i32_6571
  let v6762 : BitVec 32 := Scalar.addi v6760 v6761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6572 : BitVec 32 := 1#32
  let v6763 : BitVec 32 := Scalar.muli v8 c1_i32_6572
  let v6764 : BitVec 32 := Scalar.addi v6762 v6763
  v6764.toNat
def k0_dev162 (d0 : Dev nD) : Nat :=
  let c0_i32_6592 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6591 : BitVec 32 := 8#32
  let v6777 : BitVec 32 := Scalar.muli v2 c8_i32_6591
  let v6778 : BitVec 32 := Scalar.addi c0_i32_6592 v6777
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6593 : BitVec 32 := 4#32
  let v6779 : BitVec 32 := Scalar.muli v10 c4_i32_6593
  let v6780 : BitVec 32 := Scalar.addi v6778 v6779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6594 : BitVec 32 := 1#32
  let v6781 : BitVec 32 := Scalar.muli v8 c1_i32_6594
  let v6782 : BitVec 32 := Scalar.addi v6780 v6781
  v6782.toNat
def k0_dev163 (d0 : Dev nD) : Nat :=
  let c0_i32_6632 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6631 : BitVec 32 := 8#32
  let v6817 : BitVec 32 := Scalar.muli v9 c8_i32_6631
  let v6818 : BitVec 32 := Scalar.addi c0_i32_6632 v6817
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6633 : BitVec 32 := 4#32
  let v6819 : BitVec 32 := Scalar.muli v5 c4_i32_6633
  let v6820 : BitVec 32 := Scalar.addi v6818 v6819
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6634 : BitVec 32 := 1#32
  let v6821 : BitVec 32 := Scalar.muli v8 c1_i32_6634
  let v6822 : BitVec 32 := Scalar.addi v6820 v6821
  v6822.toNat
def k0_dev164 (d0 : Dev nD) : Nat :=
  let c0_i32_6721 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6720 : BitVec 32 := 8#32
  let v6915 : BitVec 32 := Scalar.muli v2 c8_i32_6720
  let v6916 : BitVec 32 := Scalar.addi c0_i32_6721 v6915
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6722 : BitVec 32 := 4#32
  let v6917 : BitVec 32 := Scalar.muli v10 c4_i32_6722
  let v6918 : BitVec 32 := Scalar.addi v6916 v6917
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6723 : BitVec 32 := 1#32
  let v6919 : BitVec 32 := Scalar.muli v8 c1_i32_6723
  let v6920 : BitVec 32 := Scalar.addi v6918 v6919
  v6920.toNat
def k0_dev165 (d0 : Dev nD) : Nat :=
  let c0_i32_6735 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6734 : BitVec 32 := 8#32
  let v6927 : BitVec 32 := Scalar.muli v9 c8_i32_6734
  let v6928 : BitVec 32 := Scalar.addi c0_i32_6735 v6927
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6736 : BitVec 32 := 4#32
  let v6929 : BitVec 32 := Scalar.muli v5 c4_i32_6736
  let v6930 : BitVec 32 := Scalar.addi v6928 v6929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6737 : BitVec 32 := 1#32
  let v6931 : BitVec 32 := Scalar.muli v8 c1_i32_6737
  let v6932 : BitVec 32 := Scalar.addi v6930 v6931
  v6932.toNat
def k0_dev166 (d0 : Dev nD) : Nat :=
  let c0_i32_6757 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6756 : BitVec 32 := 8#32
  let v6945 : BitVec 32 := Scalar.muli v2 c8_i32_6756
  let v6946 : BitVec 32 := Scalar.addi c0_i32_6757 v6945
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6758 : BitVec 32 := 4#32
  let v6947 : BitVec 32 := Scalar.muli v10 c4_i32_6758
  let v6948 : BitVec 32 := Scalar.addi v6946 v6947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6759 : BitVec 32 := 1#32
  let v6949 : BitVec 32 := Scalar.muli v8 c1_i32_6759
  let v6950 : BitVec 32 := Scalar.addi v6948 v6949
  v6950.toNat
def k0_dev167 (d0 : Dev nD) : Nat :=
  let c0_i32_6797 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6796 : BitVec 32 := 8#32
  let v6985 : BitVec 32 := Scalar.muli v9 c8_i32_6796
  let v6986 : BitVec 32 := Scalar.addi c0_i32_6797 v6985
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6798 : BitVec 32 := 4#32
  let v6987 : BitVec 32 := Scalar.muli v5 c4_i32_6798
  let v6988 : BitVec 32 := Scalar.addi v6986 v6987
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6799 : BitVec 32 := 1#32
  let v6989 : BitVec 32 := Scalar.muli v8 c1_i32_6799
  let v6990 : BitVec 32 := Scalar.addi v6988 v6989
  v6990.toNat
def k0_dev168 (d0 : Dev nD) : Nat :=
  let c0_i32_6886 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6885 : BitVec 32 := 8#32
  let v7083 : BitVec 32 := Scalar.muli v2 c8_i32_6885
  let v7084 : BitVec 32 := Scalar.addi c0_i32_6886 v7083
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6887 : BitVec 32 := 4#32
  let v7085 : BitVec 32 := Scalar.muli v10 c4_i32_6887
  let v7086 : BitVec 32 := Scalar.addi v7084 v7085
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6888 : BitVec 32 := 1#32
  let v7087 : BitVec 32 := Scalar.muli v8 c1_i32_6888
  let v7088 : BitVec 32 := Scalar.addi v7086 v7087
  v7088.toNat
def k0_dev169 (d0 : Dev nD) : Nat :=
  let c0_i32_6900 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6899 : BitVec 32 := 8#32
  let v7095 : BitVec 32 := Scalar.muli v9 c8_i32_6899
  let v7096 : BitVec 32 := Scalar.addi c0_i32_6900 v7095
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6901 : BitVec 32 := 4#32
  let v7097 : BitVec 32 := Scalar.muli v5 c4_i32_6901
  let v7098 : BitVec 32 := Scalar.addi v7096 v7097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6902 : BitVec 32 := 1#32
  let v7099 : BitVec 32 := Scalar.muli v8 c1_i32_6902
  let v7100 : BitVec 32 := Scalar.addi v7098 v7099
  v7100.toNat
def k0_dev170 (d0 : Dev nD) : Nat :=
  let c0_i32_6922 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6921 : BitVec 32 := 8#32
  let v7113 : BitVec 32 := Scalar.muli v2 c8_i32_6921
  let v7114 : BitVec 32 := Scalar.addi c0_i32_6922 v7113
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6923 : BitVec 32 := 4#32
  let v7115 : BitVec 32 := Scalar.muli v10 c4_i32_6923
  let v7116 : BitVec 32 := Scalar.addi v7114 v7115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6924 : BitVec 32 := 1#32
  let v7117 : BitVec 32 := Scalar.muli v8 c1_i32_6924
  let v7118 : BitVec 32 := Scalar.addi v7116 v7117
  v7118.toNat
def k0_dev171 (d0 : Dev nD) : Nat :=
  let c0_i32_6962 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6961 : BitVec 32 := 8#32
  let v7153 : BitVec 32 := Scalar.muli v9 c8_i32_6961
  let v7154 : BitVec 32 := Scalar.addi c0_i32_6962 v7153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6963 : BitVec 32 := 4#32
  let v7155 : BitVec 32 := Scalar.muli v5 c4_i32_6963
  let v7156 : BitVec 32 := Scalar.addi v7154 v7155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6964 : BitVec 32 := 1#32
  let v7157 : BitVec 32 := Scalar.muli v8 c1_i32_6964
  let v7158 : BitVec 32 := Scalar.addi v7156 v7157
  v7158.toNat
def k0_dev172 (d0 : Dev nD) : Nat :=
  let c0_i32_7051 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7050 : BitVec 32 := 8#32
  let v7251 : BitVec 32 := Scalar.muli v2 c8_i32_7050
  let v7252 : BitVec 32 := Scalar.addi c0_i32_7051 v7251
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7052 : BitVec 32 := 4#32
  let v7253 : BitVec 32 := Scalar.muli v10 c4_i32_7052
  let v7254 : BitVec 32 := Scalar.addi v7252 v7253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7053 : BitVec 32 := 1#32
  let v7255 : BitVec 32 := Scalar.muli v8 c1_i32_7053
  let v7256 : BitVec 32 := Scalar.addi v7254 v7255
  v7256.toNat
def k0_dev173 (d0 : Dev nD) : Nat :=
  let c0_i32_7065 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7064 : BitVec 32 := 8#32
  let v7263 : BitVec 32 := Scalar.muli v9 c8_i32_7064
  let v7264 : BitVec 32 := Scalar.addi c0_i32_7065 v7263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7066 : BitVec 32 := 4#32
  let v7265 : BitVec 32 := Scalar.muli v5 c4_i32_7066
  let v7266 : BitVec 32 := Scalar.addi v7264 v7265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7067 : BitVec 32 := 1#32
  let v7267 : BitVec 32 := Scalar.muli v8 c1_i32_7067
  let v7268 : BitVec 32 := Scalar.addi v7266 v7267
  v7268.toNat
def k0_dev174 (d0 : Dev nD) : Nat :=
  let c0_i32_7087 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7086 : BitVec 32 := 8#32
  let v7281 : BitVec 32 := Scalar.muli v2 c8_i32_7086
  let v7282 : BitVec 32 := Scalar.addi c0_i32_7087 v7281
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7088 : BitVec 32 := 4#32
  let v7283 : BitVec 32 := Scalar.muli v10 c4_i32_7088
  let v7284 : BitVec 32 := Scalar.addi v7282 v7283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7089 : BitVec 32 := 1#32
  let v7285 : BitVec 32 := Scalar.muli v8 c1_i32_7089
  let v7286 : BitVec 32 := Scalar.addi v7284 v7285
  v7286.toNat
def k0_dev175 (d0 : Dev nD) : Nat :=
  let c0_i32_7127 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7126 : BitVec 32 := 8#32
  let v7321 : BitVec 32 := Scalar.muli v9 c8_i32_7126
  let v7322 : BitVec 32 := Scalar.addi c0_i32_7127 v7321
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7128 : BitVec 32 := 4#32
  let v7323 : BitVec 32 := Scalar.muli v5 c4_i32_7128
  let v7324 : BitVec 32 := Scalar.addi v7322 v7323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7129 : BitVec 32 := 1#32
  let v7325 : BitVec 32 := Scalar.muli v8 c1_i32_7129
  let v7326 : BitVec 32 := Scalar.addi v7324 v7325
  v7326.toNat
def k0_dev176 (d0 : Dev nD) : Nat :=
  let c0_i32_7216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7215 : BitVec 32 := 8#32
  let v7419 : BitVec 32 := Scalar.muli v2 c8_i32_7215
  let v7420 : BitVec 32 := Scalar.addi c0_i32_7216 v7419
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7217 : BitVec 32 := 4#32
  let v7421 : BitVec 32 := Scalar.muli v10 c4_i32_7217
  let v7422 : BitVec 32 := Scalar.addi v7420 v7421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7218 : BitVec 32 := 1#32
  let v7423 : BitVec 32 := Scalar.muli v8 c1_i32_7218
  let v7424 : BitVec 32 := Scalar.addi v7422 v7423
  v7424.toNat
def k0_dev177 (d0 : Dev nD) : Nat :=
  let c0_i32_7230 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7229 : BitVec 32 := 8#32
  let v7431 : BitVec 32 := Scalar.muli v9 c8_i32_7229
  let v7432 : BitVec 32 := Scalar.addi c0_i32_7230 v7431
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7231 : BitVec 32 := 4#32
  let v7433 : BitVec 32 := Scalar.muli v5 c4_i32_7231
  let v7434 : BitVec 32 := Scalar.addi v7432 v7433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7232 : BitVec 32 := 1#32
  let v7435 : BitVec 32 := Scalar.muli v8 c1_i32_7232
  let v7436 : BitVec 32 := Scalar.addi v7434 v7435
  v7436.toNat
def k0_dev178 (d0 : Dev nD) : Nat :=
  let c0_i32_7252 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7251 : BitVec 32 := 8#32
  let v7449 : BitVec 32 := Scalar.muli v2 c8_i32_7251
  let v7450 : BitVec 32 := Scalar.addi c0_i32_7252 v7449
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7253 : BitVec 32 := 4#32
  let v7451 : BitVec 32 := Scalar.muli v10 c4_i32_7253
  let v7452 : BitVec 32 := Scalar.addi v7450 v7451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7254 : BitVec 32 := 1#32
  let v7453 : BitVec 32 := Scalar.muli v8 c1_i32_7254
  let v7454 : BitVec 32 := Scalar.addi v7452 v7453
  v7454.toNat
def k0_dev179 (d0 : Dev nD) : Nat :=
  let c0_i32_7292 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7291 : BitVec 32 := 8#32
  let v7489 : BitVec 32 := Scalar.muli v9 c8_i32_7291
  let v7490 : BitVec 32 := Scalar.addi c0_i32_7292 v7489
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7293 : BitVec 32 := 4#32
  let v7491 : BitVec 32 := Scalar.muli v5 c4_i32_7293
  let v7492 : BitVec 32 := Scalar.addi v7490 v7491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7294 : BitVec 32 := 1#32
  let v7493 : BitVec 32 := Scalar.muli v8 c1_i32_7294
  let v7494 : BitVec 32 := Scalar.addi v7492 v7493
  v7494.toNat
def k0_dev180 (d0 : Dev nD) : Nat :=
  let c0_i32_7381 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7380 : BitVec 32 := 8#32
  let v7587 : BitVec 32 := Scalar.muli v2 c8_i32_7380
  let v7588 : BitVec 32 := Scalar.addi c0_i32_7381 v7587
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7382 : BitVec 32 := 4#32
  let v7589 : BitVec 32 := Scalar.muli v10 c4_i32_7382
  let v7590 : BitVec 32 := Scalar.addi v7588 v7589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7383 : BitVec 32 := 1#32
  let v7591 : BitVec 32 := Scalar.muli v8 c1_i32_7383
  let v7592 : BitVec 32 := Scalar.addi v7590 v7591
  v7592.toNat
def k0_dev181 (d0 : Dev nD) : Nat :=
  let c0_i32_7395 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7394 : BitVec 32 := 8#32
  let v7599 : BitVec 32 := Scalar.muli v9 c8_i32_7394
  let v7600 : BitVec 32 := Scalar.addi c0_i32_7395 v7599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7396 : BitVec 32 := 4#32
  let v7601 : BitVec 32 := Scalar.muli v5 c4_i32_7396
  let v7602 : BitVec 32 := Scalar.addi v7600 v7601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7397 : BitVec 32 := 1#32
  let v7603 : BitVec 32 := Scalar.muli v8 c1_i32_7397
  let v7604 : BitVec 32 := Scalar.addi v7602 v7603
  v7604.toNat
def k0_dev182 (d0 : Dev nD) : Nat :=
  let c0_i32_7417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7416 : BitVec 32 := 8#32
  let v7617 : BitVec 32 := Scalar.muli v2 c8_i32_7416
  let v7618 : BitVec 32 := Scalar.addi c0_i32_7417 v7617
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7418 : BitVec 32 := 4#32
  let v7619 : BitVec 32 := Scalar.muli v10 c4_i32_7418
  let v7620 : BitVec 32 := Scalar.addi v7618 v7619
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7419 : BitVec 32 := 1#32
  let v7621 : BitVec 32 := Scalar.muli v8 c1_i32_7419
  let v7622 : BitVec 32 := Scalar.addi v7620 v7621
  v7622.toNat
def k0_dev183 (d0 : Dev nD) : Nat :=
  let c0_i32_7457 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7456 : BitVec 32 := 8#32
  let v7657 : BitVec 32 := Scalar.muli v9 c8_i32_7456
  let v7658 : BitVec 32 := Scalar.addi c0_i32_7457 v7657
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7458 : BitVec 32 := 4#32
  let v7659 : BitVec 32 := Scalar.muli v5 c4_i32_7458
  let v7660 : BitVec 32 := Scalar.addi v7658 v7659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7459 : BitVec 32 := 1#32
  let v7661 : BitVec 32 := Scalar.muli v8 c1_i32_7459
  let v7662 : BitVec 32 := Scalar.addi v7660 v7661
  v7662.toNat
def k0_dev184 (d0 : Dev nD) : Nat :=
  let c0_i32_7546 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7545 : BitVec 32 := 8#32
  let v7755 : BitVec 32 := Scalar.muli v2 c8_i32_7545
  let v7756 : BitVec 32 := Scalar.addi c0_i32_7546 v7755
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7547 : BitVec 32 := 4#32
  let v7757 : BitVec 32 := Scalar.muli v10 c4_i32_7547
  let v7758 : BitVec 32 := Scalar.addi v7756 v7757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7548 : BitVec 32 := 1#32
  let v7759 : BitVec 32 := Scalar.muli v8 c1_i32_7548
  let v7760 : BitVec 32 := Scalar.addi v7758 v7759
  v7760.toNat
def k0_dev185 (d0 : Dev nD) : Nat :=
  let c0_i32_7560 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7559 : BitVec 32 := 8#32
  let v7767 : BitVec 32 := Scalar.muli v9 c8_i32_7559
  let v7768 : BitVec 32 := Scalar.addi c0_i32_7560 v7767
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7561 : BitVec 32 := 4#32
  let v7769 : BitVec 32 := Scalar.muli v5 c4_i32_7561
  let v7770 : BitVec 32 := Scalar.addi v7768 v7769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7562 : BitVec 32 := 1#32
  let v7771 : BitVec 32 := Scalar.muli v8 c1_i32_7562
  let v7772 : BitVec 32 := Scalar.addi v7770 v7771
  v7772.toNat
def k0_dev186 (d0 : Dev nD) : Nat :=
  let c0_i32_7582 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7581 : BitVec 32 := 8#32
  let v7785 : BitVec 32 := Scalar.muli v2 c8_i32_7581
  let v7786 : BitVec 32 := Scalar.addi c0_i32_7582 v7785
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7583 : BitVec 32 := 4#32
  let v7787 : BitVec 32 := Scalar.muli v10 c4_i32_7583
  let v7788 : BitVec 32 := Scalar.addi v7786 v7787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7584 : BitVec 32 := 1#32
  let v7789 : BitVec 32 := Scalar.muli v8 c1_i32_7584
  let v7790 : BitVec 32 := Scalar.addi v7788 v7789
  v7790.toNat
def k0_dev187 (d0 : Dev nD) : Nat :=
  let c0_i32_7622 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7621 : BitVec 32 := 8#32
  let v7825 : BitVec 32 := Scalar.muli v9 c8_i32_7621
  let v7826 : BitVec 32 := Scalar.addi c0_i32_7622 v7825
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7623 : BitVec 32 := 4#32
  let v7827 : BitVec 32 := Scalar.muli v5 c4_i32_7623
  let v7828 : BitVec 32 := Scalar.addi v7826 v7827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7624 : BitVec 32 := 1#32
  let v7829 : BitVec 32 := Scalar.muli v8 c1_i32_7624
  let v7830 : BitVec 32 := Scalar.addi v7828 v7829
  v7830.toNat
def k0_dev188 (d0 : Dev nD) : Nat :=
  let c0_i32_7711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7710 : BitVec 32 := 8#32
  let v7923 : BitVec 32 := Scalar.muli v2 c8_i32_7710
  let v7924 : BitVec 32 := Scalar.addi c0_i32_7711 v7923
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7712 : BitVec 32 := 4#32
  let v7925 : BitVec 32 := Scalar.muli v10 c4_i32_7712
  let v7926 : BitVec 32 := Scalar.addi v7924 v7925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7713 : BitVec 32 := 1#32
  let v7927 : BitVec 32 := Scalar.muli v8 c1_i32_7713
  let v7928 : BitVec 32 := Scalar.addi v7926 v7927
  v7928.toNat
def k0_dev189 (d0 : Dev nD) : Nat :=
  let c0_i32_7725 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7724 : BitVec 32 := 8#32
  let v7935 : BitVec 32 := Scalar.muli v9 c8_i32_7724
  let v7936 : BitVec 32 := Scalar.addi c0_i32_7725 v7935
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7726 : BitVec 32 := 4#32
  let v7937 : BitVec 32 := Scalar.muli v5 c4_i32_7726
  let v7938 : BitVec 32 := Scalar.addi v7936 v7937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7727 : BitVec 32 := 1#32
  let v7939 : BitVec 32 := Scalar.muli v8 c1_i32_7727
  let v7940 : BitVec 32 := Scalar.addi v7938 v7939
  v7940.toNat
def k0_dev190 (d0 : Dev nD) : Nat :=
  let c0_i32_7747 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7746 : BitVec 32 := 8#32
  let v7953 : BitVec 32 := Scalar.muli v2 c8_i32_7746
  let v7954 : BitVec 32 := Scalar.addi c0_i32_7747 v7953
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7748 : BitVec 32 := 4#32
  let v7955 : BitVec 32 := Scalar.muli v10 c4_i32_7748
  let v7956 : BitVec 32 := Scalar.addi v7954 v7955
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7749 : BitVec 32 := 1#32
  let v7957 : BitVec 32 := Scalar.muli v8 c1_i32_7749
  let v7958 : BitVec 32 := Scalar.addi v7956 v7957
  v7958.toNat
def k0_dev191 (d0 : Dev nD) : Nat :=
  let c0_i32_7787 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7786 : BitVec 32 := 8#32
  let v7993 : BitVec 32 := Scalar.muli v9 c8_i32_7786
  let v7994 : BitVec 32 := Scalar.addi c0_i32_7787 v7993
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7788 : BitVec 32 := 4#32
  let v7995 : BitVec 32 := Scalar.muli v5 c4_i32_7788
  let v7996 : BitVec 32 := Scalar.addi v7994 v7995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7789 : BitVec 32 := 1#32
  let v7997 : BitVec 32 := Scalar.muli v8 c1_i32_7789
  let v7998 : BitVec 32 := Scalar.addi v7996 v7997
  v7998.toNat
def k0_dev192 (d0 : Dev nD) : Nat :=
  let c0_i32_7876 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7875 : BitVec 32 := 8#32
  let v8091 : BitVec 32 := Scalar.muli v2 c8_i32_7875
  let v8092 : BitVec 32 := Scalar.addi c0_i32_7876 v8091
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7877 : BitVec 32 := 4#32
  let v8093 : BitVec 32 := Scalar.muli v10 c4_i32_7877
  let v8094 : BitVec 32 := Scalar.addi v8092 v8093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7878 : BitVec 32 := 1#32
  let v8095 : BitVec 32 := Scalar.muli v8 c1_i32_7878
  let v8096 : BitVec 32 := Scalar.addi v8094 v8095
  v8096.toNat
def k0_dev193 (d0 : Dev nD) : Nat :=
  let c0_i32_7890 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7889 : BitVec 32 := 8#32
  let v8103 : BitVec 32 := Scalar.muli v9 c8_i32_7889
  let v8104 : BitVec 32 := Scalar.addi c0_i32_7890 v8103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7891 : BitVec 32 := 4#32
  let v8105 : BitVec 32 := Scalar.muli v5 c4_i32_7891
  let v8106 : BitVec 32 := Scalar.addi v8104 v8105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7892 : BitVec 32 := 1#32
  let v8107 : BitVec 32 := Scalar.muli v8 c1_i32_7892
  let v8108 : BitVec 32 := Scalar.addi v8106 v8107
  v8108.toNat
def k0_dev194 (d0 : Dev nD) : Nat :=
  let c0_i32_7912 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7911 : BitVec 32 := 8#32
  let v8121 : BitVec 32 := Scalar.muli v2 c8_i32_7911
  let v8122 : BitVec 32 := Scalar.addi c0_i32_7912 v8121
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_7913 : BitVec 32 := 4#32
  let v8123 : BitVec 32 := Scalar.muli v10 c4_i32_7913
  let v8124 : BitVec 32 := Scalar.addi v8122 v8123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7914 : BitVec 32 := 1#32
  let v8125 : BitVec 32 := Scalar.muli v8 c1_i32_7914
  let v8126 : BitVec 32 := Scalar.addi v8124 v8125
  v8126.toNat
def k0_dev195 (d0 : Dev nD) : Nat :=
  let c0_i32_7952 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7951 : BitVec 32 := 8#32
  let v8161 : BitVec 32 := Scalar.muli v9 c8_i32_7951
  let v8162 : BitVec 32 := Scalar.addi c0_i32_7952 v8161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7953 : BitVec 32 := 4#32
  let v8163 : BitVec 32 := Scalar.muli v5 c4_i32_7953
  let v8164 : BitVec 32 := Scalar.addi v8162 v8163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7954 : BitVec 32 := 1#32
  let v8165 : BitVec 32 := Scalar.muli v8 c1_i32_7954
  let v8166 : BitVec 32 := Scalar.addi v8164 v8165
  v8166.toNat
def k0_dev196 (d0 : Dev nD) : Nat :=
  let c0_i32_8041 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8040 : BitVec 32 := 8#32
  let v8259 : BitVec 32 := Scalar.muli v2 c8_i32_8040
  let v8260 : BitVec 32 := Scalar.addi c0_i32_8041 v8259
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8042 : BitVec 32 := 4#32
  let v8261 : BitVec 32 := Scalar.muli v10 c4_i32_8042
  let v8262 : BitVec 32 := Scalar.addi v8260 v8261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8043 : BitVec 32 := 1#32
  let v8263 : BitVec 32 := Scalar.muli v8 c1_i32_8043
  let v8264 : BitVec 32 := Scalar.addi v8262 v8263
  v8264.toNat
def k0_dev197 (d0 : Dev nD) : Nat :=
  let c0_i32_8055 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8054 : BitVec 32 := 8#32
  let v8271 : BitVec 32 := Scalar.muli v9 c8_i32_8054
  let v8272 : BitVec 32 := Scalar.addi c0_i32_8055 v8271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8056 : BitVec 32 := 4#32
  let v8273 : BitVec 32 := Scalar.muli v5 c4_i32_8056
  let v8274 : BitVec 32 := Scalar.addi v8272 v8273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8057 : BitVec 32 := 1#32
  let v8275 : BitVec 32 := Scalar.muli v8 c1_i32_8057
  let v8276 : BitVec 32 := Scalar.addi v8274 v8275
  v8276.toNat
def k0_dev198 (d0 : Dev nD) : Nat :=
  let c0_i32_8077 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8076 : BitVec 32 := 8#32
  let v8289 : BitVec 32 := Scalar.muli v2 c8_i32_8076
  let v8290 : BitVec 32 := Scalar.addi c0_i32_8077 v8289
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8078 : BitVec 32 := 4#32
  let v8291 : BitVec 32 := Scalar.muli v10 c4_i32_8078
  let v8292 : BitVec 32 := Scalar.addi v8290 v8291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8079 : BitVec 32 := 1#32
  let v8293 : BitVec 32 := Scalar.muli v8 c1_i32_8079
  let v8294 : BitVec 32 := Scalar.addi v8292 v8293
  v8294.toNat
def k0_dev199 (d0 : Dev nD) : Nat :=
  let c0_i32_8117 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8116 : BitVec 32 := 8#32
  let v8329 : BitVec 32 := Scalar.muli v9 c8_i32_8116
  let v8330 : BitVec 32 := Scalar.addi c0_i32_8117 v8329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8118 : BitVec 32 := 4#32
  let v8331 : BitVec 32 := Scalar.muli v5 c4_i32_8118
  let v8332 : BitVec 32 := Scalar.addi v8330 v8331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8119 : BitVec 32 := 1#32
  let v8333 : BitVec 32 := Scalar.muli v8 c1_i32_8119
  let v8334 : BitVec 32 := Scalar.addi v8332 v8333
  v8334.toNat
def k0_dev200 (d0 : Dev nD) : Nat :=
  let c0_i32_8206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8205 : BitVec 32 := 8#32
  let v8427 : BitVec 32 := Scalar.muli v2 c8_i32_8205
  let v8428 : BitVec 32 := Scalar.addi c0_i32_8206 v8427
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8207 : BitVec 32 := 4#32
  let v8429 : BitVec 32 := Scalar.muli v10 c4_i32_8207
  let v8430 : BitVec 32 := Scalar.addi v8428 v8429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8208 : BitVec 32 := 1#32
  let v8431 : BitVec 32 := Scalar.muli v8 c1_i32_8208
  let v8432 : BitVec 32 := Scalar.addi v8430 v8431
  v8432.toNat
def k0_dev201 (d0 : Dev nD) : Nat :=
  let c0_i32_8220 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8219 : BitVec 32 := 8#32
  let v8439 : BitVec 32 := Scalar.muli v9 c8_i32_8219
  let v8440 : BitVec 32 := Scalar.addi c0_i32_8220 v8439
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8221 : BitVec 32 := 4#32
  let v8441 : BitVec 32 := Scalar.muli v5 c4_i32_8221
  let v8442 : BitVec 32 := Scalar.addi v8440 v8441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8222 : BitVec 32 := 1#32
  let v8443 : BitVec 32 := Scalar.muli v8 c1_i32_8222
  let v8444 : BitVec 32 := Scalar.addi v8442 v8443
  v8444.toNat
def k0_dev202 (d0 : Dev nD) : Nat :=
  let c0_i32_8242 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8241 : BitVec 32 := 8#32
  let v8457 : BitVec 32 := Scalar.muli v2 c8_i32_8241
  let v8458 : BitVec 32 := Scalar.addi c0_i32_8242 v8457
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8243 : BitVec 32 := 4#32
  let v8459 : BitVec 32 := Scalar.muli v10 c4_i32_8243
  let v8460 : BitVec 32 := Scalar.addi v8458 v8459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8244 : BitVec 32 := 1#32
  let v8461 : BitVec 32 := Scalar.muli v8 c1_i32_8244
  let v8462 : BitVec 32 := Scalar.addi v8460 v8461
  v8462.toNat
def k0_dev203 (d0 : Dev nD) : Nat :=
  let c0_i32_8282 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8281 : BitVec 32 := 8#32
  let v8497 : BitVec 32 := Scalar.muli v9 c8_i32_8281
  let v8498 : BitVec 32 := Scalar.addi c0_i32_8282 v8497
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8283 : BitVec 32 := 4#32
  let v8499 : BitVec 32 := Scalar.muli v5 c4_i32_8283
  let v8500 : BitVec 32 := Scalar.addi v8498 v8499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8284 : BitVec 32 := 1#32
  let v8501 : BitVec 32 := Scalar.muli v8 c1_i32_8284
  let v8502 : BitVec 32 := Scalar.addi v8500 v8501
  v8502.toNat
def k0_dev204 (d0 : Dev nD) : Nat :=
  let c0_i32_8371 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8370 : BitVec 32 := 8#32
  let v8595 : BitVec 32 := Scalar.muli v2 c8_i32_8370
  let v8596 : BitVec 32 := Scalar.addi c0_i32_8371 v8595
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8372 : BitVec 32 := 4#32
  let v8597 : BitVec 32 := Scalar.muli v10 c4_i32_8372
  let v8598 : BitVec 32 := Scalar.addi v8596 v8597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8373 : BitVec 32 := 1#32
  let v8599 : BitVec 32 := Scalar.muli v8 c1_i32_8373
  let v8600 : BitVec 32 := Scalar.addi v8598 v8599
  v8600.toNat
def k0_dev205 (d0 : Dev nD) : Nat :=
  let c0_i32_8385 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8384 : BitVec 32 := 8#32
  let v8607 : BitVec 32 := Scalar.muli v9 c8_i32_8384
  let v8608 : BitVec 32 := Scalar.addi c0_i32_8385 v8607
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8386 : BitVec 32 := 4#32
  let v8609 : BitVec 32 := Scalar.muli v5 c4_i32_8386
  let v8610 : BitVec 32 := Scalar.addi v8608 v8609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8387 : BitVec 32 := 1#32
  let v8611 : BitVec 32 := Scalar.muli v8 c1_i32_8387
  let v8612 : BitVec 32 := Scalar.addi v8610 v8611
  v8612.toNat
def k0_dev206 (d0 : Dev nD) : Nat :=
  let c0_i32_8407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8406 : BitVec 32 := 8#32
  let v8625 : BitVec 32 := Scalar.muli v2 c8_i32_8406
  let v8626 : BitVec 32 := Scalar.addi c0_i32_8407 v8625
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8408 : BitVec 32 := 4#32
  let v8627 : BitVec 32 := Scalar.muli v10 c4_i32_8408
  let v8628 : BitVec 32 := Scalar.addi v8626 v8627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8409 : BitVec 32 := 1#32
  let v8629 : BitVec 32 := Scalar.muli v8 c1_i32_8409
  let v8630 : BitVec 32 := Scalar.addi v8628 v8629
  v8630.toNat
def k0_dev207 (d0 : Dev nD) : Nat :=
  let c0_i32_8447 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8446 : BitVec 32 := 8#32
  let v8665 : BitVec 32 := Scalar.muli v9 c8_i32_8446
  let v8666 : BitVec 32 := Scalar.addi c0_i32_8447 v8665
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8448 : BitVec 32 := 4#32
  let v8667 : BitVec 32 := Scalar.muli v5 c4_i32_8448
  let v8668 : BitVec 32 := Scalar.addi v8666 v8667
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8449 : BitVec 32 := 1#32
  let v8669 : BitVec 32 := Scalar.muli v8 c1_i32_8449
  let v8670 : BitVec 32 := Scalar.addi v8668 v8669
  v8670.toNat
def k0_dev208 (d0 : Dev nD) : Nat :=
  let c0_i32_8536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8535 : BitVec 32 := 8#32
  let v8763 : BitVec 32 := Scalar.muli v2 c8_i32_8535
  let v8764 : BitVec 32 := Scalar.addi c0_i32_8536 v8763
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8537 : BitVec 32 := 4#32
  let v8765 : BitVec 32 := Scalar.muli v10 c4_i32_8537
  let v8766 : BitVec 32 := Scalar.addi v8764 v8765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8538 : BitVec 32 := 1#32
  let v8767 : BitVec 32 := Scalar.muli v8 c1_i32_8538
  let v8768 : BitVec 32 := Scalar.addi v8766 v8767
  v8768.toNat
def k0_dev209 (d0 : Dev nD) : Nat :=
  let c0_i32_8550 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8549 : BitVec 32 := 8#32
  let v8775 : BitVec 32 := Scalar.muli v9 c8_i32_8549
  let v8776 : BitVec 32 := Scalar.addi c0_i32_8550 v8775
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8551 : BitVec 32 := 4#32
  let v8777 : BitVec 32 := Scalar.muli v5 c4_i32_8551
  let v8778 : BitVec 32 := Scalar.addi v8776 v8777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8552 : BitVec 32 := 1#32
  let v8779 : BitVec 32 := Scalar.muli v8 c1_i32_8552
  let v8780 : BitVec 32 := Scalar.addi v8778 v8779
  v8780.toNat
def k0_dev210 (d0 : Dev nD) : Nat :=
  let c0_i32_8572 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8571 : BitVec 32 := 8#32
  let v8793 : BitVec 32 := Scalar.muli v2 c8_i32_8571
  let v8794 : BitVec 32 := Scalar.addi c0_i32_8572 v8793
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8573 : BitVec 32 := 4#32
  let v8795 : BitVec 32 := Scalar.muli v10 c4_i32_8573
  let v8796 : BitVec 32 := Scalar.addi v8794 v8795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8574 : BitVec 32 := 1#32
  let v8797 : BitVec 32 := Scalar.muli v8 c1_i32_8574
  let v8798 : BitVec 32 := Scalar.addi v8796 v8797
  v8798.toNat
def k0_dev211 (d0 : Dev nD) : Nat :=
  let c0_i32_8612 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8611 : BitVec 32 := 8#32
  let v8833 : BitVec 32 := Scalar.muli v9 c8_i32_8611
  let v8834 : BitVec 32 := Scalar.addi c0_i32_8612 v8833
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8613 : BitVec 32 := 4#32
  let v8835 : BitVec 32 := Scalar.muli v5 c4_i32_8613
  let v8836 : BitVec 32 := Scalar.addi v8834 v8835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8614 : BitVec 32 := 1#32
  let v8837 : BitVec 32 := Scalar.muli v8 c1_i32_8614
  let v8838 : BitVec 32 := Scalar.addi v8836 v8837
  v8838.toNat
def k0_dev212 (d0 : Dev nD) : Nat :=
  let c0_i32_8701 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8700 : BitVec 32 := 8#32
  let v8931 : BitVec 32 := Scalar.muli v2 c8_i32_8700
  let v8932 : BitVec 32 := Scalar.addi c0_i32_8701 v8931
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8702 : BitVec 32 := 4#32
  let v8933 : BitVec 32 := Scalar.muli v10 c4_i32_8702
  let v8934 : BitVec 32 := Scalar.addi v8932 v8933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8703 : BitVec 32 := 1#32
  let v8935 : BitVec 32 := Scalar.muli v8 c1_i32_8703
  let v8936 : BitVec 32 := Scalar.addi v8934 v8935
  v8936.toNat
def k0_dev213 (d0 : Dev nD) : Nat :=
  let c0_i32_8715 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8714 : BitVec 32 := 8#32
  let v8943 : BitVec 32 := Scalar.muli v9 c8_i32_8714
  let v8944 : BitVec 32 := Scalar.addi c0_i32_8715 v8943
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8716 : BitVec 32 := 4#32
  let v8945 : BitVec 32 := Scalar.muli v5 c4_i32_8716
  let v8946 : BitVec 32 := Scalar.addi v8944 v8945
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8717 : BitVec 32 := 1#32
  let v8947 : BitVec 32 := Scalar.muli v8 c1_i32_8717
  let v8948 : BitVec 32 := Scalar.addi v8946 v8947
  v8948.toNat
def k0_dev214 (d0 : Dev nD) : Nat :=
  let c0_i32_8737 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8736 : BitVec 32 := 8#32
  let v8961 : BitVec 32 := Scalar.muli v2 c8_i32_8736
  let v8962 : BitVec 32 := Scalar.addi c0_i32_8737 v8961
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8738 : BitVec 32 := 4#32
  let v8963 : BitVec 32 := Scalar.muli v10 c4_i32_8738
  let v8964 : BitVec 32 := Scalar.addi v8962 v8963
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8739 : BitVec 32 := 1#32
  let v8965 : BitVec 32 := Scalar.muli v8 c1_i32_8739
  let v8966 : BitVec 32 := Scalar.addi v8964 v8965
  v8966.toNat
def k0_dev215 (d0 : Dev nD) : Nat :=
  let c0_i32_8777 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8776 : BitVec 32 := 8#32
  let v9001 : BitVec 32 := Scalar.muli v9 c8_i32_8776
  let v9002 : BitVec 32 := Scalar.addi c0_i32_8777 v9001
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8778 : BitVec 32 := 4#32
  let v9003 : BitVec 32 := Scalar.muli v5 c4_i32_8778
  let v9004 : BitVec 32 := Scalar.addi v9002 v9003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8779 : BitVec 32 := 1#32
  let v9005 : BitVec 32 := Scalar.muli v8 c1_i32_8779
  let v9006 : BitVec 32 := Scalar.addi v9004 v9005
  v9006.toNat
def k0_dev216 (d0 : Dev nD) : Nat :=
  let c0_i32_8866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8865 : BitVec 32 := 8#32
  let v9099 : BitVec 32 := Scalar.muli v2 c8_i32_8865
  let v9100 : BitVec 32 := Scalar.addi c0_i32_8866 v9099
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8867 : BitVec 32 := 4#32
  let v9101 : BitVec 32 := Scalar.muli v10 c4_i32_8867
  let v9102 : BitVec 32 := Scalar.addi v9100 v9101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8868 : BitVec 32 := 1#32
  let v9103 : BitVec 32 := Scalar.muli v8 c1_i32_8868
  let v9104 : BitVec 32 := Scalar.addi v9102 v9103
  v9104.toNat
def k0_dev217 (d0 : Dev nD) : Nat :=
  let c0_i32_8880 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8879 : BitVec 32 := 8#32
  let v9111 : BitVec 32 := Scalar.muli v9 c8_i32_8879
  let v9112 : BitVec 32 := Scalar.addi c0_i32_8880 v9111
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8881 : BitVec 32 := 4#32
  let v9113 : BitVec 32 := Scalar.muli v5 c4_i32_8881
  let v9114 : BitVec 32 := Scalar.addi v9112 v9113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8882 : BitVec 32 := 1#32
  let v9115 : BitVec 32 := Scalar.muli v8 c1_i32_8882
  let v9116 : BitVec 32 := Scalar.addi v9114 v9115
  v9116.toNat
def k0_dev218 (d0 : Dev nD) : Nat :=
  let c0_i32_8902 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8901 : BitVec 32 := 8#32
  let v9129 : BitVec 32 := Scalar.muli v2 c8_i32_8901
  let v9130 : BitVec 32 := Scalar.addi c0_i32_8902 v9129
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_8903 : BitVec 32 := 4#32
  let v9131 : BitVec 32 := Scalar.muli v10 c4_i32_8903
  let v9132 : BitVec 32 := Scalar.addi v9130 v9131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8904 : BitVec 32 := 1#32
  let v9133 : BitVec 32 := Scalar.muli v8 c1_i32_8904
  let v9134 : BitVec 32 := Scalar.addi v9132 v9133
  v9134.toNat
def k0_dev219 (d0 : Dev nD) : Nat :=
  let c0_i32_8942 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8941 : BitVec 32 := 8#32
  let v9169 : BitVec 32 := Scalar.muli v9 c8_i32_8941
  let v9170 : BitVec 32 := Scalar.addi c0_i32_8942 v9169
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8943 : BitVec 32 := 4#32
  let v9171 : BitVec 32 := Scalar.muli v5 c4_i32_8943
  let v9172 : BitVec 32 := Scalar.addi v9170 v9171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8944 : BitVec 32 := 1#32
  let v9173 : BitVec 32 := Scalar.muli v8 c1_i32_8944
  let v9174 : BitVec 32 := Scalar.addi v9172 v9173
  v9174.toNat
def k0_dev220 (d0 : Dev nD) : Nat :=
  let c0_i32_9031 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9030 : BitVec 32 := 8#32
  let v9267 : BitVec 32 := Scalar.muli v2 c8_i32_9030
  let v9268 : BitVec 32 := Scalar.addi c0_i32_9031 v9267
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9032 : BitVec 32 := 4#32
  let v9269 : BitVec 32 := Scalar.muli v10 c4_i32_9032
  let v9270 : BitVec 32 := Scalar.addi v9268 v9269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9033 : BitVec 32 := 1#32
  let v9271 : BitVec 32 := Scalar.muli v8 c1_i32_9033
  let v9272 : BitVec 32 := Scalar.addi v9270 v9271
  v9272.toNat
def k0_dev221 (d0 : Dev nD) : Nat :=
  let c0_i32_9045 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9044 : BitVec 32 := 8#32
  let v9279 : BitVec 32 := Scalar.muli v9 c8_i32_9044
  let v9280 : BitVec 32 := Scalar.addi c0_i32_9045 v9279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9046 : BitVec 32 := 4#32
  let v9281 : BitVec 32 := Scalar.muli v5 c4_i32_9046
  let v9282 : BitVec 32 := Scalar.addi v9280 v9281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9047 : BitVec 32 := 1#32
  let v9283 : BitVec 32 := Scalar.muli v8 c1_i32_9047
  let v9284 : BitVec 32 := Scalar.addi v9282 v9283
  v9284.toNat
def k0_dev222 (d0 : Dev nD) : Nat :=
  let c0_i32_9067 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9066 : BitVec 32 := 8#32
  let v9297 : BitVec 32 := Scalar.muli v2 c8_i32_9066
  let v9298 : BitVec 32 := Scalar.addi c0_i32_9067 v9297
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9068 : BitVec 32 := 4#32
  let v9299 : BitVec 32 := Scalar.muli v10 c4_i32_9068
  let v9300 : BitVec 32 := Scalar.addi v9298 v9299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9069 : BitVec 32 := 1#32
  let v9301 : BitVec 32 := Scalar.muli v8 c1_i32_9069
  let v9302 : BitVec 32 := Scalar.addi v9300 v9301
  v9302.toNat
def k0_dev223 (d0 : Dev nD) : Nat :=
  let c0_i32_9107 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9106 : BitVec 32 := 8#32
  let v9337 : BitVec 32 := Scalar.muli v9 c8_i32_9106
  let v9338 : BitVec 32 := Scalar.addi c0_i32_9107 v9337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9108 : BitVec 32 := 4#32
  let v9339 : BitVec 32 := Scalar.muli v5 c4_i32_9108
  let v9340 : BitVec 32 := Scalar.addi v9338 v9339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9109 : BitVec 32 := 1#32
  let v9341 : BitVec 32 := Scalar.muli v8 c1_i32_9109
  let v9342 : BitVec 32 := Scalar.addi v9340 v9341
  v9342.toNat
def k0_dev224 (d0 : Dev nD) : Nat :=
  let c0_i32_9196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9195 : BitVec 32 := 8#32
  let v9435 : BitVec 32 := Scalar.muli v2 c8_i32_9195
  let v9436 : BitVec 32 := Scalar.addi c0_i32_9196 v9435
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9197 : BitVec 32 := 4#32
  let v9437 : BitVec 32 := Scalar.muli v10 c4_i32_9197
  let v9438 : BitVec 32 := Scalar.addi v9436 v9437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9198 : BitVec 32 := 1#32
  let v9439 : BitVec 32 := Scalar.muli v8 c1_i32_9198
  let v9440 : BitVec 32 := Scalar.addi v9438 v9439
  v9440.toNat
def k0_dev225 (d0 : Dev nD) : Nat :=
  let c0_i32_9210 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9209 : BitVec 32 := 8#32
  let v9447 : BitVec 32 := Scalar.muli v9 c8_i32_9209
  let v9448 : BitVec 32 := Scalar.addi c0_i32_9210 v9447
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9211 : BitVec 32 := 4#32
  let v9449 : BitVec 32 := Scalar.muli v5 c4_i32_9211
  let v9450 : BitVec 32 := Scalar.addi v9448 v9449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9212 : BitVec 32 := 1#32
  let v9451 : BitVec 32 := Scalar.muli v8 c1_i32_9212
  let v9452 : BitVec 32 := Scalar.addi v9450 v9451
  v9452.toNat
def k0_dev226 (d0 : Dev nD) : Nat :=
  let c0_i32_9232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9231 : BitVec 32 := 8#32
  let v9465 : BitVec 32 := Scalar.muli v2 c8_i32_9231
  let v9466 : BitVec 32 := Scalar.addi c0_i32_9232 v9465
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9233 : BitVec 32 := 4#32
  let v9467 : BitVec 32 := Scalar.muli v10 c4_i32_9233
  let v9468 : BitVec 32 := Scalar.addi v9466 v9467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9234 : BitVec 32 := 1#32
  let v9469 : BitVec 32 := Scalar.muli v8 c1_i32_9234
  let v9470 : BitVec 32 := Scalar.addi v9468 v9469
  v9470.toNat
def k0_dev227 (d0 : Dev nD) : Nat :=
  let c0_i32_9272 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9271 : BitVec 32 := 8#32
  let v9505 : BitVec 32 := Scalar.muli v9 c8_i32_9271
  let v9506 : BitVec 32 := Scalar.addi c0_i32_9272 v9505
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9273 : BitVec 32 := 4#32
  let v9507 : BitVec 32 := Scalar.muli v5 c4_i32_9273
  let v9508 : BitVec 32 := Scalar.addi v9506 v9507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9274 : BitVec 32 := 1#32
  let v9509 : BitVec 32 := Scalar.muli v8 c1_i32_9274
  let v9510 : BitVec 32 := Scalar.addi v9508 v9509
  v9510.toNat
def k0_dev228 (d0 : Dev nD) : Nat :=
  let c0_i32_9361 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9360 : BitVec 32 := 8#32
  let v9603 : BitVec 32 := Scalar.muli v2 c8_i32_9360
  let v9604 : BitVec 32 := Scalar.addi c0_i32_9361 v9603
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9362 : BitVec 32 := 4#32
  let v9605 : BitVec 32 := Scalar.muli v10 c4_i32_9362
  let v9606 : BitVec 32 := Scalar.addi v9604 v9605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9363 : BitVec 32 := 1#32
  let v9607 : BitVec 32 := Scalar.muli v8 c1_i32_9363
  let v9608 : BitVec 32 := Scalar.addi v9606 v9607
  v9608.toNat
def k0_dev229 (d0 : Dev nD) : Nat :=
  let c0_i32_9375 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9374 : BitVec 32 := 8#32
  let v9615 : BitVec 32 := Scalar.muli v9 c8_i32_9374
  let v9616 : BitVec 32 := Scalar.addi c0_i32_9375 v9615
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9376 : BitVec 32 := 4#32
  let v9617 : BitVec 32 := Scalar.muli v5 c4_i32_9376
  let v9618 : BitVec 32 := Scalar.addi v9616 v9617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9377 : BitVec 32 := 1#32
  let v9619 : BitVec 32 := Scalar.muli v8 c1_i32_9377
  let v9620 : BitVec 32 := Scalar.addi v9618 v9619
  v9620.toNat
def k0_dev230 (d0 : Dev nD) : Nat :=
  let c0_i32_9397 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9396 : BitVec 32 := 8#32
  let v9633 : BitVec 32 := Scalar.muli v2 c8_i32_9396
  let v9634 : BitVec 32 := Scalar.addi c0_i32_9397 v9633
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9398 : BitVec 32 := 4#32
  let v9635 : BitVec 32 := Scalar.muli v10 c4_i32_9398
  let v9636 : BitVec 32 := Scalar.addi v9634 v9635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9399 : BitVec 32 := 1#32
  let v9637 : BitVec 32 := Scalar.muli v8 c1_i32_9399
  let v9638 : BitVec 32 := Scalar.addi v9636 v9637
  v9638.toNat
def k0_dev231 (d0 : Dev nD) : Nat :=
  let c0_i32_9437 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9436 : BitVec 32 := 8#32
  let v9673 : BitVec 32 := Scalar.muli v9 c8_i32_9436
  let v9674 : BitVec 32 := Scalar.addi c0_i32_9437 v9673
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9438 : BitVec 32 := 4#32
  let v9675 : BitVec 32 := Scalar.muli v5 c4_i32_9438
  let v9676 : BitVec 32 := Scalar.addi v9674 v9675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9439 : BitVec 32 := 1#32
  let v9677 : BitVec 32 := Scalar.muli v8 c1_i32_9439
  let v9678 : BitVec 32 := Scalar.addi v9676 v9677
  v9678.toNat
def k0_dev232 (d0 : Dev nD) : Nat :=
  let c0_i32_9535 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9534 : BitVec 32 := 8#32
  let v9777 : BitVec 32 := Scalar.muli v9 c8_i32_9534
  let v9778 : BitVec 32 := Scalar.addi c0_i32_9535 v9777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9536 : BitVec 32 := 4#32
  let v9779 : BitVec 32 := Scalar.muli v5 c4_i32_9536
  let v9780 : BitVec 32 := Scalar.addi v9778 v9779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9537 : BitVec 32 := 1#32
  let v9781 : BitVec 32 := Scalar.muli v8 c1_i32_9537
  let v9782 : BitVec 32 := Scalar.addi v9780 v9781
  v9782.toNat
def k0_dev233 (d0 : Dev nD) : Nat :=
  let c0_i32_9557 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9556 : BitVec 32 := 8#32
  let v9795 : BitVec 32 := Scalar.muli v2 c8_i32_9556
  let v9796 : BitVec 32 := Scalar.addi c0_i32_9557 v9795
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9558 : BitVec 32 := 4#32
  let v9797 : BitVec 32 := Scalar.muli v10 c4_i32_9558
  let v9798 : BitVec 32 := Scalar.addi v9796 v9797
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9559 : BitVec 32 := 1#32
  let v9799 : BitVec 32 := Scalar.muli v8 c1_i32_9559
  let v9800 : BitVec 32 := Scalar.addi v9798 v9799
  v9800.toNat
def k0_dev234 (d0 : Dev nD) : Nat :=
  let c0_i32_9597 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9596 : BitVec 32 := 8#32
  let v9835 : BitVec 32 := Scalar.muli v9 c8_i32_9596
  let v9836 : BitVec 32 := Scalar.addi c0_i32_9597 v9835
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9598 : BitVec 32 := 4#32
  let v9837 : BitVec 32 := Scalar.muli v5 c4_i32_9598
  let v9838 : BitVec 32 := Scalar.addi v9836 v9837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9599 : BitVec 32 := 1#32
  let v9839 : BitVec 32 := Scalar.muli v8 c1_i32_9599
  let v9840 : BitVec 32 := Scalar.addi v9838 v9839
  v9840.toNat
def k0_dev235 (d0 : Dev nD) : Nat :=
  let c0_i32_9695 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9694 : BitVec 32 := 8#32
  let v9939 : BitVec 32 := Scalar.muli v9 c8_i32_9694
  let v9940 : BitVec 32 := Scalar.addi c0_i32_9695 v9939
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9696 : BitVec 32 := 4#32
  let v9941 : BitVec 32 := Scalar.muli v5 c4_i32_9696
  let v9942 : BitVec 32 := Scalar.addi v9940 v9941
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9697 : BitVec 32 := 1#32
  let v9943 : BitVec 32 := Scalar.muli v8 c1_i32_9697
  let v9944 : BitVec 32 := Scalar.addi v9942 v9943
  v9944.toNat
def k0_dev236 (d0 : Dev nD) : Nat :=
  let c0_i32_9717 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9716 : BitVec 32 := 8#32
  let v9957 : BitVec 32 := Scalar.muli v2 c8_i32_9716
  let v9958 : BitVec 32 := Scalar.addi c0_i32_9717 v9957
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9718 : BitVec 32 := 4#32
  let v9959 : BitVec 32 := Scalar.muli v10 c4_i32_9718
  let v9960 : BitVec 32 := Scalar.addi v9958 v9959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9719 : BitVec 32 := 1#32
  let v9961 : BitVec 32 := Scalar.muli v8 c1_i32_9719
  let v9962 : BitVec 32 := Scalar.addi v9960 v9961
  v9962.toNat
def k0_dev237 (d0 : Dev nD) : Nat :=
  let c0_i32_9751 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9750 : BitVec 32 := 8#32
  let v9989 : BitVec 32 := Scalar.muli v9 c8_i32_9750
  let v9990 : BitVec 32 := Scalar.addi c0_i32_9751 v9989
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9752 : BitVec 32 := 4#32
  let v9991 : BitVec 32 := Scalar.muli v5 c4_i32_9752
  let v9992 : BitVec 32 := Scalar.addi v9990 v9991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9753 : BitVec 32 := 1#32
  let v9993 : BitVec 32 := Scalar.muli v8 c1_i32_9753
  let v9994 : BitVec 32 := Scalar.addi v9992 v9993
  v9994.toNat
def k0_dev238 (d0 : Dev nD) : Nat :=
  let c0_i32_9866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9865 : BitVec 32 := 8#32
  let v10105 : BitVec 32 := Scalar.muli v2 c8_i32_9865
  let v10106 : BitVec 32 := Scalar.addi c0_i32_9866 v10105
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9867 : BitVec 32 := 4#32
  let v10107 : BitVec 32 := Scalar.muli v10 c4_i32_9867
  let v10108 : BitVec 32 := Scalar.addi v10106 v10107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9868 : BitVec 32 := 1#32
  let v10109 : BitVec 32 := Scalar.muli v8 c1_i32_9868
  let v10110 : BitVec 32 := Scalar.addi v10108 v10109
  v10110.toNat
def k0_dev239 (d0 : Dev nD) : Nat :=
  let c0_i32_9900 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9899 : BitVec 32 := 8#32
  let v10137 : BitVec 32 := Scalar.muli v9 c8_i32_9899
  let v10138 : BitVec 32 := Scalar.addi c0_i32_9900 v10137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9901 : BitVec 32 := 4#32
  let v10139 : BitVec 32 := Scalar.muli v5 c4_i32_9901
  let v10140 : BitVec 32 := Scalar.addi v10138 v10139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9902 : BitVec 32 := 1#32
  let v10141 : BitVec 32 := Scalar.muli v8 c1_i32_9902
  let v10142 : BitVec 32 := Scalar.addi v10140 v10141
  v10142.toNat
def k0_dev240 (d0 : Dev nD) : Nat :=
  let c0_i32_10015 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10014 : BitVec 32 := 8#32
  let v10253 : BitVec 32 := Scalar.muli v2 c8_i32_10014
  let v10254 : BitVec 32 := Scalar.addi c0_i32_10015 v10253
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_10016 : BitVec 32 := 4#32
  let v10255 : BitVec 32 := Scalar.muli v10 c4_i32_10016
  let v10256 : BitVec 32 := Scalar.addi v10254 v10255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10017 : BitVec 32 := 1#32
  let v10257 : BitVec 32 := Scalar.muli v8 c1_i32_10017
  let v10258 : BitVec 32 := Scalar.addi v10256 v10257
  v10258.toNat
def k0_dev241 (d0 : Dev nD) : Nat :=
  let c0_i32_10130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10129 : BitVec 32 := 8#32
  let v10369 : BitVec 32 := Scalar.muli v2 c8_i32_10129
  let v10370 : BitVec 32 := Scalar.addi c0_i32_10130 v10369
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_10131 : BitVec 32 := 4#32
  let v10371 : BitVec 32 := Scalar.muli v10 c4_i32_10131
  let v10372 : BitVec 32 := Scalar.addi v10370 v10371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10132 : BitVec 32 := 1#32
  let v10373 : BitVec 32 := Scalar.muli v8 c1_i32_10132
  let v10374 : BitVec 32 := Scalar.addi v10372 v10373
  v10374.toNat
def k0_dev242 (d0 : Dev nD) : Nat :=
  let c0_i32_10245 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10244 : BitVec 32 := 8#32
  let v10485 : BitVec 32 := Scalar.muli v2 c8_i32_10244
  let v10486 : BitVec 32 := Scalar.addi c0_i32_10245 v10485
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_10246 : BitVec 32 := 4#32
  let v10487 : BitVec 32 := Scalar.muli v10 c4_i32_10246
  let v10488 : BitVec 32 := Scalar.addi v10486 v10487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10247 : BitVec 32 := 1#32
  let v10489 : BitVec 32 := Scalar.muli v8 c1_i32_10247
  let v10490 : BitVec 32 := Scalar.addi v10488 v10489
  v10490.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | .hbm, ⟨3, _⟩ => ⟨S16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Body.lean ====
module

public import proofs.«01_k».proof.Proof.Gen.KernelIdeal
public import Idealize.ShloMosaic.Lib.Tactic

@[expose] public section

namespace Cert.KernelIdeal.Own

open Idealize.ShloMosaic Idealize.SL.Sem
open Cert.KernelIdeal.Gen

variable {F : FTy → Type} [FloatOps F]

/-! ## Slots and semaphores at a number

The kernel's scratch is rings: two, four or eight blocks of 128 rows by 1024 columns, with one
semaphore per block.  Here each ring's block and semaphore is written at a variable slot number. -/

/-- A slot of a buffer of two lies inside it. -/
theorem inb2 (k : Fin 2) : ∀ a, (![k.val, 0, 0] : Fin 3 → ℕ) a + S1x128x1024.size a ≤ S2x128x1024.size a := by
  revert k; decide

/-- A slot of a buffer of four lies inside it. -/
theorem inb4 (k : Fin 4) : ∀ a, (![k.val, 0, 0] : Fin 3 → ℕ) a + S1x128x1024.size a ≤ S4x128x1024.size a := by
  revert k; decide

/-- A slot of a buffer of eight lies inside it. -/
theorem inb8 (k : Fin 8) : ∀ a, (![k.val, 0, 0] : Fin 3 → ℕ) a + S1x128x1024.size a ≤ S8x128x1024.size a := by
  revert k; decide

/-- A semaphore of two lies inside its array. -/
theorem inbS2 (k : Fin 2) : ∀ a, (![k.val] : Fin 1 → ℕ) a + S1.size a ≤ S2.size a := by
  revert k; decide

/-- A semaphore of eight lies inside its array. -/
theorem inbS8 (k : Fin 8) : ∀ a, (![k.val] : Fin 1 → ℕ) a + S1.size a ≤ S8.size a := by
  revert k; decide

/-- Block `k` of a ring of two. -/
abbrev rect2 (k : Fin 2) : Rect S2x128x1024 :=
  Rect.unit (s := S2x128x1024) ![k.val, 0, 0] S1x128x1024.size (inb2 k)

/-- Block `k` of a ring of four. -/
abbrev rect4 (k : Fin 4) : Rect S4x128x1024 :=
  Rect.unit (s := S4x128x1024) ![k.val, 0, 0] S1x128x1024.size (inb4 k)

/-- Block `k` of a ring of eight. -/
abbrev rect8 (k : Fin 8) : Rect S8x128x1024 :=
  Rect.unit (s := S8x128x1024) ![k.val, 0, 0] S1x128x1024.size (inb8 k)

/-- A slot of two bfloat16 slots is made of whole words. -/
theorem words2 (k : Fin 2) : (rect2 k).WholeWords (EltTy.packing .bf16) := by revert k; decide
/-- A slot of four bfloat16 slots is made of whole words. -/
theorem words4 (k : Fin 4) : (rect4 k).WholeWords (EltTy.packing .bf16) := by revert k; decide
/-- A slot of eight bfloat16 slots is made of whole words. -/
theorem words8 (k : Fin 8) : (rect8 k).WholeWords (EltTy.packing .bf16) := by revert k; decide
/-- The rows of a slot of two bfloat16 slots are packed whole. -/
theorem packed2 (k : Fin 2) : (rect2 k).PackedRows (EltTy.packing .bf16) := by revert k; decide
/-- The rows of a slot of four bfloat16 slots are packed whole. -/
theorem packed4 (k : Fin 4) : (rect4 k).PackedRows (EltTy.packing .bf16) := by revert k; decide

/-- The slot of a ring of two that item `j` uses. -/
abbrev m2 (j : ℕ) : Fin 2 := ⟨j % 2, Nat.mod_lt _ (by decide)⟩
/-- The slot of a ring of four that item `j` uses. -/
abbrev m4 (j : ℕ) : Fin 4 := ⟨j % 4, Nat.mod_lt _ (by decide)⟩
/-- The slot of a ring of eight that item `j` uses. -/
abbrev m8 (j : ℕ) : Fin 8 := ⟨j % 8, Nat.mod_lt _ (by decide)⟩

/-- Block `k` of a buffer of two blocks, as a matrix. -/
abbrev slot2 {e : EltTy} (m : Memref sig .tc .vmem S2x128x1024 e) (k : Fin 2) : Memref sig .tc .vmem S128x1024 e :=
  (m.slice (rect2 k) (fun _ => rfl)).squeeze S128x1024 squeezes_S1x128x1024_S128x1024

/-- Block `k` of a buffer of four blocks, as a matrix. -/
abbrev slot4 {e : EltTy} (m : Memref sig .tc .vmem S4x128x1024 e) (k : Fin 4) : Memref sig .tc .vmem S128x1024 e :=
  (m.slice (rect4 k) (fun _ => rfl)).squeeze S128x1024 squeezes_S1x128x1024_S128x1024

/-- Block `k` of a buffer of eight blocks, as a matrix. -/
abbrev slot8 {e : EltTy} (m : Memref sig .tc .vmem S8x128x1024 e) (k : Fin 8) : Memref sig .tc .vmem S128x1024 e :=
  (m.slice (rect8 k) (fun _ => rfl)).squeeze S128x1024 squeezes_S1x128x1024_S128x1024

/-- Semaphore `k` of two. -/
abbrev sem2 (m : DmaSems sig S2) (k : Fin 2) : DmaSem sig :=
  ((m.slice (Rect.unit (s := S2) ![k.val] S1.size (inbS2 k))).squeeze S_ squeezes_S1_S_).sem

/-- Semaphore `k` of eight. -/
abbrev sem8 (m : DmaSems sig S8) (k : Fin 8) : DmaSem sig :=
  ((m.slice (Rect.unit (s := S8) ![k.val] S1.size (inbS8 k))).squeeze S_ squeezes_S1_S_).sem

/-! ## The kernel's operands by name -/

/-- The device's part of the input. -/
abbrev xM : Memref sig .tc .hbm S1x16384x2048 .f32 := Memref.whole main_arg0
/-- The device's part of the result. -/
abbrev oM : Memref sig .tc .hbm S16384x1024 .bf16 := Memref.whole main_v1
/-- Staged blocks of the input to be sent. -/
abbrev xsM : Memref sig .tc .vmem S2x128x1024 .f32 := Memref.whole cc0_scratch0
/-- Staged blocks of the input for the rows the device itself reduces. -/
abbrev xdM : Memref sig .tc .vmem S2x128x1024 .f32 := Memref.whole cc0_scratch1
/-- Staged blocks of the input for the rows that arrive relayed. -/
abbrev xrM : Memref sig .tc .vmem S2x128x1024 .f32 := Memref.whole cc0_scratch2
/-- Blocks being sent to the partner along `x`. -/
abbrev sbM : Memref sig .tc .vmem S4x128x1024 .bf16 := Memref.whole cc0_scratch3
/-- Blocks received from the partner along `x`. -/
abbrev rxM : Memref sig .tc .vmem S8x128x1024 .bf16 := Memref.whole cc0_scratch4
/-- Blocks received, relayed, from the neighbour along `y`. -/
abbrev ryM : Memref sig .tc .vmem S8x128x1024 .bf16 := Memref.whole cc0_scratch5
/-- Sums for the rows the device itself reduces. -/
abbrev adM : Memref sig .tc .vmem S2x128x1024 .bf16 := Memref.whole cc0_scratch6
/-- Sums for the relayed rows. -/
abbrev arM : Memref sig .tc .vmem S2x128x1024 .bf16 := Memref.whole cc0_scratch7

/-- The semaphores of the loads of blocks to send. -/
abbrev lsS (k : Fin 2) : DmaSem sig := sem2 cc0_scratch8 k
/-- The semaphores of the loads of blocks to add to the partner's. -/
abbrev ldS (k : Fin 2) : DmaSem sig := sem2 cc0_scratch9 k
/-- The semaphores of the loads of blocks to add to the relayed ones. -/
abbrev lrS (k : Fin 2) : DmaSem sig := sem2 cc0_scratch10 k
/-- The semaphores of the direct sums' way out. -/
abbrev odS (k : Fin 2) : DmaSem sig := sem2 cc0_scratch11 k
/-- The semaphores of the relayed sums' way out. -/
abbrev orS (k : Fin 2) : DmaSem sig := sem2 cc0_scratch12 k
/-- The semaphores of what leaves along `x`. -/
abbrev sxS (k : Fin 8) : DmaSem sig := sem8 cc0_scratch13 k
/-- The semaphores of what arrives along `x`. -/
abbrev rxS (k : Fin 8) : DmaSem sig := sem8 cc0_scratch14 k
/-- The semaphores of what leaves along `y`. -/
abbrev syS (k : Fin 8) : DmaSem sig := sem8 cc0_scratch15 k
/-- The semaphores of what arrives along `y`. -/
abbrev ryS (k : Fin 8) : DmaSem sig := sem8 cc0_scratch16 k
/-- Counts the blocks the partner along `x` has room for. -/
abbrev cxS : Sem sig := cc0_scratch17.sem
/-- Counts the blocks the neighbour along `y` has room for. -/
abbrev cyS : Sem sig := cc0_scratch18.sem
/-- The barrier's semaphore. -/
abbrev baS : Sem sig := (SemArray.scalar (sig.barrier 0 rfl) : Sems sig S_).sem

/-- The partner along `x`. -/
abbrev px (d : Dev nD) : Dev nD := ⟨k0_dev1 d, k0_dev1_lt d⟩
/-- The neighbour along `y`. -/
abbrev py (d : Dev nD) : Dev nD := ⟨k0_dev2 d, k0_dev2_lt d⟩

/-- Step `j` of the 64. -/
abbrev n64 (j : ℕ) : Fin 64 := ⟨j % 64, Nat.mod_lt _ (by decide)⟩

/-- The input block sent to the partner at step `j`. -/
abbrev xsV (d : Dev nD) (j : ℕ) : Memref sig .tc .hbm S128x1024 .f32 :=
  (xM.slice (Rect.unit (s := S1x16384x2048) (k0_off1 d (BitVec.ofNat 32 (2 * (n64 j).val))) S1x128x1024.size (k0_off1_inb d (n64 j)))
    (fun _ => rfl)).squeeze S128x1024 squeezes_S1x128x1024_S128x1024
/-- The input block added to the one received from the partner at step `j`. -/
abbrev xdV (d : Dev nD) (j : ℕ) : Memref sig .tc .hbm S128x1024 .f32 :=
  (xM.slice (Rect.unit (s := S1x16384x2048) (k0_off2 d (BitVec.ofNat 32 (2 * (n64 j).val))) S1x128x1024.size (k0_off2_inb d (n64 j)))
    (fun _ => rfl)).squeeze S128x1024 squeezes_S1x128x1024_S128x1024
/-- The input block added to the one relayed by the neighbour at step `j`. -/
abbrev xrV (d : Dev nD) (j : ℕ) : Memref sig .tc .hbm S128x1024 .f32 :=
  (xM.slice (Rect.unit (s := S1x16384x2048) (k0_off3 d (BitVec.ofNat 32 (2 * (n64 j).val))) S1x128x1024.size (k0_off3_inb d (n64 j)))
    (fun _ => rfl)).squeeze S128x1024 squeezes_S1x128x1024_S128x1024
/-- The result's block of the directly reduced rows of step `j`. -/
abbrev odV (d : Dev nD) (j : ℕ) : Memref sig .tc .hbm S128x1024 .bf16 :=
  oM.slice (Rect.unit (s := S16384x1024) (k0_off4 d (BitVec.ofNat 32 (2 * (n64 j).val))) S128x1024.size (k0_off4_inb d (n64 j))) (fun _ => rfl)
/-- The result's block of the relayed rows of step `j`. -/
abbrev orV (d : Dev nD) (j : ℕ) : Memref sig .tc .hbm S128x1024 .bf16 :=
  oM.slice (Rect.unit (s := S16384x1024) (k0_off5 d (BitVec.ofNat 32 (2 * (n64 j).val))) S128x1024.size (k0_off5_inb d (n64 j))) (fun _ => rfl)

/-- A copy of one slot of two moves whole words. -/
theorem ow2 (m : Memref sig .tc .vmem S2x128x1024 .bf16) (hm : m.IsWhole) (k : Fin 2) : (slot2 m k).view.WordExact :=
  (hm.wordExact_slice rfl _ (words2 k)).reshape _ _
/-- A copy of one slot of four moves whole words. -/
theorem ow4 (m : Memref sig .tc .vmem S4x128x1024 .bf16) (hm : m.IsWhole) (k : Fin 4) : (slot4 m k).view.WordExact :=
  (hm.wordExact_slice rfl _ (words4 k)).reshape _ _
/-- A copy of one slot of eight moves whole words. -/
theorem ow8 (m : Memref sig .tc .vmem S8x128x1024 .bf16) (hm : m.IsWhole) (k : Fin 8) : (slot8 m k).view.WordExact :=
  (hm.wordExact_slice rfl _ (words8 k)).reshape _ _
/-- A copy to a direct sum's rows moves whole words. -/
theorem wod (d : Dev nD) (j : ℕ) : (odV d j).view.WordExact :=
  (Memref.isWhole_whole _ : oM.IsWhole).wordExact_slice rfl _ (k0_off4_wordsbf16 d (n64 j))
/-- A copy to a relayed sum's rows moves whole words. -/
theorem wor (d : Dev nD) (j : ℕ) : (orV d j).view.WordExact :=
  (Memref.isWhole_whole _ : oM.IsWhole).wordExact_slice rfl _ (k0_off5_wordsbf16 d (n64 j))
/-- A copy of one float32 slot moves whole words. -/
theorem wf2 (m : Memref sig .tc .vmem S2x128x1024 .f32) (k : Fin 2) : (slot2 m k).view.WordExact :=
  (View.wordExact_bits rfl).reshape _ _

/-- A program that runs one thread of the kernel. -/
abbrev TProg (F : FTy → Type) (α : Type) : Type 1 := Prog (TpuEff nD τ sig (Elt F) Λ₀ .tc) α

/-! ## The kernel's operations -/

/-- Start copying a block of the input into slot `k` of a ring of two. -/
abbrev startLoad (src : Memref sig .tc .hbm S128x1024 .f32) (m : Memref sig .tc .vmem S2x128x1024 .f32)
    (k : Fin 2) (sm : DmaSem sig) : TProg F PUnit :=
  Prog.lift (.enqueueDma src (.here (slot2 m k)) (.dma sm) (View.wordExact_bits rfl) (wf2 m k) ⟨Or.inl rfl, trivial⟩)

/-- Wait for that copy. -/
abbrev waitLoad (src : Memref sig .tc .hbm S128x1024 .f32) (m : Memref sig .tc .vmem S2x128x1024 .f32)
    (k : Fin 2) (sm : DmaSem sig) : TProg F PUnit :=
  Prog.lift (.waitDma2 sm src (slot2 m k) (View.wordExact_bits rfl) (wf2 m k))

/-- Read slot `k` of a ring of two. -/
abbrev load2 {e : EltTy} (m : Memref sig .tc .vmem S2x128x1024 e) (k : Fin 2) : TProg F (Vec F S1x128x1024 e) :=
  Prog.lift (.load m (rect2 k).toLoadRect (View.loadsAt_vmem h_S1x128x1024))

/-- Read slot `k` of a ring of four. -/
abbrev load4 {e : EltTy} (m : Memref sig .tc .vmem S4x128x1024 e) (k : Fin 4) : TProg F (Vec F S1x128x1024 e) :=
  Prog.lift (.load m (rect4 k).toLoadRect (View.loadsAt_vmem h_S1x128x1024))

/-- Read slot `k` of a ring of eight. -/
abbrev load8 {e : EltTy} (m : Memref sig .tc .vmem S8x128x1024 e) (k : Fin 8) : TProg F (Vec F S1x128x1024 e) :=
  Prog.lift (.load m (rect8 k).toLoadRect (View.loadsAt_vmem h_S1x128x1024))

/-- A block of the input rounded to the format that travels. -/
abbrev rnd (v : Vec F S1x128x1024 .f32) : Vec F S1x128x1024 .bf16 :=
  shapeCast S1x128x1024 (truncf .bf16 (shapeCast S128x1024 v shapeCasts_S1x128x1024_S128x1024) bitsLt_bf16_f32)
    shapeCasts_S128x1024_S1x128x1024

/-- A rounded block of the input plus a block received. -/
abbrev addB (v : Vec F S1x128x1024 .f32) (w : Vec F S1x128x1024 .bf16) : Vec F S1x128x1024 .bf16 :=
  shapeCast S1x128x1024
    (addf (truncf .bf16 (shapeCast S128x1024 v shapeCasts_S1x128x1024_S128x1024) bitsLt_bf16_f32)
      (shapeCast S128x1024 w shapeCasts_S1x128x1024_S128x1024))
    shapeCasts_S128x1024_S1x128x1024

/-- Round staged block `j` into its slot of the send ring. -/
def fill (j : ℕ) : TProg F PUnit := do
  let v ← load2 xsM (m2 j)
  let _ ← load4 sbM (m4 j)
  Prog.lift (.store sbM (rect4 (m4 j)) (rnd v) Finset.univ (View.stores_vmem h_S1x128x1024
    ((Memref.isWhole_whole _ : sbM.IsWhole).storeExact_slice rfl _ (packed4 (m4 j))) (fun _ => rfl)) (.inl rfl))

/-- Send block `j` to the partner along `x`. -/
abbrev sendX (d : Dev nD) (j : ℕ) : TProg F PUnit :=
  Prog.lift (.enqueueDma (slot4 sbM (m4 j)) (.remote (Dev.tc (px d)) (slot8 rxM (m8 j)) (.dma (sxS (m8 j)))) (.dma (rxS (m8 j)))
    (ow4 sbM (Memref.isWhole_whole _) _) (ow8 rxM (Memref.isWhole_whole _) _) ⟨⟨rfl, Or.inl rfl⟩, trivial⟩)

/-- Relay block `j`, received from the partner, to the neighbour along `y`. -/
abbrev sendY (d : Dev nD) (j : ℕ) : TProg F PUnit :=
  Prog.lift (.enqueueDma (slot8 rxM (m8 j)) (.remote (Dev.tc (py d)) (slot8 ryM (m8 j)) (.dma (syS (m8 j)))) (.dma (ryS (m8 j)))
    (ow8 rxM (Memref.isWhole_whole _) _) (ow8 ryM (Memref.isWhole_whole _) _) ⟨⟨rfl, Or.inl rfl⟩, trivial⟩)

/-- Wait until block `j` has arrived from the partner. -/
abbrev waitRX (j : ℕ) : TProg F PUnit :=
  Prog.lift (.waitDma2 (rxS (m8 j)) (slot4 sbM (m4 j)) (slot8 rxM (m8 j))
    (ow4 sbM (Memref.isWhole_whole _) _) (ow8 rxM (Memref.isWhole_whole _) _))

/-- Wait until block `j` has left for the partner. -/
abbrev waitSX (j : ℕ) : TProg F PUnit :=
  Prog.lift (.waitDma2 (sxS (m8 j)) (slot8 rxM (m8 j)) (slot4 sbM (m4 j))
    (ow8 rxM (Memref.isWhole_whole _) _) (ow4 sbM (Memref.isWhole_whole _) _))

/-- Wait until relayed block `j` has arrived. -/
abbrev waitRY (j : ℕ) : TProg F PUnit :=
  Prog.lift (.waitDma2 (ryS (m8 j)) (slot8 rxM (m8 j)) (slot8 ryM (m8 j))
    (ow8 rxM (Memref.isWhole_whole _) _) (ow8 ryM (Memref.isWhole_whole _) _))

/-- Wait until block `j` has left for the neighbour. -/
abbrev waitSY (j : ℕ) : TProg F PUnit :=
  Prog.lift (.waitDma2 (syS (m8 j)) (slot8 ryM (m8 j)) (slot8 rxM (m8 j))
    (ow8 ryM (Memref.isWhole_whole _) _) (ow8 rxM (Memref.isWhole_whole _) _))

/-- Start copying a sum into its block of the result. -/
abbrev startOut (m : Memref sig .tc .vmem S2x128x1024 .bf16) (hm : m.IsWhole) (k : Fin 2)
    (dst : Memref sig .tc .hbm S128x1024 .bf16) (h : dst.view.WordExact) (sm : DmaSem sig) : TProg F PUnit :=
  Prog.lift (.enqueueDma (slot2 m k) (.here dst) (.dma sm) (ow2 m hm k) h ⟨Or.inl rfl, trivial⟩)

/-- Wait for that copy. -/
abbrev waitOut (m : Memref sig .tc .vmem S2x128x1024 .bf16) (hm : m.IsWhole) (k : Fin 2)
    (dst : Memref sig .tc .hbm S128x1024 .bf16) (h : dst.view.WordExact) (sm : DmaSem sig) : TProg F PUnit :=
  Prog.lift (.waitDma2 sm (slot2 m k) dst (ow2 m hm k) h)

/-- Add the staged block in slot `k` of `m` to the received block `kr` of `r`, into slot `k` of `a`. -/
def accum (m : Memref sig .tc .vmem S2x128x1024 .f32) (r : Memref sig .tc .vmem S8x128x1024 .bf16)
    (a : Memref sig .tc .vmem S2x128x1024 .bf16) (ha : a.IsWhole) (k : Fin 2) (kr : Fin 8) : TProg F PUnit := do
  let v ← load2 m k
  let w ← load8 r kr
  let _ ← load2 a k
  Prog.lift (.store a (rect2 k) (addB v w) Finset.univ (View.stores_vmem h_S1x128x1024
    (ha.storeExact_slice rfl _ (packed2 k)) (fun _ => rfl)) (.inl rfl))

/-- Take one unit of a count. -/
abbrev take (s : Sem sig) : TProg F PUnit := semWaitWord s 1#32
/-- Give one unit of a count to another device. -/
abbrev give (d : Dev nD) (s : Sem sig) : TProg F PUnit := semSignalWord d s 1#32

/-- A block of the program under a condition. -/
abbrev cond (c : Prop) [Decidable c] (p : TProg F PUnit) : TProg F PUnit :=
  if c then p else pure ⟨⟩

/-- Start the load of block `j` to send. -/
abbrev startLS (d : Dev nD) (j : ℕ) : TProg F PUnit := startLoad (xsV d j) xsM (m2 j) (lsS (m2 j))
/-- Wait for the load of block `j` to send. -/
abbrev waitLS (d : Dev nD) (j : ℕ) : TProg F PUnit := waitLoad (xsV d j) xsM (m2 j) (lsS (m2 j))
/-- Start the load of block `j` of the direct sum. -/
abbrev startLD (d : Dev nD) (j : ℕ) : TProg F PUnit := startLoad (xdV d j) xdM (m2 j) (ldS (m2 j))
/-- Wait for the load of block `j` of the direct sum. -/
abbrev waitLD (d : Dev nD) (j : ℕ) : TProg F PUnit := waitLoad (xdV d j) xdM (m2 j) (ldS (m2 j))
/-- Start the load of block `j` of the relayed sum. -/
abbrev startLR (d : Dev nD) (j : ℕ) : TProg F PUnit := startLoad (xrV d j) xrM (m2 j) (lrS (m2 j))
/-- Wait for the load of block `j` of the relayed sum. -/
abbrev waitLR (d : Dev nD) (j : ℕ) : TProg F PUnit := waitLoad (xrV d j) xrM (m2 j) (lrS (m2 j))
/-- Start writing direct sum `j` out. -/
abbrev startOD (d : Dev nD) (j : ℕ) : TProg F PUnit :=
  startOut adM (Memref.isWhole_whole _) (m2 j) (odV d j) (wod d j) (odS (m2 j))
/-- Wait until direct sum `j` is out. -/
abbrev waitOD (d : Dev nD) (j : ℕ) : TProg F PUnit :=
  waitOut adM (Memref.isWhole_whole _) (m2 j) (odV d j) (wod d j) (odS (m2 j))
/-- Start writing relayed sum `j` out. -/
abbrev startOR (d : Dev nD) (j : ℕ) : TProg F PUnit :=
  startOut arM (Memref.isWhole_whole _) (m2 j) (orV d j) (wor d j) (orS (m2 j))
/-- Wait until relayed sum `j` is out. -/
abbrev waitOR (d : Dev nD) (j : ℕ) : TProg F PUnit :=
  waitOut arM (Memref.isWhole_whole _) (m2 j) (orV d j) (wor d j) (orS (m2 j))

/-! ## One step, and the whole body -/

/-- Send block `v`: wait for its load, and for its slot of the send ring, round it, start the next load,
    and send it once the partner has room. -/
def sendPart (d : Dev nD) (v : ℕ) : TProg F PUnit := do
  waitLS d v
  cond (4 ≤ v) (waitSX (v - 4))
  fill v
  cond (v + 2 < 64) (startLS d (v + 2))
  cond (8 ≤ v) (take cxS)
  sendX d v

/-- Reduce block `s` of the device's own rows. -/
def directPart (d : Dev nD) (s : ℕ) : TProg F PUnit := do
  waitLD d s
  cond (s + 1 < 64) (startLD d (s + 1))
  cond (2 ≤ s) (waitOD d (s - 2))
  accum xdM rxM adM (Memref.isWhole_whole _) (m2 s) (m8 s)
  startOD d s

/-- Reduce block `t` of the relayed rows. -/
def relayPart (d : Dev nD) (t : ℕ) : TProg F PUnit := do
  waitRY t
  waitLR d t
  cond (t + 1 < 64) (startLR d (t + 1))
  cond (2 ≤ t) (waitOR d (t - 2))
  accum xrM ryM arM (Memref.isWhole_whole _) (m2 t) (m8 t)
  startOR d t

/-- Step `s`. -/
def step (d : Dev nD) (s : ℕ) : TProg F PUnit := do
  waitRX s
  cond (8 ≤ s) (take cyS)
  sendY d s
  cond (s + 3 < 64) (sendPart d (s + 3))
  directPart d s
  cond (1 ≤ s) do
    relayPart d (s - 1)
    cond (s - 1 + 8 < 64) (give (py d) cyS)
  cond (3 ≤ s) do
    waitSY (s - 3)
    cond (s - 3 + 8 < 64) (give (px d) cxS)

/-- The steps that remain when `k` of the 64 do. -/
def loop (d : Dev nD) (k : ℕ) : TProg F PUnit :=
  Nat.rec (pure ⟨⟩) (fun k r => step d (63 - k) >>= fun _ => r) k

/-- What comes before the steps: the first loads, the barrier with both neighbours, the first three sends. -/
def prologue (d : Dev nD) : TProg F PUnit := do
  startLS d 0
  startLS d 1
  startLD d 0
  startLR d 0
  give (px d) baS
  give (py d) baS
  semWaitWord baS 2#32
  sendPart d 0
  sendPart d 1
  sendPart d 2

/-- What comes after the steps: the last relayed block, and the waits for everything still under way. -/
def epilogue (d : Dev nD) : TProg F PUnit := do
  relayPart d 63
  waitSX 60
  waitSX 61
  waitSX 62
  waitSX 63
  waitSY 61
  waitSY 62
  waitSY 63
  waitOD d 62
  waitOR d 62
  waitOD d 63
  waitOR d 63

/-- The kernel's body. -/
def body : TProg F PUnit := do
  let d ← Prog.lift .deviceId
  prologue d
  loop d 64
  epilogue d

set_option Elab.async false
set_option maxRecDepth 100000

/-- The program's text is that body. -/
theorem body_eq : (cc0_body (Memref.whole main_arg0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15
    cc0_scratch16 cc0_scratch17 cc0_scratch18 : TProg F PUnit) = body := by
  sl_kernel_rfl

end Cert.KernelIdeal.Own
-- ==== Proof.KernelIdeal.Ops.lean ====
module

public import proofs.«01_k».proof.Proof.KernelIdeal.Body
public import Idealize.ShloMosaic.Lib.Pipeline.Launch
public import Idealize.ShloMosaic.Lib.Pipeline.Kit
public import Idealize.ShloMosaic.Lib.Pipeline.Value
public import Idealize.ShloMosaic.Lib.Release
public import Idealize.ShloMosaic.Lib.Transfers
public import Idealize.ShloMosaic.Lib.Tactic

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

/-! ## The ghost state

Beside the pipeline's own component: the rounds of the shared semaphores, the records of the receive slots, and the
counters of the transfers whose both ends are on one device. -/

/-- A receive slot of a device: the ring (`true` for blocks from the partner, `false` for relayed blocks) and its number. -/
abbrev Key : Type := Dev nD × Bool × Fin 8

/-- The ghost state: the launch's own, rounds, slots and counters. -/
abbrev UU : Type := UR sig nD τ × (URounds (GSem nD τ sig) ℕ × (USlots Key × Counters))

local notation "𝕄" => MT nD τ sig ℕ (Elt F) ℕ UU ℕ

/-- Where the launch's ghost state lies. -/
abbrev EP : Emb (UR sig nD τ) (MT nD τ sig ℕ (Elt F) ℕ UU ℕ) := embL
/-- Where the rounds lie. -/
abbrev ER : Emb (URounds (GSem nD τ sig) ℕ) (MT nD τ sig ℕ (Elt F) ℕ UU ℕ) :=
  (Emb.inl : Emb (URounds (GSem nD τ sig) ℕ) (URounds (GSem nD τ sig) ℕ × (USlots Key × Counters))).trans embR
/-- Where the slots lie. -/
abbrev ES : Emb (USlots Key) (MT nD τ sig ℕ (Elt F) ℕ UU ℕ) :=
  ((Emb.inl : Emb (USlots Key) (USlots Key × Counters)).trans
    (Emb.inr : Emb (USlots Key × Counters) (URounds (GSem nD τ sig) ℕ × (USlots Key × Counters)))).trans embR
/-- Where the counters lie. -/
abbrev EC : UEmb Counters (MT nD τ sig ℕ (Elt F) ℕ UU ℕ) := countersEmb

/-- The rounds may be used in invariants. -/
instance er_lands : (ER (F := F)).LandsIn (upEmb : UEmb _ 𝕄) := by unfold ER; infer_instance
/-- The slots may be used in invariants. -/
instance es_lands : (ES (F := F)).LandsIn (upEmb : UEmb _ 𝕄) := by unfold ES; infer_instance
/-- The counters may be used in invariants. -/
instance ec_lands : (EC (F := F)).LandsIn (upEmb : UEmb _ 𝕄) := by infer_instance

/-! ## Running the kernel's thread -/

/-- The kernel has no loop that needs a variant. -/
abbrev 𝒱₀ : Variants := Variants.none

/-- The thread of device `c` runs `p` and then `Q` holds. -/
abbrev wpc (c : Dev nD) {α : Type} (p : TProg F α) (Q : α → sProp 𝕄) : sProp 𝕄 :=
  wp frame (wpE (defs₀ (F := F)) 𝒱₀ (c : Thread nD τ) none) Set.univ p Q

/-- What device `c` still owes, whatever it has waited for. -/
def ow (c : Dev nD) (O : CellTallies nD τ sig ℕ) : sProp 𝕄 := iprop(∃ W, owes (c : Thread nD τ) O W)

/-- A device holds a block, at any contents. -/
abbrev idle (c : Dev nD) {sp : Space} {s : Shape} {e : EltTy} (m : Memref sig .tc sp s e) : sProp 𝕄 :=
  slot (m.view.loc (c : Thread nD τ)) m.view.set

/-- A device holds the share `q` of a block and reads `X` in it. -/
abbrev has (c : Dev nD) {sp : Space} {s : Shape} {e : EltTy} (m : Memref sig .tc sp s e) (q : PosShare TreeShare)
    (X : s.Idx → Elt F e) : sProp 𝕄 :=
  owns (c : Thread nD τ) m q X

variable (c : Dev nD)

/-- A buffer with known contents has some contents. -/
theorem has_idle {sp : Space} {s : Shape} {e : EltTy} {m : Memref sig .tc sp s e} {X : s.Idx → Elt F e} :
    has c m fullShare X ⊢ idle c m := by
  unfold has owns idle slot
  iintro ⟨%f, -, H⟩
  iexists f
  iexact H

/-- A share of a block splits into two, and the two join: both read the same. -/
theorem has_split {sp : Space} {s : Shape} {e : EltTy} {m : Memref sig .tc sp s e} {q : PosShare TreeShare} {X : s.Idx → Elt F e} :
    has c m q X ⊢ iprop(has c m q.left X ∗ has c m q.right X) := by
  unfold has owns
  iintro ⟨%f, %hf, H⟩
  ihave H := (pointsTo_share (q := q) (q₁ := q.left) (q₂ := q.right) (PosShare.mem_left_op_right q)).1 $$ H
  icases H with ⟨H1, H2⟩
  isplitl [H1]
  · iexists f; isplitr; · ipureintro; exact hf
    iexact H1
  · iexists f; isplitr; · ipureintro; exact hf
    iexact H2

/-- Two shares of a buffer hold the same contents and join. -/
theorem has_join {sp : Space} {s : Shape} {e : EltTy} {m : Memref sig .tc sp s e} {q : PosShare TreeShare} {X Y : s.Idx → Elt F e} :
    iprop(has c m q.left X ∗ has c m q.right Y) ⊢ has c m q X := by
  unfold has owns
  iintro ⟨⟨%f, %hf, H1⟩, ⟨%g, -, H2⟩⟩
  ihave H := (persistent_entails_right (pointsTo_agree (ℓ := m.view.loc (c : Thread nD τ)) (I := m.view.set) (J := m.view.set)
    (q₁ := q.left) (q₂ := q.right) (f := f) (g := g))) $$ [H1 H2]
  · isplitl [H1] <;> iassumption
  icases H with ⟨%h, H1, H2⟩
  have hc : ∀ i ∈ m.view.set, g i = f i := fun i hi => ((h i (Finset.mem_inter.mpr ⟨hi, hi⟩)).1).symm
  ihave H2 := (Entails.of_eq (pointsTo_congr (ℓ := m.view.loc (c : Thread nD τ)) (q := q.right) hc)) $$ H2
  iexists f
  isplitr; · ipureintro; exact hf
  iapply (pointsTo_share (q := q) (q₁ := q.left) (q₂ := q.right) (PosShare.mem_left_op_right q)).2
  isplitl [H1] <;> iassumption

/-! ## Loads and stores of a ring's slot -/

section Slots

variable {α : Type} {Q : α → sProp (MT nD τ sig ℕ (Elt F) ℕ UU ℕ)} {s : Shape} {e : EltTy} {m : Memref sig .tc .vmem s e} {r : Rect s}
  {hr : ∀ a, r.stride a = 1} {h : r.shape.Squeezes S128x1024}

/-- Loading the block a slot holds. -/
theorem wp_loadSlot {hl : m.view.LoadsAt r.toLoadRect} {K : (r.shape.Idx → Elt F e) → TProg F α} {q : PosShare TreeShare}
    {X : S128x1024.Idx → Elt F e} (h' : S128x1024.ShapeCasts r.shape) :
    has c ((m.slice r hr).squeeze S128x1024 h) q X
      ⊢ iprop((has c ((m.slice r hr).squeeze S128x1024 h) q X -∗ wpc c (K (shapeCast r.shape X h')) Q)
          -∗ wpc c (.op (.load m r.toLoadRect hl) K) Q) := by
  unfold has owns
  iintro ⟨%f, %hf, H⟩ Hk
  have hs : ((m.slice r hr).squeeze S128x1024 h).view.set = (m.access r).set := View.set_reshape _ _
  have hv : (m.access r).read (Elt F) f = shapeCast r.shape X h' := by
    rw [← hf]
    funext x
    show _ = (m.access r).read (Elt F) f (Shape.reshapeEquiv _ (Shape.reshapeEquiv _ x))
    rw [Shape.reshapeEquiv_reshapeEquiv, Shape.reshapeEquiv_self]
  iapply (wp_load_rect 𝒱₀ (c : Thread nD τ) none Set.univ (m := m) (r := r) (hl := hl) (f := f)
    (S := ((m.slice r hr).squeeze S128x1024 h).view.set) (q := q) (subset_of_eq hs.symm)) $$ H
  iintro H
  rw [hv]
  iapply Hk
  iexists f
  isplitr; · ipureintro; exact hf
  iexact H

/-- Loading a slot whatever it holds. -/
theorem wp_loadIdle {hl : m.view.LoadsAt r.toLoadRect} {K : (r.shape.Idx → Elt F e) → TProg F α}  :
    idle c ((m.slice r hr).squeeze S128x1024 h)
      ⊢ iprop((∀ v, idle c ((m.slice r hr).squeeze S128x1024 h) -∗ wpc c (K v) Q)
          -∗ wpc c (.op (.load m r.toLoadRect hl) K) Q) := by
  unfold idle slot
  iintro ⟨%f, H⟩ Hk
  have hs : ((m.slice r hr).squeeze S128x1024 h).view.set = (m.access r).set := View.set_reshape _ _
  iapply (wp_load_rect 𝒱₀ (c : Thread nD τ) none Set.univ (m := m) (r := r) (hl := hl) (f := f)
    (S := ((m.slice r hr).squeeze S128x1024 h).view.set) (q := fullShare) (subset_of_eq hs.symm)) $$ H
  iintro H
  iapply Hk
  iexists f
  iexact H

/-- Storing a block into a slot. -/
theorem wp_storeSlot {X : S128x1024.Idx → Elt F e} {h' : S128x1024.ShapeCasts r.shape}
    {hx : (m.access r).Stores Finset.univ}
    {hm : (Finset.univ : Finset r.shape.Idx) = Finset.univ ∨ ∀ a, r.stride a = 1}
    {K : PUnit → TProg F α} {w : r.shape.Idx → Elt F e} (hw : w = shapeCast r.shape X h') :
    idle c ((m.slice r hr).squeeze S128x1024 h)
      ⊢ iprop((has c ((m.slice r hr).squeeze S128x1024 h) fullShare X -∗ wpc c (K ⟨⟩) Q)
          -∗ wpc c (.op (.store m r w Finset.univ hx hm) K) Q) := by
  subst hw
  unfold idle slot has owns
  iintro ⟨%f, H⟩ Hk
  have hs : ((m.slice r hr).squeeze S128x1024 h).view.set = (m.access r).set := View.set_reshape _ _
  iapply (wp_store 𝒱₀ (c : Thread nD τ) none Set.univ (m := m) (r := r) (w := shapeCast r.shape X h') (Mk := Finset.univ) (f := f)
    (S := ((m.slice r hr).squeeze S128x1024 h).view.set) (subset_of_eq hs.symm)) $$ H
  iintro H
  iapply Hk
  iexists ((m.access r).write (Elt F) f (shapeCast r.shape X h') Finset.univ)
  isplitr
  · ipureintro
    funext x
    show (m.access r).read (Elt F) ((m.access r).write (Elt F) f (shapeCast r.shape X h') Finset.univ) (Shape.reshapeEquiv _ x) = X x
    rw [View.read_write_univ]
    show X (Shape.reshapeEquiv _ (Shape.reshapeEquiv _ x)) = X x
    rw [Shape.reshapeEquiv_reshapeEquiv, Shape.reshapeEquiv_self]
  iexact H

end Slots

/-! ## Copies on one device -/

section Copies

variable {α : Type} {Q : α → sProp (MT nD τ sig ℕ (Elt F) ℕ UU ℕ)} {s : Shape} {e : EltTy} {sp sp' : Space}

/-- Start a copy on one device: what it will bring is the block at its destination, and the source's share back. -/
theorem wp_copyStart {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {K : PUnit → TProg F α} {q : PosShare TreeShare} {X : s.Idx → Elt F e} (hp : 0 < s.numel) :
    iprop(has c src q X ∗ idle c dst ∗ semVal ((c : Thread nD τ), .dma sm) 0)
      ⊢ iprop((Flight EC (c : Thread nD τ) (.dma sm) 0 dst.view.dmaCredit iprop(has c dst fullShare X ∗ has c src q X)
              -∗ wpc c (K ⟨⟩) Q)
          -∗ wpc c (.op (.enqueueDma src (.here dst) (.dma sm) hsrc hdst hsem) K) Q) := by
  unfold has owns idle slot
  iintro ⟨⟨%f, %hf, Hs⟩, ⟨%g, Hd⟩, Hv⟩ Hk
  iapply (Transfers.wp_dmaLocal EC 𝒱₀ (c : Thread nD τ) none (src := src) (dst := dst) (via := .same) (sm := .dma sm) 0 dst.view.dmaCredit rfl
    (View.dmaCredit_pos _ hp) (Finset.Subset.refl _) (q := q) (fs := f) (fd := g)) $$ [Hs Hd Hv]
  · isplitl [Hs]; · iexact Hs
    isplitl [Hd] <;> iassumption
  iintro HF
  iapply Hk
  iapply (Transfers.Flight_mono EC (c : Thread nD τ) (D := iprop(_ ∗ _)) ?_) $$ HF
  iintro ⟨Hd, Hs⟩
  isplitl [Hd]
  · iexists _
    isplitr; swap; · iexact Hd
    ipureintro
    rw [View.read_write_univ, ← hf]
  · iexists f
    isplitr; · ipureintro; exact hf
    iexact Hs

/-- Wait for such a copy, or for the departure of a block sent elsewhere. -/
theorem wp_flightWait {srcw : Memref sig .tc sp' s e} {dstw : Memref sig .tc sp s e} {sem : DmaSem sig}
    {hsrc : srcw.view.WordExact} {hdst : dstw.view.WordExact}
    {K : PUnit → TProg F α} {N : ℕ} (hN : dstw.view.dmaCredit = N) {D : sProp 𝕄} {O : CellTallies nD τ sig ℕ} :
    iprop(Flight EC (c : Thread nD τ) (.dma sem) 0 N D ∗ ow c O ∗ MayWait (c : Thread nD τ) (.dma sem) 0 O)
      ⊢ iprop((iprop(D ∗ semVal ((c : Thread nD τ), .dma sem) 0 ∗ ow c O) -∗ wpc c (K ⟨⟩) Q)
          -∗ wpc c (.op (.waitDma2 sem srcw dstw hsrc hdst) K) Q) := by
  unfold ow
  iintro ⟨HF, ⟨%W, HO⟩, Hm⟩ Hk
  iapply (Transfers.wp_waitLocalO EC 𝒱₀ (c : Thread nD τ) none (0 : ℕ) hN (D := D) (O := O) (W := W)) $$ [HF HO Hm]
  · isplitl [HF]; · iexact HF
    isplitl [HO] <;> iassumption
  iintro ⟨HD, Hv, HO⟩
  iapply Hk
  isplitl [HD]; · iexact HD
  isplitl [Hv]; · iexact Hv
  iexists _
  iexact HO

end Copies

end Cert.KernelIdeal.Own

end
-- ==== Proof.KernelIdeal.Sched.lean ====
module

public import proofs.«01_k».proof.Proof.KernelIdeal.Ops

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

/-! ## What travels -/

variable (m : (ℓ : Loc nD τ sig) → Buf (Elt F) ℓ)

/-- The blocks of its input that device `c` reads at step `j`: the one it sends, the one it adds to the partner's, and
    the one it adds to the relayed one. -/
def xsB (c : Dev nD) (j : ℕ) : S128x1024.Idx → Elt F .f32 :=
  (xsV c j).view.read (Elt F) (m ((xsV c j).view.loc (c : Thread nD τ)))
/-- The block device `c` adds to its partner's at step `j`. -/
def xdB (c : Dev nD) (j : ℕ) : S128x1024.Idx → Elt F .f32 :=
  (xdV c j).view.read (Elt F) (m ((xdV c j).view.loc (c : Thread nD τ)))
/-- The block device `c` adds to the relayed one at step `j`. -/
def xrB (c : Dev nD) (j : ℕ) : S128x1024.Idx → Elt F .f32 :=
  (xrV c j).view.read (Elt F) (m ((xrV c j).view.loc (c : Thread nD τ)))

/-- The block device `c` sends at step `j`. -/
def sendVal (c : Dev nD) (j : ℕ) : S128x1024.Idx → Elt F .bf16 :=
  (truncf .bf16 (xsB m c j : Vec F S128x1024 .f32) bitsLt_bf16_f32 : Vec F S128x1024 .bf16)

/-- The `x` partner's `x` partner is the device itself. -/
theorem px_px (c : Dev nD) : px (px c) = c := by revert c; decide
/-- The `y` partner's `y` partner is the device itself. -/
theorem py_py (c : Dev nD) : py (py c) = c := by revert c; decide
/-- The two partners differ. -/
theorem px_ne_py (c : Dev nD) : px c ≠ py c := by revert c; decide

/-! ## The shared semaphores -/

/-- The semaphores of a device that others pay: one per receive slot of either ring, the two counts of free slots, and
    the barrier. -/
abbrev CK : Type := Fin 8 ⊕ (Fin 8 ⊕ Fin 3)

/-- The semaphore of receive slot `k` along `x`. -/
abbrev rx (k : Fin 8) : CK := .inl k
/-- The semaphore of receive slot `k` along `y`. -/
abbrev ry (k : Fin 8) : CK := .inr (.inl k)
/-- The count of free slots along `x`. -/
abbrev cx : CK := .inr (.inr 0)
/-- The count of free slots along `y`. -/
abbrev cy : CK := .inr (.inr 1)
/-- The barrier semaphore. -/
abbrev ba : CK := .inr (.inr 2)

/-- Where each of these semaphores is. -/
def semOf : CK → SemLoc sig
  | .inl k => .dma (rxS k)
  | .inr (.inl k) => .dma (ryS k)
  | .inr (.inr k) => .reg (if k = 0 then cxS else if k = 1 then cyS else baS)

/-- No two of them are the same. -/
theorem semOf_injective : Function.Injective semOf := by
  intro a b; revert a b; decide

/-- One of these semaphores on device `c`. -/
abbrev cell (c : Dev nD) (x : CK) : GSem nD τ sig := ((c : Thread nD τ), semOf x)

/-- Which of those semaphores `s` is. -/
def kindOf (s : SemLoc sig) : Option CK := by
  classical
  exact if h : ∃ x, semOf x = s then some h.choose else none

/-- `kindOf` recognises each of them. -/
theorem kindOf_semOf (x : CK) : kindOf (semOf x) = some x := by
  unfold kindOf
  have h : ∃ y, semOf y = semOf x := ⟨x, rfl⟩
  rw [dif_pos h, semOf_injective h.choose_spec]

/-- The bytes of a block that travels, as its semaphores count them. -/
abbrev blkN : ℕ := (slot8 rxM 0).view.dmaCredit

/-- A block has bytes. -/
theorem blkN_pos : 0 < blkN := View.dmaCredit_pos _ (by decide)

/-! ## Records of free receive slots -/

/-- The semaphore of receive slot `k` of either ring. -/
abbrev rk (b : Bool) (k : Fin 8) : CK := bif b then rx k else ry k

/-- Receive slot of device `p` in ring `b` is free for block `j`. -/
def rel (b : Bool) (p : Dev nD) (j : ℕ) : sProp 𝕄 :=
  iprop(released ES (p, b, m8 j) (j / 8 + 1) ∗ reached ER (cell p (rk b (m8 j))) (j / 8))

/-- A record of a free slot stays true. -/
instance rel_persistent (b : Bool) (p : Dev nD) (j : ℕ) : BI.Persistent (rel b p j : sProp 𝕄) := by unfold rel; infer_instance
/-- A record of a free slot may be kept in an invariant. -/
instance rel_storable (b : Bool) (p : Dev nD) (j : ℕ) : Storable (upEmb : UEmb _ 𝕄) (rel b p j) := by unfold rel; infer_instance

/-- The first `n` blocks may all be sent to ring `b` of device `p`. -/
def hist (b : Bool) (p : Dev nD) (n : ℕ) : sProp 𝕄 := bigSep (Finset.range n) (rel b p)

/-- Records of free slots stay true. -/
instance hist_persistent (b : Bool) (p : Dev nD) (n : ℕ) : BI.Persistent (hist b p n : sProp 𝕄) := by unfold hist; infer_instance
/-- Records of free slots may be kept in an invariant. -/
instance hist_storable (b : Bool) (p : Dev nD) (n : ℕ) : Storable (upEmb : UEmb _ 𝕄) (hist b p n) := by unfold hist; infer_instance

/-- Records of more blocks give those of fewer. -/
theorem hist_mono {b : Bool} {p : Dev nD} {n n' : ℕ} (h : n ≤ n') : (hist b p n' : sProp 𝕄) ⊢ hist b p n :=
  bigSep_subset (Finset.range_subset_range.mpr h)

/-- The records of `n` blocks hold that of each of them. -/
theorem hist_elim {b : Bool} {p : Dev nD} {n j : ℕ} (h : j < n) : (hist b p n : sProp 𝕄) ⊢ rel b p j :=
  bigSep_elim (Finset.mem_range.mpr h)

/-- One record more. -/
theorem hist_succ {b : Bool} {p : Dev nD} {n : ℕ} : iprop(hist b p n ∗ rel b p n) ⊢ (hist b p (n + 1) : sProp 𝕄) := by
  unfold hist
  rw [Finset.range_add_one, bigSep_insert Finset.notMem_range_self]
  show _ ⊢ iprop(rel b p n ∗ bigSep (Finset.range n) (rel b p))
  iintro ⟨H1, H2⟩
  isplitl [H2] <;> iassumption

/-- What a receive slot is. -/
def slotRes (k : Key) : sProp 𝕄 := if k.2.1 then idle k.1 (slot8 rxM k.2.2) else idle k.1 (slot8 ryM k.2.2)

/-- A receive slot may be kept in an invariant. -/
instance slotRes_storable (k : Key) : Storable (upEmb : UEmb _ 𝕄) (slotRes k) := by
  unfold slotRes; split <;> infer_instance

/-- Nobody holds a buffer twice. -/
theorem idle_idle_false {c : Dev nD} {m : Memref sig .tc .vmem S128x1024 .bf16} : iprop(idle c m ∗ idle c m) ⊢ (False : sProp 𝕄) :=
  Release.slot_slot_false ⟨_, m.view.emb_mem_set (fun a => ⟨0, by revert a; decide⟩)⟩

/-- Nobody holds a receive slot twice. -/
theorem slotRes_false (k : Key) : iprop(slotRes k ∗ slotRes k) ⊢ (False : sProp 𝕄) := by
  unfold slotRes; split <;> exact idle_idle_false

/-! ## The schedule -/

/-- The duties of a round: one for each block in the eight rounds of a receive slot, one for each credit in the single round of a count, one for each partner in the barrier's. -/
def dutiesK : Option CK → ℕ → Finset ℕ
  | some (.inl _), r => if r < 8 then {0} else ∅
  | some (.inr (.inl _)), r => if r < 8 then {0} else ∅
  | some (.inr (.inr k)), r => if r = 0 then (if k = 2 then {0, 1} else Finset.range 56) else ∅
  | none, _ => ∅

/-- What each duty pays: a block's bytes, or one. -/
def amountK : Option CK → ℕ
  | some (.inl _) => blkN
  | some (.inr (.inl _)) => blkN
  | _ => 1

/-- What device `c` is handed with duty `u` of round `r`: the received block; with a count of free slots, or with the
    barrier, the record of the slots free so far. -/
def payK (c : Dev nD) : Option CK → ℕ → ℕ → sProp 𝕄
  | some (.inl k), r, _ => has c (slot8 rxM k) fullShare (sendVal m (px c) (8 * r + k.val))
  | some (.inr (.inl k)), r, _ => has c (slot8 ryM k) fullShare (sendVal m (px (py c)) (8 * r + k.val))
  | some (.inr (.inr k)), _, u =>
    if k = 0 then hist true (px c) (u + 9) else if k = 1 then hist false (py c) (u + 9)
    else if u = 0 then hist true (px c) 8 else hist false (py c) 8
  | none, _, _ => iprop(emp)

/-- What is handed over may be kept in an invariant. -/
instance payK_storable (c : Dev nD) (x : Option CK) (r u : ℕ) : Storable (upEmb : UEmb _ 𝕄) (payK m c x r u) := by
  rcases x with _ | k | k | k
  · unfold payK; infer_instance
  · unfold payK; infer_instance
  · unfold payK; infer_instance
  · unfold payK; dsimp only; split
    · infer_instance
    · split
      · infer_instance
      · split <;> infer_instance

/-- The schedule of all semaphores. -/
def Rd : Rounds.Schedule (GSem nD τ sig) ℕ 𝕄 where
  duties g r := dutiesK (kindOf g.2) r
  amount g _ _ := amountK (kindOf g.2)
  payload g r u := payK m g.1.1 (kindOf g.2) r u
  amount_pos g r d _ := by
    show 0 < amountK (kindOf g.2)
    unfold amountK
    split
    · exact blkN_pos
    · exact blkN_pos
    · exact Nat.one_pos

/-- Every payload of the schedule may be kept in an invariant. -/
instance Rd_storable (g : GSem nD τ sig) (r u : ℕ) : Storable (upEmb : UEmb _ 𝕄) ((Rd m).payload g r u) :=
  payK_storable m _ _ _ _

/-- The duties at a shared semaphore. -/
theorem duties_cell (c : Dev nD) (x : CK) (r : ℕ) : (Rd m).duties (cell c x) r = dutiesK (some x) r := by
  show dutiesK (kindOf (semOf x)) r = _
  rw [kindOf_semOf]
/-- The amount of a duty at a shared semaphore. -/
theorem amount_cell (c : Dev nD) (x : CK) (r u : ℕ) : (Rd m).amount (cell c x) r u = amountK (some x) := by
  show amountK (kindOf (semOf x)) = _
  rw [kindOf_semOf]
/-- The payload of a duty at a shared semaphore. -/
theorem pay_cell (c : Dev nD) (x : CK) (r u : ℕ) : (Rd m).payload (cell c x) r u = payK m c (some x) r u := by
  show payK m c (kindOf (semOf x)) r u = _
  rw [kindOf_semOf]

/-- What a round of a shared semaphore sums up to. -/
theorem expect_cell (c : Dev nD) (x : CK) (r : ℕ) : (Rd m).expect (cell c x) r = (dutiesK (some x) r).card * amountK (some x) := by
  show ∑ u ∈ (Rd m).duties (cell c x) r, (Rd m).amount (cell c x) r u = _
  rw [duties_cell, Finset.sum_congr rfl (fun u _ => amount_cell m c x r u), Finset.sum_const, smul_eq_mul]

/-! ## What every device knows -/

/-- The semaphore `g` follows the schedule. -/
def cinv (g : GSem nD τ sig) : sProp 𝕄 := iprop(∃ κ : ℕ, cellInv ER (Rd m) κ g)
/-- That a semaphore follows the schedule stays true. -/
instance cinv_persistent (g : GSem nD τ sig) : BI.Persistent (cinv m g : sProp 𝕄) := by unfold cinv; infer_instance

/-- The receive slot `k` goes back and forth between its reader and its writer. -/
def sinv (k : Key) : sProp 𝕄 := iprop(∃ ι : ℕ, slotInv ES ι k (slotRes k))
/-- That a receive slot goes back and forth stays true. -/
instance sinv_persistent (k : Key) : BI.Persistent (sinv k : sProp 𝕄) := by unfold sinv; infer_instance

/-- Indices of a wait: they grow along the run, and a device waits only below everything it still owes. -/
def Lv (g : GSem nD τ sig) : Finset ℕ := if g.1.2 = .tc then Finset.range 2000 else ∅
/-- A wait's level is its index. -/
def lv (_ : GSem nD τ sig) (i : ℕ) : ℕ := i

/-- What every device knows: the invariants of all semaphores and slots, and the order of waits. -/
def Ctx : sProp 𝕄 :=
  iprop((bigSep Finset.univ fun x : Dev nD × CK => cinv m (cell x.1 x.2)) ∗ (bigSep Finset.univ sinv) ∗ levAts Lv lv
    ∗ (bigSep Finset.univ fun x : Dev nD × CK => reached ER (cell x.1 x.2) 0))

/-- What every device knows stays true. -/
instance Ctx_persistent : BI.Persistent (Ctx m : sProp 𝕄) := by unfold Ctx; infer_instance

/-- Every shared semaphore follows the schedule. -/
theorem Ctx_cell (c : Dev nD) (x : CK) : (Ctx m : sProp 𝕄) ⊢ cinv m (cell c x) := by
  unfold Ctx
  iintro ⟨H, -, -, -⟩
  have h : (bigSep Finset.univ fun x : Dev nD × CK => (cinv m (cell x.1 x.2) : sProp 𝕄)) ⊢ cinv m (cell c x) :=
    bigSep_elim (Finset.mem_univ (c, x))
  iapply h $$ H

/-- Every receive slot goes back and forth. -/
theorem Ctx_slot (k : Key) : (Ctx m : sProp 𝕄) ⊢ sinv k := by
  unfold Ctx
  iintro ⟨-, H, -, -⟩
  have h : (bigSep Finset.univ sinv : sProp 𝕄) ⊢ sinv k := bigSep_elim (Finset.mem_univ k)
  iapply h $$ H

/-- Every shared semaphore has reached round zero. -/
theorem Ctx_reached (c : Dev nD) (x : CK) : (Ctx m : sProp 𝕄) ⊢ reached ER (cell c x) 0 := by
  unfold Ctx
  iintro ⟨-, -, -, H⟩
  have h : (bigSep Finset.univ fun x : Dev nD × CK => (reached ER (cell x.1 x.2) 0 : sProp 𝕄)) ⊢ reached ER (cell c x) 0 :=
    bigSep_elim (Finset.mem_univ (c, x))
  iapply h $$ H

/-! ## Waiting below what is owed -/

/-- Everything in `O` is owed above `ι`. -/
def Above (ι : ℕ) (O : CellTallies nD τ sig ℕ) : Prop := ∀ g i, 0 < O g i → ι < i ∧ i < 2000 ∧ g.1.2 = .tc

/-- Nothing owed is above every index. -/
theorem Above.zero (ι : ℕ) : Above ι 0 := fun g i h => absurd h (by simp)
/-- Two debts above an index are above it together. -/
theorem Above.add {ι : ℕ} {O O' : CellTallies nD τ sig ℕ} (h : Above ι O) (h' : Above ι O') : Above ι (O + O') :=
  fun g i hi => (Pipeline.add_pos_cases hi).elim (h g i) (h' g i)
/-- What is above an index is above every lower one. -/
theorem Above.mono {ι ι' : ℕ} {O : CellTallies nD τ sig ℕ} (h : Above ι O) (hι : ι' ≤ ι) : Above ι' O :=
  fun g i hi => ⟨lt_of_le_of_lt hι (h g i hi).1, (h g i hi).2⟩
/-- A single debt is above every lower index. -/
theorem Above.tally {ι i n : ℕ} {c : Dev nD} {s : SemLoc sig} (h : ι < i) (h' : i < 2000) :
    Above ι (tallyAt ((c : Thread nD τ), s) i n) := fun g j hj => by
  obtain ⟨rfl, rfl⟩ := Pipeline.tallyAt_pos hj
  exact ⟨h, h', rfl⟩
/-- A sum of debts above an index is above it. -/
theorem Above.sum {ι : ℕ} {S : Finset ℕ} {f : ℕ → CellTallies nD τ sig ℕ} (h : ∀ x ∈ S, Above ι (f x)) : Above ι (∑ x ∈ S, f x) :=
  fun g i hi => by
    obtain ⟨x, hx, hp⟩ := Pipeline.sum_pos_exists hi
    exact h x hx g i hp
/-- A debt that may not be there is above an index if it is when it is there. -/
theorem Above.ite {ι : ℕ} {p : Prop} [Decidable p] {O : CellTallies nD τ sig ℕ} (h : p → Above ι O) : Above ι (if p then O else 0) := by
  by_cases hp : p
  · rw [if_pos hp]; exact h hp
  · rw [if_neg hp]; exact Above.zero ι

/-- A device may wait below what it owes. -/
theorem Ctx_mayWait {c : Dev nD} {s : SemLoc sig} {ι : ℕ} {O : CellTallies nD τ sig ℕ} (h : Above ι O) (hι : ι < 2000) :
    (Ctx m : sProp 𝕄) ⊢ MayWait (c : Thread nD τ) s ι O := by
  unfold Ctx
  iintro ⟨-, -, H, -⟩
  iapply (Pipeline.mayWait_of_levAts (L := Lv) (lev := lv) ?_ ?_) $$ H
  · show ι ∈ Lv _
    unfold Lv
    rw [if_pos rfl]
    exact Finset.mem_range.mpr hι
  · intro g i hi
    obtain ⟨h1, h2, h3⟩ := h g i hi
    refine ⟨?_, h1⟩
    unfold Lv
    rw [if_pos h3]
    exact Finset.mem_range.mpr h2

end Cert.KernelIdeal.Own

end
-- ==== Proof.KernelIdeal.Moves.lean ====
module

public import proofs.«01_k».proof.Proof.KernelIdeal.Sched
public import Idealize.SL.BI.BigOpNat

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## Families over a window of steps -/

section Windows

variable {M : Type} [URA M]

/-- Take the first of a family. -/
theorem fam_pop {a b : ℕ} (h : a < b) (Φ : ℕ → sProp M) :
    (bigSep (Finset.Ico a b) Φ : sProp M) ⊢ iprop(Φ a ∗ bigSep (Finset.Ico (a + 1) b) Φ) :=
  Entails.of_eq (Idealize.SL.BI.bigSep_Ico_succ_bot h Φ)

/-- Append one. -/
theorem fam_push {a b : ℕ} (h : a ≤ b) (Φ : ℕ → sProp M) :
    iprop(bigSep (Finset.Ico a b) Φ ∗ Φ b) ⊢ (bigSep (Finset.Ico a (b + 1)) Φ : sProp M) :=
  sep_comm.1.trans (Entails.of_eq (Idealize.SL.BI.bigSep_Ico_succ_top h Φ).symm)

/-- Give the first back where another is put. -/
theorem fam_one (a : ℕ) (Φ : ℕ → sProp M) : (Φ a : sProp M) ⊢ bigSep (Finset.Ico a (a + 1)) Φ :=
  Entails.of_eq (Idealize.SL.BI.bigSep_Ico_one a Φ).symm

/-- An empty stretch of a family is nothing. -/
theorem fam_none {a b : ℕ} (h : b ≤ a) (Φ : ℕ → sProp M) : (iprop(emp) : sProp M) ⊢ bigSep (Finset.Ico a b) Φ := by
  rw [Finset.Ico_eq_empty (by omega)]
  exact .rfl

end Windows

/-! ## Blocks read through a view -/

/-- A block that reads as the contents `g` do holds `g` there. -/
theorem has_pointsTo {sp : Space} {s : Shape} {e : EltTy} {v : Memref sig .tc sp s e} {q : PosShare TreeShare}
    {X : s.Idx → Elt F e} {g : Buf (Elt F) (v.view.loc (c : Thread nD τ))} (hX : v.view.read (Elt F) g = X) :
    (has c v q X : sProp 𝕄) ⊢ (v.view.loc (c : Thread nD τ) ↦[v.view.set]{q} g) := by
  unfold has owns
  iintro ⟨%f, %hf, H⟩
  have hc : ∀ i ∈ v.view.set, f i = g i := by
    intro i hi
    obtain ⟨x, -, rfl⟩ := Finset.mem_map.mp hi
    have h := congrFun (hf.trans hX.symm) x
    rw [View.read_apply, View.read_apply] at h
    exact (cast_bijective _).1 h
  iapply (Entails.of_eq (pointsTo_congr (ℓ := v.view.loc (c : Thread nD τ)) (q := q) hc)) $$ H

/-- The elements of a buffer that a view covers are the view's contents. -/
theorem pointsTo_has {sp : Space} {s : Shape} {e : EltTy} {v : Memref sig .tc sp s e} {q : PosShare TreeShare}
    {X : s.Idx → Elt F e} {g : Buf (Elt F) (v.view.loc (c : Thread nD τ))} (hX : v.view.read (Elt F) g = X) :
    (v.view.loc (c : Thread nD τ) ↦[v.view.set]{q} g) ⊢ (has c v q X : sProp 𝕄) := by
  unfold has owns
  iintro H
  iexists g
  isplitr; · ipureintro; exact hX
  iexact H

/-! ## Sending, and the shared counts -/

section Moves

variable {α : Type} {Q : α → sProp (MT nD τ sig ℕ (Elt F) ℕ UU ℕ)} {K : PUnit → TProg F α}

/-- Send a block into a receive slot of device `p`: its arrival fulfils the duty `u` of round `r` there. -/
theorem wp_send {src dst : Memref sig .tc .vmem S128x1024 .bf16} {sS sR : DmaSem sig} {p : Dev nD} {x : CK} (hx : semOf x = .dma sR)
    {hsrc : src.view.WordExact} {hdst : dst.view.WordExact} {hsc : dst.view.ref.isScScratch = false}
    {hsem : DmaTarget.Typed (nD := nD) (τ := τ) (p := .tc) .vmem (.dma sR) (.remote (Dev.tc p) dst (.dma sS) hsc)}
    {q : PosShare TreeShare} {X : S128x1024.Idx → Elt F .bf16} {r u ι : ℕ} {O : CellTallies nD τ sig ℕ}
    (hd : u ∈ dutiesK (some x) r) (ha : amountK (some x) = blkN) (hs : src.view.dmaCredit = blkN) (hN : dst.view.dmaCredit = blkN)
    (hp : (has p dst fullShare X : sProp 𝕄) ⊢ payK m p (some x) r u) :
    iprop(Ctx m ∗ has c src q X ∗ idle p dst ∗ semVal ((c : Thread nD τ), .dma sS) 0 ∗ ow c (O + tallyAt (cell p x) ι blkN)
        ∗ dutyTok ER (cell p x) r u ∗ reached ER (cell p x) r)
      ⊢ iprop((iprop(Flight EC (c : Thread nD τ) (.dma sS) 0 blkN (has c src q X) ∗ ow c O) -∗ wpc c (K ⟨⟩) Q)
          -∗ wpc c (.op (.enqueueDma src (.remote (Dev.tc p) dst (.dma sS) hsc) (.dma sR) hsrc hdst hsem) K) Q) := by
  iintro ⟨#HC, Hs, Hd, Hv, HO, Htok, #Hre⟩ Hk
  ihave HI := (Ctx_cell m p x) $$ HC
  unfold cinv ow has owns idle slot
  icases HI with ⟨%κ, #HI⟩
  icases Hs with ⟨%f, %hf, Hs⟩
  icases Hd with ⟨%g, Hd⟩
  icases HO with ⟨%W, HO⟩
  ihave Hfl := (Transfers.flight_alloc EC (g := ((c : Thread nD τ), .dma sS)) (N := blkN) blkN_pos
    (src.view.loc (c : Thread nD τ) ↦[src.view.set]{q} f) (E := Set.univ)) $$ Hv
  imod Hfl with ⟨%γ, %δ, %ι', #Hinv, Hγ, Hδ⟩
  have hamt : dst.view.amount (.dma sR) = blkN := hN
  have hland : iprop(cellInv ER (Rd m) κ (cell p x) ∗ dutyTok ER (cell p x) r u ∗ reached ER (cell p x) r)
      ⊢ (creditUpdate (cell p x) blkN 0 (dst.view.loc (p : Thread nD τ) ↦[dst.view.set]{fullShare}
          (dst.view.write (Elt F) g (src.view.read (Elt F) f) Finset.univ)) : sProp 𝕄) := by
    have h := Rounds.land_credit ER (Rd m) (g := cell p x) (r := r) (d := u) (κ := κ) (by rw [duties_cell]; exact hd)
      (X := iprop(dst.view.loc (p : Thread nD τ) ↦[dst.view.set]{fullShare}
          (dst.view.write (Elt F) g (src.view.read (Elt F) f) Finset.univ))) (by
        rw [pay_cell]
        refine (pointsTo_has p ?_).trans hp
        rw [View.read_write_univ]; exact hf)
    rw [amount_cell, ha] at h
    exact h
  unfold cell at hland
  rw [hx] at hland
  iapply (wp_enqueueDma_remote 𝒱₀ (c : Thread nD τ) none Set.univ (c' := (p : Thread nD τ)) (src := src) (dst := dst) (hsc := hsc)
    (sS := .dma sS) (sem := .dma sR) false ι 0 O blkN hamt (by show _ = O + tallyAt ((p : Thread nD τ), SemLoc.dma sR) ι blkN; rw [← hx])
    (R := iprop(dst.view.loc (p : Thread nD τ) ↦[dst.view.set]{fullShare}
          (dst.view.write (Elt F) g (src.view.read (Elt F) f) Finset.univ)))) $$ [Hs Hd HO] [Hγ] [Htok] [Hk Hδ]
  · isplitl [Hs]; · iexact Hs
    isplitl [Hd]
    · iapply (pointsTo_writeUpdate (p : Thread nD τ) (v := dst.view) (Finset.Subset.refl _)) $$ Hd
    · iexact HO
  · iapply (Transfers.flight_creditUpdate EC (δ := δ) (ι := ι'))
    isplitr; · iexact Hinv
    iexact Hγ
  · iapply hland
    unfold cell
    rw [hx]
    isplitr; · iexact HI
    isplitl [Htok]; · iexact Htok
    iexact Hre
  · iintro ⟨Hcr, HO⟩
    iapply Hk
    isplitl [Hδ Hcr]
    · have hmono := Transfers.Flight_mono EC (c : Thread nD τ) (sm := .dma sS) (ι := (0 : ℕ)) (N := blkN) (pointsTo_has (F := F) c (v := src) (q := q) hf)
      unfold has owns at hmono
      iapply hmono
      iapply (Transfers.flight_intro EC (c : Thread nD τ) (κ := ι') (γ := γ) (δ := δ))
      isplitr; · iexact Hinv
      isplitl [Hδ] <;> iassumption
    · iexists W
      iexact HO

/-- Wait for the block that fills receive slot `x` in round `r`. -/
theorem wp_recv {src dst : Memref sig .tc .vmem S128x1024 .bf16} {sR : DmaSem sig} {x : CK} (hx : semOf x = .dma sR)
    {hsrc : src.view.WordExact} {hdst : dst.view.WordExact} (hN : dst.view.dmaCredit = blkN)
    {r ι : ℕ} {O : CellTallies nD τ sig ℕ} (hd : dutiesK (some x) r = {0}) (ha : amountK (some x) = blkN)
    (hO : Above ι O) (hι : ι < 2000) :
    iprop(Ctx m ∗ cred (tallyAt (cell c x) ι blkN) ∗ ow c O ∗ atPos ER (cell c x) r ∅ 0)
      ⊢ iprop((iprop(payK m c (some x) r 0 ∗ ow c O ∗ atPos ER (cell c x) (r + 1) ∅ 0 ∗ reached ER (cell c x) (r + 1)) -∗ wpc c (K ⟨⟩) Q)
          -∗ wpc c (.op (.waitDma2 sR src dst hsrc hdst) K) Q) := by
  iintro ⟨#HC, Hcr, HO, Hat⟩ Hk
  ihave HI := (Ctx_cell m c x) $$ HC
  ihave HM := (Ctx_mayWait m (c := c) (s := .dma sR) hO hι) $$ HC
  unfold cinv ow
  icases HI with ⟨%κ, #HI⟩
  icases HO with ⟨%W, HO⟩
  have hdd := duties_cell m c x r
  have hpp := pay_cell m c x r 0
  have hee := expect_cell m c x r
  rw [hd] at hdd
  rw [hd, ha, Finset.card_singleton, one_mul] at hee
  unfold cell at hdd hpp hee ⊢
  rw [hx] at hdd hpp hee
  rw [← hpp]
  have key := Rounds.wp_wait_rest_token (Q := Q) (k := K) (T := ∅) (m := 0) (R := r) (O := O) (W := W) 𝒱₀ ER (Rd m) (c : Thread nD τ) none
    (fun X => wpE_waitDma2_eq (defs := defs₀ (F := F)) (𝒱 := 𝒱₀) (c := (c : Thread nD τ)) (bd := none) (E := Set.univ)
      (sem := sR) (src := src) (dst := dst) (hsrc := hsrc) (hdst := hdst) X)
    (Set.mem_univ κ) ι (by rw [hN, hee, zero_add])
  rw [hN, Finset.sdiff_empty, hdd, bigSep_singleton] at key
  rw [hx]
  iapply key $$ [Hcr HO Hat]
  · isplitr; · iexact HI
    isplitl [Hcr]; · iexact Hcr
    isplitl [HO]; · iexact HO
    isplitr; · iexact HM
    iexact Hat
  iintro ⟨HO, Hat, Hre, Hp⟩
  iapply Hk
  isplitl [Hp]; · iexact Hp
  isplitl [HO]; · iexists _; iexact HO
  isplitl [Hat] <;> iassumption

/-- Pay duty `u` of the first round of a count. -/
theorem wp_give {sm : Sem sig} {p : Dev nD} {x : CK} (hx : semOf x = .reg sm) {u ι : ℕ} {O : CellTallies nD τ sig ℕ}
    (hd : u ∈ dutiesK (some x) 0) (ha : amountK (some x) = 1) :
    iprop(Ctx m ∗ ow c (O + tallyAt (cell p x) ι 1) ∗ dutyTok ER (cell p x) 0 u ∗ payK m p (some x) 0 u ∗ reached ER (cell p x) 0)
      ⊢ iprop((ow c O -∗ wpc c (K ⟨⟩) Q) -∗ wpc c (.op (.semSignal (Dev.tc p) sm (1#32).toInt) K) Q) := by
  rw [show (1#32).toInt = ((1 : ℕ) : ℤ) from rfl]
  have hI := Ctx_cell m p x
  have hdd := duties_cell m p x 0
  have hpp := pay_cell m p x 0 u
  have haa := amount_cell m p x 0 u
  rw [ha] at haa
  rw [← hpp]
  unfold cell at hI hdd hpp haa ⊢
  rw [hx] at hI hdd hpp haa ⊢
  iintro ⟨#HC, HO, Htok, Hp, #Hre⟩ Hk
  ihave HI := hI $$ HC
  unfold cinv ow
  icases HI with ⟨%κ, #HI⟩
  icases HO with ⟨%W, HO⟩
  iapply (Rounds.wp_signal (Q := Q) (k := K) 𝒱₀ ER (Rd m) (c : Thread nD τ) none (defs := defs₀ (F := F)) (Es := Set.univ) (κ := κ) (W := W)
    (dst := (p : Thread nD τ)) (sem := sm) (r := 0) (d := u) (k' := 1)
    (by rw [hdd]; exact hd) haa ι O rfl) $$ [HO Htok Hp]
  · isplitr; · iexact HI
    isplitl [HO]; · iexact HO
    isplitl [Htok]; · iexact Htok
    isplitl [Hp]; · iexact Hp
    iexact Hre
  iintro HO
  iapply Hk
  iexists W
  iexact HO

/-- Where a device stands on a count of free slots: it has taken `n` of the 56 units. -/
def takenAt (c : Dev nD) (x : CK) (n : ℕ) : sProp 𝕄 :=
  if n < 56 then
    iprop(∃ T : Finset ℕ, ⌜T ⊆ Finset.range 56⌝ ∗ atPos ER (cell c x) 0 T n ∗ bigSep T fun u => payK m c (some x) 0 u)
  else atPos ER (cell c x) 1 ∅ 0

/-- Take a unit of a count: after `n + 1` of them, one of the records received is at least the `n`-th. -/
theorem wp_take {sm : Sem sig} {x : CK} (hx : semOf x = .reg sm) {b : Bool} {p : Dev nD} {n ι : ℕ} {O : CellTallies nD τ sig ℕ}
    (hd : dutiesK (some x) 0 = Finset.range 56) (ha : amountK (some x) = 1) (hp : ∀ u, (payK m c (some x) 0 u : sProp 𝕄) = hist b p (u + 9))
    (hn : n < 56) (hO : Above ι O) (hι : ι < 2000) :
    iprop(Ctx m ∗ cred (tallyAt (cell c x) ι 1) ∗ ow c O ∗ takenAt m c x n)
      ⊢ iprop((iprop(hist b p (n + 9) ∗ ow c O ∗ takenAt m c x (n + 1)) -∗ wpc c (K ⟨⟩) Q)
          -∗ wpc c (.op (.semWait sm (1#32).toInt) K) Q) := by
  rw [show (1#32).toInt = ((1 : ℕ) : ℤ) from rfl]
  have hpay : ∀ T : Finset ℕ, ∀ d ∈ T, n ≤ d → (bigSep T (fun u => payK m c (some x) 0 u) : sProp 𝕄) ⊢ hist b p (n + 9) := by
    intro T d hdT hnd
    refine (bigSep_elim (Φ := fun u => payK m c (some x) 0 u) hdT).trans ?_
    rw [hp]
    exact hist_mono (by omega)
  have hper : ∀ u, BI.Persistent (payK m c (some x) 0 u : sProp 𝕄) := fun u => by rw [hp]; infer_instance
  have hI := Ctx_cell m c x
  have hM := Ctx_mayWait m (c := c) (s := .reg sm) hO hι
  have hdd := duties_cell m c x 0
  have hpp := fun u => pay_cell m c x 0 u
  have hee := expect_cell m c x 0
  rw [hd] at hdd
  rw [hd, ha, Finset.card_range, mul_one] at hee
  unfold takenAt
  unfold cell at hI hdd hpp hee ⊢
  rw [hx] at hI hdd hpp hee ⊢
  rw [if_pos hn]
  by_cases hl : n + 1 < 56
  · rw [if_pos hl]
    have key := fun (T : Finset ℕ) (W : Waits sig ℕ) (κ : ℕ) =>
      Rounds.wp_wait (Q := Q) (k := K) (T := T) (m := n) (R := 0) (O := O) (W := W) (κ := κ) (cr := Finsupp.single ι 1) (k' := 1)
      𝒱₀ ER (Rd m) (c : Thread nD τ) none
      (fun X => wpE_semWait_eq (defs := defs₀ (F := F)) (𝒱 := 𝒱₀) (c := (c : Thread nD τ)) (bd := none) (E := Set.univ)
        (sem := sm) (k := 1) X)
      (Set.mem_univ κ) {(SemLoc.reg sm, ι)} (by rw [Util.total_single]) (image_single_subset (SemLoc.reg sm) ι 1)
    simp only [hdd, hee, hpp] at key
    iintro ⟨#HC, Hcr, HO, Hat⟩ Hk
    ihave HI := hI $$ HC
    ihave HM := hM $$ HC
    unfold cinv ow
    icases HI with ⟨%κ, #HI⟩
    icases HO with ⟨%W, HO⟩
    icases Hat with ⟨%T, %hT, Hat, #HT⟩
    iapply (key T W κ) $$ [Hcr HO Hat]
    · isplitr; · iexact HI
      isplitl [Hcr]; · iexact Hcr
      isplitl [HO]; · iexact HO
      isplitr; · iexact HM
      iexact Hat
    iintro %S ⟨%hS, HO, Hat, HS⟩
    have hall : iprop(bigSep T (fun u => payK m c (some x) 0 u) ∗ bigSep (S \ T) (fun u => payK m c (some x) 0 u))
        ⊢ (bigSep S (fun u => payK m c (some x) 0 u) : sProp 𝕄) := Entails.of_eq (bigSep_sdiff_split hS.1).symm
    ihave #HS' := hall $$ [HS]
    · isplitr; · iexact HT
      iexact HS
    have hex : ∃ d ∈ S, n ≤ d := by
      by_contra hcon
      push Not at hcon
      have h1 : S ⊆ Finset.range n := fun d hd => Finset.mem_range.mpr (hcon d hd)
      have h2 := Finset.card_le_card h1
      have h3 := Finset.card_sdiff_add_card_eq_card hS.2.1
      rw [Finset.card_range] at h2 h3
      have := hS.2.2
      omega
    obtain ⟨d, hdS, hnd⟩ := hex
    iapply Hk
    isplitr; · iapply (hpay S d hdS hnd) $$ HS'
    isplitl [HO]; · iexists _; iexact HO
    iexists S
    isplitr; · ipureintro; exact hS.2.1
    isplitl [Hat]; · iexact Hat
    iexact HS'
  · rw [if_neg hl]
    have key := fun (T : Finset ℕ) (W : Waits sig ℕ) (κ : ℕ) =>
      Rounds.wp_wait_rest_token (Q := Q) (k := K) (T := T) (m := n) (R := 0) (O := O) (W := W) (κ := κ) (k' := 1)
      𝒱₀ ER (Rd m) (c : Thread nD τ) none
      (fun X => wpE_semWait_eq (defs := defs₀ (F := F)) (𝒱 := 𝒱₀) (c := (c : Thread nD τ)) (bd := none) (E := Set.univ)
        (sem := sm) (k := 1) X)
      (Set.mem_univ κ) ι (by rw [hee]; omega)
    simp only [hdd, hpp] at key
    iintro ⟨#HC, Hcr, HO, Hat⟩ Hk
    ihave HI := hI $$ HC
    ihave HM := hM $$ HC
    unfold cinv ow
    icases HI with ⟨%κ, #HI⟩
    icases HO with ⟨%W, HO⟩
    icases Hat with ⟨%T, %hT, Hat, #HT⟩
    iapply (key T W κ) $$ [Hcr HO Hat]
    · isplitr; · iexact HI
      isplitl [Hcr]; · iexact Hcr
      isplitl [HO]; · iexact HO
      isplitr; · iexact HM
      iexact Hat
    iintro ⟨HO, Hat, -, HS⟩
    have hall : iprop(bigSep T (fun u => payK m c (some x) 0 u) ∗ bigSep (Finset.range 56 \ T) (fun u => payK m c (some x) 0 u))
        ⊢ (bigSep (Finset.range 56) (fun u => payK m c (some x) 0 u) : sProp 𝕄) := Entails.of_eq (bigSep_sdiff_split hT).symm
    ihave #HS' := hall $$ [HS]
    · isplitr; · iexact HT
      iexact HS
    iapply Hk
    isplitr; · iapply (hpay (Finset.range 56) n (Finset.mem_range.mpr hn) le_rfl) $$ HS'
    isplitl [HO]; · iexists _; iexact HO
    iexact Hat

end Moves

end Cert.KernelIdeal.Own

end
-- ==== Proof.KernelIdeal.Parts.lean ====
module

public import proofs.«01_k».proof.Proof.KernelIdeal.Moves

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## Running in sequence -/

section Seq

variable {α β : Type}

/-- The run of a sequence is the run of its first part, then of the rest. -/
theorem wpc_bind (p : TProg F α) (k : α → TProg F β) (Q : β → sProp (MT nD τ sig ℕ (Elt F) ℕ UU ℕ)) :
    wpc c (p >>= k) Q = wpc c p (fun a => wpc c (k a) Q) := wp_bind _ _ _ _ _ _

/-- A program that returns has run. -/
theorem wpc_ret (a : α) (Q : α → sProp (MT nD τ sig ℕ (Elt F) ℕ UU ℕ)) : Q a ⊢ wpc c (.ret a) Q := by
  show Q a ⊢ iprop(|={Set.univ}=> Q a)
  iintro H
  imodintro
  iexact H

end Seq

/-- An operation's rule, its continuation put last. -/
theorem lift_rule {e : TpuEff nD τ sig (Elt F) Λ₀ .tc PUnit} {A B : sProp (MT nD τ sig ℕ (Elt F) ℕ UU ℕ)}
    (h : ∀ (K : PUnit → TProg F PUnit) (Q : PUnit → sProp (MT nD τ sig ℕ (Elt F) ℕ UU ℕ)),
      A ⊢ iprop((B -∗ wpc c (K ⟨⟩) Q) -∗ wpc c (.op e K) Q))
    (Q : PUnit → sProp (MT nD τ sig ℕ (Elt F) ℕ UU ℕ)) :
    A ⊢ iprop((B -∗ Q ⟨⟩) -∗ wpc c (Prog.lift e) Q) := by
  show A ⊢ iprop((B -∗ Q ⟨⟩) -∗ wpc c (.op e .ret) Q)
  iintro HA Hk
  iapply (h .ret Q) $$ HA
  iintro HB
  iapply (wpc_ret c ⟨⟩ Q)
  iapply Hk
  iexact HB

/-- A part of the program under a condition. -/
theorem cond_rule {p : Prop} [Decidable p] {q : TProg F PUnit} {A B : sProp (MT nD τ sig ℕ (Elt F) ℕ UU ℕ)}
    (h1 : p → ∀ Q : PUnit → sProp (MT nD τ sig ℕ (Elt F) ℕ UU ℕ), A ⊢ iprop((B -∗ Q ⟨⟩) -∗ wpc c q Q))
    (h0 : ¬p → A ⊢ B) (Q : PUnit → sProp (MT nD τ sig ℕ (Elt F) ℕ UU ℕ)) :
    A ⊢ iprop((B -∗ Q ⟨⟩) -∗ wpc c (cond p q) Q) := by
  by_cases hp : p
  · rw [show cond p q = q from if_pos hp]; exact h1 hp Q
  · rw [show cond p q = pure ⟨⟩ from if_neg hp]
    iintro HA Hk
    iapply (wpc_ret c ⟨⟩ Q)
    iapply Hk
    iapply (h0 hp) $$ HA

/-- The same resource at an equal place. -/
theorem at_eq {M : Type} [URA M] {β : Type} (P : β → sProp M) {a b : β} (h : a = b) : P a ⊢ P b := Entails.of_eq (congrArg P h)

/-! ## Loads of the input -/

section Loads

variable (o : Fin 3 → ℕ) (h : ∀ a, o a + S1x128x1024.size a ≤ S1x16384x2048.size a)
  (mr : Memref sig .tc .vmem S2x128x1024 .f32) (k : Fin 2) (sm : DmaSem sig) (q : PosShare TreeShare)

/-- The block of the input at `o`. -/
abbrev inV : Memref sig .tc .hbm S128x1024 .f32 :=
  (xM.slice (Rect.unit (s := S1x16384x2048) o S1x128x1024.size h) (fun _ => rfl)).squeeze S128x1024 squeezes_S1x128x1024_S128x1024

/-- The block of the input at offset `o`. -/
abbrev inB : S128x1024.Idx → Elt F .f32 := (inV o h).view.read (Elt F) (m ((inV o h).view.loc (c : Thread nD τ)))

/-- What a load leaves behind: its semaphore at zero, and the share of the input it reads. -/
def LB : sProp 𝕄 :=
  iprop(semVal ((c : Thread nD τ), .dma sm) 0 ∗ ((xM.view.loc (c : Thread nD τ)) ↦[Finset.univ]{q} m (xM.view.loc (c : Thread nD τ))))

/-- No load under way. -/
def LI : sProp 𝕄 := iprop(idle c (slot2 mr k) ∗ LB m c sm q)

/-- The load of the block at `o` under way. -/
def LF : sProp 𝕄 :=
  iprop(Flight EC (c : Thread nD τ) (.dma sm) 0 (slot2 mr k).view.dmaCredit
      iprop(has c (slot2 mr k) fullShare (inB m c o h) ∗ has c (inV o h) q (inB m c o h))
    ∗ ((xM.view.loc (c : Thread nD τ)) ↦[Finset.univ \ (inV o h).view.set]{q} m (xM.view.loc (c : Thread nD τ))))

/-- Starting a load gives up the slot and a share of the input until the wait. -/
theorem wp_startLoad (Q : PUnit → sProp (MT nD τ sig ℕ (Elt F) ℕ UU ℕ)) :
    LI m c mr k sm q ⊢ iprop((LF m c o h mr k sm q -∗ Q ⟨⟩) -∗ wpc c (startLoad (inV o h) mr k sm) Q) := by
  refine lift_rule c (fun K Q => ?_) Q
  unfold LI LB LF
  iintro ⟨Hd, Hv, Hx⟩ Hk
  ihave Hx := (pointsTo_split_subset (Finset.subset_univ (inV o h).view.set)).1 $$ Hx
  icases Hx with ⟨Hx, Hr⟩
  ihave Hx := (pointsTo_has (F := F) c (v := inV o h) (q := q) (X := inB m c o h) rfl) $$ Hx
  iapply (wp_copyStart c (K := K) (Q := Q) (src := inV o h) (dst := slot2 mr k) (sm := sm) (q := q) (X := inB m c o h) (by decide)) $$ [Hd Hv Hx]
  · isplitl [Hx]; · iexact Hx
    isplitl [Hd] <;> iassumption
  iintro HF
  iapply Hk
  isplitl [HF] <;> iassumption

/-- Waiting for a load gives the slot with the block, and the share back. -/
theorem wp_waitLoad {O : CellTallies nD τ sig ℕ} (hO : Above 0 O) (Q : PUnit → sProp (MT nD τ sig ℕ (Elt F) ℕ UU ℕ)) :
    iprop(Ctx m ∗ LF m c o h mr k sm q ∗ ow c O)
      ⊢ iprop((iprop(has c (slot2 mr k) fullShare (inB m c o h) ∗ LB m c sm q ∗ ow c O) -∗ Q ⟨⟩)
        -∗ wpc c (waitLoad (inV o h) mr k sm) Q) := by
  refine lift_rule c (fun K Q => ?_) Q
  unfold LB LF
  iintro ⟨#HC, ⟨HF, Hr⟩, HO⟩ Hk
  ihave HM := (Ctx_mayWait m (c := c) (s := .dma sm) hO (by decide)) $$ HC
  iapply (wp_flightWait c (K := K) (Q := Q) (srcw := inV o h) (dstw := slot2 mr k) (sem := sm) rfl (O := O)) $$ [HF HO HM]
  · isplitl [HF]; · iexact HF
    isplitl [HO] <;> iassumption
  iintro ⟨⟨Hd, Hx⟩, Hv, HO⟩
  iapply Hk
  isplitl [Hd]; · iexact Hd
  isplitl [Hv Hr Hx]
  · isplitl [Hv]; · iexact Hv
    ihave Hx := (has_pointsTo (F := F) c (v := inV o h) (q := q) (g := m ((inV o h).view.loc (c : Thread nD τ))) rfl) $$ Hx
    iapply (pointsTo_split_subset (Finset.subset_univ (inV o h).view.set)).2
    isplitl [Hx] <;> iassumption
  iexact HO

end Loads

/-! ## Copies of the sums into the result -/

section Outs

variable (ma : Memref sig .tc .vmem S2x128x1024 .bf16) (k : Fin 2) (dst : Memref sig .tc .hbm S128x1024 .bf16) (sm : DmaSem sig)
  (X : S128x1024.Idx → Elt F .bf16)

/-- The copy of the sum `X` to `dst` under way. -/
def OF : sProp 𝕄 :=
  Flight EC (c : Thread nD τ) (.dma sm) 0 dst.view.dmaCredit iprop(has c dst fullShare X ∗ has c (slot2 ma k) fullShare X)

/-- Starting to write a sum out gives up its slot and its rows until the wait. -/
theorem wp_startOut (hm : ma.IsWhole) (hw : dst.view.WordExact) (Q : PUnit → sProp (MT nD τ sig ℕ (Elt F) ℕ UU ℕ)) :
    iprop(has c (slot2 ma k) fullShare X ∗ idle c dst ∗ semVal ((c : Thread nD τ), .dma sm) 0)
      ⊢ iprop((OF c ma k dst sm X -∗ Q ⟨⟩) -∗ wpc c (startOut ma hm k dst hw sm) Q) := by
  refine lift_rule c (fun K Q => ?_) Q
  unfold OF
  exact wp_copyStart c (K := K) (Q := Q) (src := slot2 ma k) (dst := dst) (sm := sm) (q := fullShare) (X := X) (by decide)

/-- Waiting for a sum to be out gives the slot back and the rows with the sum. -/
theorem wp_waitOut (hm : ma.IsWhole) (hw : dst.view.WordExact) {O : CellTallies nD τ sig ℕ} (hO : Above 0 O)
    (Q : PUnit → sProp (MT nD τ sig ℕ (Elt F) ℕ UU ℕ)) :
    iprop(Ctx m ∗ OF c ma k dst sm X ∗ ow c O)
      ⊢ iprop((iprop(has c dst fullShare X ∗ idle c (slot2 ma k) ∗ semVal ((c : Thread nD τ), .dma sm) 0 ∗ ow c O) -∗ Q ⟨⟩)
        -∗ wpc c (waitOut ma hm k dst hw sm) Q) := by
  refine lift_rule c (fun K Q => ?_) Q
  unfold OF
  iintro ⟨#HC, HF, HO⟩ Hk
  ihave HM := (Ctx_mayWait m (c := c) (s := .dma sm) hO (by decide)) $$ HC
  iapply (wp_flightWait c (K := K) (Q := Q) (srcw := slot2 ma k) (dstw := dst) (sem := sm) rfl (O := O)) $$ [HF HO HM]
  · isplitl [HF]; · iexact HF
    isplitl [HO] <;> iassumption
  iintro ⟨⟨Hd, Hx⟩, Hv, HO⟩
  iapply Hk
  isplitl [Hd]; · iexact Hd
  isplitl [Hx]; · iapply (has_idle (F := F) c) $$ Hx
  isplitl [Hv] <;> iassumption

end Outs

/-! ## The blocks' arithmetic -/

/-- Rounding a block is the same with or without the leading axis of its slot. -/
theorem rnd_cast (X : S128x1024.Idx → Elt F .f32) (h : S128x1024.ShapeCasts S1x128x1024) :
    rnd (shapeCast S1x128x1024 X h : Vec F S1x128x1024 .f32)
      = shapeCast S1x128x1024 (truncf .bf16 (X : Vec F S128x1024 .f32) bitsLt_bf16_f32 : Vec F S128x1024 .bf16) shapeCasts_S128x1024_S1x128x1024 := by
  unfold rnd
  rw [shapeCast_shapeCast]

/-- So is adding a rounded block to a received one. -/
theorem addB_cast (X : S128x1024.Idx → Elt F .f32) (Y : S128x1024.Idx → Elt F .bf16) (h h' : S128x1024.ShapeCasts S1x128x1024) :
    addB (shapeCast S1x128x1024 X h : Vec F S1x128x1024 .f32) (shapeCast S1x128x1024 Y h' : Vec F S1x128x1024 .bf16)
      = shapeCast S1x128x1024 (addf (truncf .bf16 (X : Vec F S128x1024 .f32) bitsLt_bf16_f32 : Vec F S128x1024 .bf16)
          (Y : Vec F S128x1024 .bf16)) shapeCasts_S128x1024_S1x128x1024 := by
  unfold addB
  rw [shapeCast_shapeCast, shapeCast_shapeCast]

/-- Rounding a loaded block into a send slot. -/
theorem wp_fill (j : ℕ) {X : S128x1024.Idx → Elt F .f32} (Q : PUnit → sProp (MT nD τ sig ℕ (Elt F) ℕ UU ℕ)) :
    iprop(has c (slot2 xsM (m2 j)) fullShare X ∗ idle c (slot4 sbM (m4 j)))
      ⊢ iprop((iprop(has c (slot2 xsM (m2 j)) fullShare X
            ∗ has c (slot4 sbM (m4 j)) fullShare (truncf .bf16 (X : Vec F S128x1024 .f32) bitsLt_bf16_f32 : Vec F S128x1024 .bf16)) -∗ Q ⟨⟩)
        -∗ wpc c (fill j) Q) := by
  unfold fill
  simp only [Prog.lift, Prog.bind_op, Prog.bind_ret]
  iintro ⟨Hx, Hs⟩ Hk
  iapply (wp_loadSlot (F := F) c shapeCasts_S128x1024_S1x128x1024) $$ Hx
  iintro Hx
  iapply (wp_loadIdle (F := F) c) $$ Hs
  iintro %v Hs
  iapply (wp_storeSlot (F := F) c (rnd_cast X shapeCasts_S128x1024_S1x128x1024)) $$ Hs
  iintro Hs
  iapply (wpc_ret c ⟨⟩ Q)
  iapply Hk
  isplitl [Hx] <;> iassumption

/-- Adding a loaded block to a received one, into a slot of sums. -/
theorem wp_accum (ms : Memref sig .tc .vmem S2x128x1024 .f32) (mr : Memref sig .tc .vmem S8x128x1024 .bf16)
    (ma : Memref sig .tc .vmem S2x128x1024 .bf16) (ha : ma.IsWhole) (k : Fin 2) (kr : Fin 8) {q : PosShare TreeShare}
    {X : S128x1024.Idx → Elt F .f32} {Y : S128x1024.Idx → Elt F .bf16} (Q : PUnit → sProp (MT nD τ sig ℕ (Elt F) ℕ UU ℕ)) :
    iprop(has c (slot2 ms k) fullShare X ∗ has c (slot8 mr kr) q Y ∗ idle c (slot2 ma k))
      ⊢ iprop((iprop(has c (slot2 ms k) fullShare X ∗ has c (slot8 mr kr) q Y
            ∗ has c (slot2 ma k) fullShare (addf (truncf .bf16 (X : Vec F S128x1024 .f32) bitsLt_bf16_f32 : Vec F S128x1024 .bf16)
                (Y : Vec F S128x1024 .bf16))) -∗ Q ⟨⟩)
        -∗ wpc c (accum ms mr ma ha k kr) Q) := by
  unfold accum
  simp only [Prog.lift, Prog.bind_op, Prog.bind_ret]
  iintro ⟨Hx, Hr, Hs⟩ Hk
  iapply (wp_loadSlot (F := F) c shapeCasts_S128x1024_S1x128x1024) $$ Hx
  iintro Hx
  iapply (wp_loadSlot (F := F) c shapeCasts_S128x1024_S1x128x1024) $$ Hr
  iintro Hr
  iapply (wp_loadIdle (F := F) c) $$ Hs
  iintro %v Hs
  iapply (wp_storeSlot (F := F) c (addB_cast X Y shapeCasts_S128x1024_S1x128x1024 shapeCasts_S128x1024_S1x128x1024)) $$ Hs
  iintro Hs
  iapply (wpc_ret c ⟨⟩ Q)
  iapply Hk
  isplitl [Hx]; · iexact Hx
  isplitl [Hr] <;> iassumption

end Cert.KernelIdeal.Own

end
-- ==== Proof.KernelIdeal.Families.lean ====
module

public import proofs.«01_k».proof.Proof.KernelIdeal.Parts

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-- Block `j + 2` uses the slot of two that block `j` uses. -/
theorem m2_add (j : ℕ) : m2 (j + 2) = m2 j := Fin.ext (by show (j + 2) % 2 = j % 2; omega)
/-- Block `j + 4` uses the slot of four that block `j` uses. -/
theorem m4_add (j : ℕ) : m4 (j + 4) = m4 j := Fin.ext (by show (j + 4) % 4 = j % 4; omega)
/-- Block `j + 8` uses the slot of eight that block `j` uses. -/
theorem m8_add (j : ℕ) : m8 (j + 8) = m8 j := Fin.ext (by show (j + 8) % 8 = j % 8; omega)
/-- Block `j - 2` uses the slot of two that block `j` uses. -/
theorem m2_sub {j : ℕ} (h : 2 ≤ j) : m2 (j - 2) = m2 j := Fin.ext (by show (j - 2) % 2 = j % 2; omega)
/-- Block `j - 4` uses the slot of four that block `j` uses. -/
theorem m4_sub {j : ℕ} (h : 4 ≤ j) : m4 (j - 4) = m4 j := Fin.ext (by show (j - 4) % 4 = j % 4; omega)

/-- Start a load under a condition. -/
theorem wp_startCond (p : Prop) [Decidable p] (o : Fin 3 → ℕ) (h : ∀ a, o a + S1x128x1024.size a ≤ S1x16384x2048.size a)
    (mr : Memref sig .tc .vmem S2x128x1024 .f32) (k : Fin 2) (sm : DmaSem sig) (q : PosShare TreeShare)
    (Q : PUnit → sProp (MT nD τ sig ℕ (Elt F) ℕ UU ℕ)) :
    LI m c mr k sm q ⊢ iprop(((if p then LF m c o h mr k sm q else LI m c mr k sm q) -∗ Q ⟨⟩)
      -∗ wpc c (cond p (startLoad (inV o h) mr k sm)) Q) := by
  refine cond_rule c (fun hp Q => ?_) (fun hp => ?_) Q
  · rw [if_pos hp]; exact wp_startLoad m c o h mr k sm q Q
  · rw [if_neg hp]

/-! ## The send ring -/

/-- Block `w` on its way to the partner. -/
def SF (w : ℕ) : sProp 𝕄 :=
  Flight EC (c : Thread nD τ) (.dma (sxS (m8 w))) 0 blkN (has c (slot4 sbM (m4 w)) fullShare (sendVal m c w))

/-- What slot `w` of the send ring is before block `w` is put in it: free, or with block `w - 4` still leaving it. -/
def SB (w : ℕ) : sProp 𝕄 :=
  if 4 ≤ w then SF m c (w - 4) else iprop(idle c (slot4 sbM (m4 w)) ∗ semVal ((c : Thread nD τ), .dma (sxS (m8 (w + 4)))) 0)

/-- Waiting until block `w` has left along `x` gives its send slot back. -/
theorem wp_waitSX {w : ℕ} {O : CellTallies nD τ sig ℕ} (hO : Above 0 O) (Q : PUnit → sProp (MT nD τ sig ℕ (Elt F) ℕ UU ℕ)) :
    iprop(Ctx m ∗ SF m c w ∗ ow c O)
      ⊢ iprop((iprop(idle c (slot4 sbM (m4 w)) ∗ semVal ((c : Thread nD τ), .dma (sxS (m8 w))) 0 ∗ ow c O) -∗ Q ⟨⟩)
        -∗ wpc c (waitSX w) Q) := by
  refine lift_rule c (fun K Q => ?_) Q
  unfold SF
  iintro ⟨#HC, HF, HO⟩ Hk
  ihave HM := (Ctx_mayWait m (c := c) (s := .dma (sxS (m8 w))) hO (by decide)) $$ HC
  iapply (wp_flightWait c (K := K) (Q := Q) (srcw := slot8 rxM (m8 w)) (dstw := slot4 sbM (m4 w)) (sem := sxS (m8 w)) rfl (O := O)) $$ [HF HO HM]
  · isplitl [HF]; · iexact HF
    isplitl [HO] <;> iassumption
  iintro ⟨Hd, Hv, HO⟩
  iapply Hk
  isplitl [Hd]; · iapply (has_idle (F := F) c) $$ Hd
  isplitl [Hv] <;> iassumption

/-- The same at a step that waits only from the fourth block on. -/
theorem wp_waitSXc (w : ℕ) {O : CellTallies nD τ sig ℕ} (hO : Above 0 O) (Q : PUnit → sProp (MT nD τ sig ℕ (Elt F) ℕ UU ℕ)) :
    iprop(Ctx m ∗ SB m c w ∗ ow c O)
      ⊢ iprop((iprop(idle c (slot4 sbM (m4 w)) ∗ semVal ((c : Thread nD τ), .dma (sxS (m8 (w + 4)))) 0 ∗ ow c O) -∗ Q ⟨⟩)
        -∗ wpc c (cond (4 ≤ w) (waitSX (w - 4))) Q) := by
  unfold SB
  refine cond_rule c (fun hp Q => ?_) (fun hp => ?_) Q
  · rw [if_pos hp]
    have h := wp_waitSX m c (w := w - 4) hO Q
    rw [m4_sub hp, show m8 (w - 4) = m8 (w + 4) from Fin.ext (by show (w - 4) % 8 = (w + 4) % 8; omega)] at h
    exact h
  · rw [if_neg hp]
    iintro ⟨-, ⟨H1, H2⟩, H3⟩
    isplitl [H1]; · iexact H1
    isplitl [H2] <;> iassumption

/-- What device `c` needs to send block `v`: the duty, the right to fill the slot, and, past the first eight, a unit of
    the partner's count. -/
def FX (v : ℕ) : sProp 𝕄 :=
  iprop(dutyTok ER (cell (px c) (rx (m8 v))) (v / 8) 0 ∗ writeTok ES (px c, true, m8 v) (v / 8 + 1)
    ∗ (if 8 ≤ v then cred (tallyAt (cell c cx) (16 * ((v - 8) + 7) + 11) 1) else iprop(emp)))

/-- The same for relaying block `s`. -/
def FY (s : ℕ) : sProp 𝕄 :=
  iprop(dutyTok ER (cell (py c) (ry (m8 s))) (s / 8) 0 ∗ writeTok ES (py c, false, m8 s) (s / 8 + 1)
    ∗ (if 8 ≤ s then cred (tallyAt (cell c cy) (16 * ((s - 8) + 5) + 9) 1) else iprop(emp)))

/-- What device `c` owes for each of its actions. -/
def tX (v : ℕ) : CellTallies nD τ sig ℕ := tallyAt (cell (px c) (rx (m8 v))) (16 * (v + 1) + 6) blkN
/-- Block `s`, owed to the `y` partner. -/
def tY (s : ℕ) : CellTallies nD τ sig ℕ := tallyAt (cell (py c) (ry (m8 s))) (16 * (s + 4) + 3) blkN
/-- The credit for block `u`, owed to the `x` partner. -/
def tCX (u : ℕ) : CellTallies nD τ sig ℕ := tallyAt (cell (px c) cx) (16 * (u + 7) + 11) 1
/-- The credit for block `u`, owed to the `y` partner. -/
def tCY (u : ℕ) : CellTallies nD τ sig ℕ := tallyAt (cell (py c) cy) (16 * (u + 5) + 9) 1

/-- A free receive slot of another device, by the record of its release. -/
theorem take_slot (b : Bool) (p : Dev nD) (v : ℕ) :
    iprop(Ctx m ∗ rel b p v ∗ writeTok ES (p, b, m8 v) (v / 8 + 1)) ⊢ (|={Set.univ}=> slotRes (p, b, m8 v) : sProp 𝕄) := by
  iintro ⟨#HC, #Hr, Hw⟩
  ihave HS := (Ctx_slot m (p, b, m8 v)) $$ HC
  unfold sinv rel
  icases HS with ⟨%ι, #HS⟩
  icases Hr with ⟨#Hr, -⟩
  iapply (Release.slot_take ES (ι := ι) (k := ((p, b, m8 v) : Key)) (S := slotRes (p, b, m8 v)) (Set.mem_univ ι) (v / 8 + 1))
  isplitr; · iexact HS
  isplitr; · iexact Hr
  iexact Hw

/-- Sending block `v` along `x` pays what was owed of it. -/
theorem wp_sendX {v : ℕ} (hv : v < 64) {O : CellTallies nD τ sig ℕ} (Q : PUnit → sProp (MT nD τ sig ℕ (Elt F) ℕ UU ℕ)) :
    iprop(Ctx m ∗ has c (slot4 sbM (m4 v)) fullShare (sendVal m c v) ∗ semVal ((c : Thread nD τ), .dma (sxS (m8 v))) 0 ∗ ow c (O + tX c v)
        ∗ dutyTok ER (cell (px c) (rx (m8 v))) (v / 8) 0 ∗ writeTok ES (px c, true, m8 v) (v / 8 + 1) ∗ rel true (px c) v)
      ⊢ iprop((iprop(SF m c v ∗ ow c O) -∗ Q ⟨⟩) -∗ wpc c (sendX c v) Q) := by
  refine lift_rule c (fun K Q => ?_) Q
  unfold SF tX
  iintro ⟨#HC, Hs, Hv, HO, Htok, Hw, #Hrel⟩ Hk
  ihave Hd := (take_slot m true (px c) v) $$ [Hw]
  · isplitr; · iexact HC
    isplitr; · iexact Hrel
    iexact Hw
  imod Hd with Hd
  have hres : (slotRes (px c, true, m8 v) : sProp 𝕄) ⊢ idle (px c) (slot8 rxM (m8 v)) := by
    unfold slotRes; exact .rfl
  ihave Hd := hres $$ Hd
  have hre : (rel true (px c) v : sProp 𝕄) ⊢ reached ER (cell (px c) (rx (m8 v))) (v / 8) := by
    unfold rel
    iintro ⟨-, H⟩
    iexact H
  ihave Hre := hre $$ Hrel
  iapply (wp_send m c (K := K) (Q := Q) (src := slot4 sbM (m4 v)) (dst := slot8 rxM (m8 v)) (sS := sxS (m8 v)) (sR := rxS (m8 v)) (p := px c)
    (x := rx (m8 v)) rfl (q := fullShare) (X := sendVal m c v) (r := v / 8) (u := 0) (ι := 16 * (v + 1) + 6) (O := O) ?_ rfl rfl rfl ?_) $$ [Hs Hv HO Htok Hd]
  · show (0 : ℕ) ∈ (if v / 8 < 8 then {0} else (∅ : Finset ℕ))
    rw [if_pos (show v / 8 < 8 by omega)]
    exact Finset.mem_singleton_self 0
  · unfold payK
    show has (px c) (slot8 rxM (m8 v)) fullShare (sendVal m c v) ⊢ has (px c) (slot8 rxM (m8 v)) fullShare (sendVal m (px (px c)) (8 * (v / 8) + v % 8))
    rw [px_px, Nat.div_add_mod]
  · isplitr; · iexact HC
    isplitl [Hs]; · iexact Hs
    isplitl [Hd]; · iexact Hd
    isplitl [Hv]; · iexact Hv
    isplitl [HO]; · iexact HO
    isplitl [Htok]; · iexact Htok
    iexact Hre
  iexact Hk

/-- Relayed block `w` on its way to the neighbour. -/
def YF (w : ℕ) : sProp 𝕄 :=
  Flight EC (c : Thread nD τ) (.dma (syS (m8 w))) 0 blkN (has c (slot8 rxM (m8 w)) fullShare.left (sendVal m (px c) w))

/-- Passing block `v` on along `y` pays what was owed of it. -/
theorem wp_sendY {v : ℕ} (hv : v < 64) {O : CellTallies nD τ sig ℕ} (Q : PUnit → sProp (MT nD τ sig ℕ (Elt F) ℕ UU ℕ)) :
    iprop(Ctx m ∗ has c (slot8 rxM (m8 v)) fullShare.left (sendVal m (px c) v) ∗ semVal ((c : Thread nD τ), .dma (syS (m8 v))) 0
        ∗ ow c (O + tY c v)
        ∗ dutyTok ER (cell (py c) (ry (m8 v))) (v / 8) 0 ∗ writeTok ES (py c, false, m8 v) (v / 8 + 1) ∗ rel false (py c) v)
      ⊢ iprop((iprop(YF m c v ∗ ow c O) -∗ Q ⟨⟩) -∗ wpc c (sendY c v) Q) := by
  refine lift_rule c (fun K Q => ?_) Q
  unfold YF tY
  iintro ⟨#HC, Hs, Hv, HO, Htok, Hw, #Hrel⟩ Hk
  ihave Hd := (take_slot m false (py c) v) $$ [Hw]
  · isplitr; · iexact HC
    isplitr; · iexact Hrel
    iexact Hw
  imod Hd with Hd
  have hres : (slotRes (py c, false, m8 v) : sProp 𝕄) ⊢ idle (py c) (slot8 ryM (m8 v)) := by
    unfold slotRes; exact .rfl
  ihave Hd := hres $$ Hd
  have hre : (rel false (py c) v : sProp 𝕄) ⊢ reached ER (cell (py c) (ry (m8 v))) (v / 8) := by
    unfold rel
    iintro ⟨-, H⟩
    iexact H
  ihave Hre := hre $$ Hrel
  iapply (wp_send m c (K := K) (Q := Q) (src := slot8 rxM (m8 v)) (dst := slot8 ryM (m8 v)) (sS := syS (m8 v)) (sR := ryS (m8 v)) (p := py c)
    (x := ry (m8 v)) rfl (q := fullShare.left) (X := sendVal m (px c) v) (r := v / 8) (u := 0) (ι := 16 * (v + 4) + 3) (O := O) ?_ rfl rfl rfl ?_) $$ [Hs Hv HO Htok Hd]
  · show (0 : ℕ) ∈ (if v / 8 < 8 then {0} else (∅ : Finset ℕ))
    rw [if_pos (show v / 8 < 8 by omega)]
    exact Finset.mem_singleton_self 0
  · unfold payK
    show has (py c) (slot8 ryM (m8 v)) fullShare (sendVal m (px c) v)
      ⊢ has (py c) (slot8 ryM (m8 v)) fullShare (sendVal m (px (py (py c))) (8 * (v / 8) + v % 8))
    rw [py_py, Nat.div_add_mod]
  · isplitr; · iexact HC
    isplitl [Hs]; · iexact Hs
    isplitl [Hd]; · iexact Hd
    isplitl [Hv]; · iexact Hv
    isplitl [HO]; · iexact HO
    isplitl [Htok]; · iexact Htok
    iexact Hre
  iexact Hk

/-! ## Receiving -/

/-- Credits for the blocks to come, and the positions of the receive semaphores. -/
def CRX (j : ℕ) : sProp 𝕄 := cred (tallyAt (cell c (rx (m8 j))) (16 * (j + 1) + 6) blkN)
/-- The credit to wait for block `j` along `y`. -/
def CRY (j : ℕ) : sProp 𝕄 := cred (tallyAt (cell c (ry (m8 j))) (16 * (j + 4) + 3) blkN)
/-- The reader's place at the receive slot of block `w` along `x`. -/
def PX (w : ℕ) : sProp 𝕄 := atPos ER (cell c (rx (m8 w))) (w / 8) ∅ 0
/-- The reader's place at the receive slot of block `w` along `y`. -/
def PY (w : ℕ) : sProp 𝕄 := atPos ER (cell c (ry (m8 w))) (w / 8) ∅ 0

/-- Eight blocks on, a slot is one round further. -/
theorem div_add8 (w : ℕ) : (w + 8) / 8 = w / 8 + 1 := by omega

/-- Waiting for block `s` along `x` gives its receive slot with what the partner sent. -/
theorem wp_waitRX {s : ℕ} (hs : s < 64) {O : CellTallies nD τ sig ℕ} (hO : Above (16 * (s + 1) + 6) O)
    (Q : PUnit → sProp (MT nD τ sig ℕ (Elt F) ℕ UU ℕ)) :
    iprop(Ctx m ∗ CRX c s ∗ PX c s ∗ ow c O)
      ⊢ iprop((iprop(has c (slot8 rxM (m8 s)) fullShare (sendVal m (px c) s) ∗ PX c (s + 8)
            ∗ reached ER (cell c (rx (m8 s))) (s / 8 + 1) ∗ ow c O) -∗ Q ⟨⟩) -∗ wpc c (waitRX s) Q) := by
  refine lift_rule c (fun K Q => ?_) Q
  have hpay : (payK m c (some (rx (m8 s))) (s / 8) 0 : sProp 𝕄) ⊢ has c (slot8 rxM (m8 s)) fullShare (sendVal m (px c) s) := by
    show has c (slot8 rxM (m8 s)) fullShare (sendVal m (px c) (8 * (s / 8) + s % 8)) ⊢ _
    rw [Nat.div_add_mod]
  unfold CRX PX
  rw [m8_add, div_add8]
  iintro ⟨#HC, Hcr, Hat, HO⟩ Hk
  iapply (wp_recv m c (K := K) (Q := Q) (src := slot4 sbM (m4 s)) (dst := slot8 rxM (m8 s)) (sR := rxS (m8 s)) (x := rx (m8 s)) rfl rfl
    (r := s / 8) (ι := 16 * (s + 1) + 6) (O := O) (if_pos (by omega)) rfl hO (by omega)) $$ [Hcr Hat HO]
  · isplitr; · iexact HC
    isplitl [Hcr]; · iexact Hcr
    isplitl [HO] <;> iassumption
  iintro ⟨Hp, HO, Hat, #Hre⟩
  iapply Hk
  isplitl [Hp]
  · iapply hpay; iexact Hp
  isplitl [Hat]; · iexact Hat
  isplitr; · iexact Hre
  iexact HO

/-- Waiting for block `s` along `y` gives its receive slot with what the partner relayed. -/
theorem wp_waitRY {s : ℕ} (hs : s < 64) {O : CellTallies nD τ sig ℕ} (hO : Above (16 * (s + 4) + 3) O)
    (Q : PUnit → sProp (MT nD τ sig ℕ (Elt F) ℕ UU ℕ)) :
    iprop(Ctx m ∗ CRY c s ∗ PY c s ∗ ow c O)
      ⊢ iprop((iprop(has c (slot8 ryM (m8 s)) fullShare (sendVal m (px (py c)) s) ∗ PY c (s + 8)
            ∗ reached ER (cell c (ry (m8 s))) (s / 8 + 1) ∗ ow c O) -∗ Q ⟨⟩) -∗ wpc c (waitRY s) Q) := by
  refine lift_rule c (fun K Q => ?_) Q
  have hpay : (payK m c (some (ry (m8 s))) (s / 8) 0 : sProp 𝕄) ⊢ has c (slot8 ryM (m8 s)) fullShare (sendVal m (px (py c)) s) := by
    show has c (slot8 ryM (m8 s)) fullShare (sendVal m (px (py c)) (8 * (s / 8) + s % 8)) ⊢ _
    rw [Nat.div_add_mod]
  unfold CRY PY
  rw [m8_add, div_add8]
  iintro ⟨#HC, Hcr, Hat, HO⟩ Hk
  iapply (wp_recv m c (K := K) (Q := Q) (src := slot8 rxM (m8 s)) (dst := slot8 ryM (m8 s)) (sR := ryS (m8 s)) (x := ry (m8 s)) rfl rfl
    (r := s / 8) (ι := 16 * (s + 4) + 3) (O := O) (if_pos (by omega)) rfl hO (by omega)) $$ [Hcr Hat HO]
  · isplitr; · iexact HC
    isplitl [Hcr]; · iexact Hcr
    isplitl [HO] <;> iassumption
  iintro ⟨Hp, HO, Hat, #Hre⟩
  iapply Hk
  isplitl [Hp]
  · iapply hpay; iexact Hp
  isplitl [Hat]; · iexact Hat
  isplitr; · iexact Hre
  iexact HO

/-! ## The counts of free slots -/

/-- Waiting for a free slot along `x`, where there is need to, allows block `v` to be sent. -/
theorem wp_takeX {v : ℕ} (hv : v < 64) {O : CellTallies nD τ sig ℕ} (hO : Above (16 * (v + 1)) O)
    (Q : PUnit → sProp (MT nD τ sig ℕ (Elt F) ℕ UU ℕ)) :
    iprop(Ctx m ∗ hist true (px c) 8 ∗ (if 8 ≤ v then cred (tallyAt (cell c cx) (16 * ((v - 8) + 7) + 11) 1) else iprop(emp))
        ∗ takenAt m c cx (v - 8) ∗ ow c O)
      ⊢ iprop((iprop(rel true (px c) v ∗ takenAt m c cx (v + 1 - 8) ∗ ow c O) -∗ Q ⟨⟩) -∗ wpc c (cond (8 ≤ v) (take cxS)) Q) := by
  refine cond_rule c (fun hp Q => ?_) (fun hp => ?_) Q
  · rw [if_pos hp, show v + 1 - 8 = v - 8 + 1 by omega]
    refine lift_rule c (fun K Q => ?_) Q
    iintro ⟨#HC, -, Hcr, Hat, HO⟩ Hk
    iapply (wp_take m c (K := K) (Q := Q) (sm := cxS) (x := cx) rfl (b := true) (p := px c) (n := v - 8) (ι := 16 * ((v - 8) + 7) + 11) (O := O)
      rfl rfl (fun u => rfl) (by omega) (hO.mono (by omega)) (by omega)) $$ [Hcr Hat HO]
    · isplitr; · iexact HC
      isplitl [Hcr]; · iexact Hcr
      isplitl [HO] <;> iassumption
    iintro ⟨#Hh, HO, Hat⟩
    iapply Hk
    isplitr; · iapply (hist_elim (F := F) (n := v - 8 + 9) (j := v) (by omega)) $$ Hh
    isplitl [Hat] <;> iassumption
  · rw [if_neg hp, show v + 1 - 8 = v - 8 by omega]
    iintro ⟨-, #Hh, -, Hat, HO⟩
    isplitr; · iapply (hist_elim (F := F) (n := 8) (j := v) (by omega)) $$ Hh
    isplitl [Hat] <;> iassumption

/-- Waiting for a free slot along `y`, where there is need to, allows block `v` to be sent. -/
theorem wp_takeY {v : ℕ} (hv : v < 64) {O : CellTallies nD τ sig ℕ} (hO : Above (16 * (v + 1)) O)
    (Q : PUnit → sProp (MT nD τ sig ℕ (Elt F) ℕ UU ℕ)) :
    iprop(Ctx m ∗ hist false (py c) 8 ∗ (if 8 ≤ v then cred (tallyAt (cell c cy) (16 * ((v - 8) + 5) + 9) 1) else iprop(emp))
        ∗ takenAt m c cy (v - 8) ∗ ow c O)
      ⊢ iprop((iprop(rel false (py c) v ∗ takenAt m c cy (v + 1 - 8) ∗ ow c O) -∗ Q ⟨⟩) -∗ wpc c (cond (8 ≤ v) (take cyS)) Q) := by
  refine cond_rule c (fun hp Q => ?_) (fun hp => ?_) Q
  · rw [if_pos hp, show v + 1 - 8 = v - 8 + 1 by omega]
    refine lift_rule c (fun K Q => ?_) Q
    iintro ⟨#HC, -, Hcr, Hat, HO⟩ Hk
    iapply (wp_take m c (K := K) (Q := Q) (sm := cyS) (x := cy) rfl (b := false) (p := py c) (n := v - 8) (ι := 16 * ((v - 8) + 5) + 9) (O := O)
      rfl rfl (fun u => rfl) (by omega) (hO.mono (by omega)) (by omega)) $$ [Hcr Hat HO]
    · isplitr; · iexact HC
      isplitl [Hcr]; · iexact Hcr
      isplitl [HO] <;> iassumption
    iintro ⟨#Hh, HO, Hat⟩
    iapply Hk
    isplitr; · iapply (hist_elim (F := F) (n := v - 8 + 9) (j := v) (by omega)) $$ Hh
    isplitl [Hat] <;> iassumption
  · rw [if_neg hp, show v + 1 - 8 = v - 8 by omega]
    iintro ⟨-, #Hh, -, Hat, HO⟩
    isplitr; · iapply (hist_elim (F := F) (n := 8) (j := v) (by omega)) $$ Hh
    isplitl [Hat] <;> iassumption

/-! ## Retiring a received block -/

/-- The partner along either ring. -/
abbrev pp (b : Bool) : Dev nD := bif b then px c else py c
/-- The count of free slots of either ring. -/
abbrev kc (b : Bool) : CK := bif b then cx else cy

/-- Where the reader of ring `b` stands before block `w` arrives. -/
def RD (b : Bool) (w : ℕ) : sProp 𝕄 := if w < 64 then readerAt ES ((c, b, m8 w) : Key) (w / 8 + 1) else iprop(emp)

/-- Part of a family. -/
theorem fam_sub {A B : Finset ℕ} (h : B ⊆ A) (Φ : ℕ → sProp (MT nD τ sig ℕ (Elt F) ℕ UU ℕ)) :
    bigSep A Φ ⊢ bigSep B Φ := bigSep_subset h

/-- After `n` blocks of ring `b` have been retired. -/
def Ret (b : Bool) (n : ℕ) : sProp 𝕄 :=
  iprop(bigSep (Finset.Ico n (n + 8)) (RD c b) ∗ bigSep (Finset.Ico 56 n) (fun w => slotRes (c, b, m8 w)) ∗ hist b c (min n 56 + 8)
    ∗ bigSep (Finset.Ico n 56) (fun u => dutyTok ER (cell (pp c b) (kc b)) 0 u))

/-- The reader of a slot gives it back to its writer. -/
theorem release_slot (b : Bool) (u : ℕ) :
    iprop(Ctx m ∗ readerAt ES ((c, b, m8 u) : Key) (u / 8 + 1) ∗ slotRes (c, b, m8 u))
      ⊢ (|={Set.univ}=> (readerAt ES ((c, b, m8 u) : Key) (u / 8 + 1 + 1) ∗ released ES ((c, b, m8 u) : Key) (u / 8 + 1 + 1)) : sProp 𝕄) := by
  iintro ⟨#HC, Hr, Hs⟩
  ihave HS := (Ctx_slot m (c, b, m8 u)) $$ HC
  unfold sinv
  icases HS with ⟨%ι, #HS⟩
  iapply (Release.slot_release ES (ι := ι) (k := ((c, b, m8 u) : Key)) (S := slotRes (c, b, m8 u)) (Set.mem_univ ι) (slotRes_false _) (u / 8 + 1))
  isplitr; · iexact HS
  isplitl [Hr] <;> iassumption

/-- The reader's turn at a slot comes again eight blocks later. -/
theorem rd_next {b : Bool} {u : ℕ} (h : u + 8 < 64) :
    (readerAt ES ((c, b, m8 u) : Key) (u / 8 + 1 + 1) : sProp 𝕄) ⊢ RD c b (u + 8) := by
  unfold RD
  rw [if_pos h, m8_add, div_add8]

/-- A slot that was given back is free for the block eight later. -/
theorem rel_next {b : Bool} {u : ℕ} :
    iprop(released ES ((c, b, m8 u) : Key) (u / 8 + 1 + 1) ∗ reached ER (cell c (rk b (m8 u))) (u / 8 + 1)) ⊢ (rel b c (u + 8) : sProp 𝕄) := by
  unfold rel
  rw [m8_add, div_add8]

/-- Signalling a free slot to the partner pays the credit owed. -/
theorem wp_retire (b : Bool) {sm : Sem sig} (hx : semOf (kc b) = .reg sm) (hd : dutiesK (some (kc b)) 0 = Finset.range 56)
    (ha : amountK (some (kc b)) = 1) (hp : ∀ u, (payK m (pp c b) (some (kc b)) 0 u : sProp 𝕄) = hist b c (u + 9))
    {u ι : ℕ} (hu : u < 64) {O : CellTallies nD τ sig ℕ} (Q : PUnit → sProp (MT nD τ sig ℕ (Elt F) ℕ UU ℕ)) :
    iprop(Ctx m ∗ slotRes (c, b, m8 u) ∗ reached ER (cell c (rk b (m8 u))) (u / 8 + 1) ∗ Ret c b u
        ∗ ow c (O + (if u + 8 < 64 then tallyAt (cell (pp c b) (kc b)) ι 1 else 0)))
      ⊢ iprop((iprop(Ret c b (u + 1) ∗ ow c O) -∗ Q ⟨⟩) -∗ wpc c (cond (u + 8 < 64) (give (pp c b) sm)) Q) := by
  refine cond_rule c (fun hc Q => ?_) (fun hc => ?_) Q
  · rw [if_pos hc]
    refine lift_rule c (fun K Q => ?_) Q
    unfold Ret
    rw [show min u 56 + 8 = u + 8 by omega, show min (u + 1) 56 + 8 = u + 8 + 1 by omega]
    iintro ⟨#HC, Hs, #Hre, ⟨HR, Hk56, #Hh, HT⟩, HO⟩ Hk
    ihave HR := (fam_pop (show u < u + 8 by omega) (RD c b)) $$ HR
    icases HR with ⟨Hr, HR⟩
    have hrd : (RD c b u : sProp 𝕄) ⊢ readerAt ES ((c, b, m8 u) : Key) (u / 8 + 1) := by unfold RD; rw [if_pos hu]
    ihave Hr := hrd $$ Hr
    ihave Hrel := (release_slot m c b u) $$ [Hr Hs]
    · isplitr; · iexact HC
      isplitl [Hr] <;> iassumption
    imod Hrel with ⟨Hr, #Hrel⟩
    ihave Hr := (rd_next (F := F) c hc) $$ Hr
    ihave HR := (fam_push (show u + 1 ≤ u + 8 by omega) (RD c b)) $$ [HR Hr]
    · isplitl [HR] <;> iassumption
    ihave #Hr8 := (rel_next (F := F) c (b := b) (u := u)) $$ []
    · isplitr; · iexact Hrel
      iexact Hre
    ihave #Hh' := (hist_succ (F := F) (b := b) (p := c) (n := u + 8)) $$ []
    · isplitr; · iexact Hh
      iexact Hr8
    ihave HT := (fam_pop (show u < 56 by omega) (fun u => (dutyTok ER (cell (pp c b) (kc b)) 0 u : sProp 𝕄))) $$ HT
    icases HT with ⟨Ht, HT⟩
    iapply (wp_give m c (K := K) (Q := Q) (sm := sm) (p := pp c b) (x := kc b) hx (u := u) (ι := ι) (O := O)
      (by rw [hd]; exact Finset.mem_range.mpr (by omega)) ha) $$ [HO Ht]
    · isplitr; · iexact HC
      isplitl [HO]; · iexact HO
      isplitl [Ht]; · iexact Ht
      isplitr
      · iapply (Entails.of_eq (hp u).symm); iexact Hh'
      · iapply (Ctx_reached m (pp c b) (kc b)) $$ HC
    iintro HO
    iapply Hk
    isplitr [HO]
    · isplitl [HR]; · iexact HR
      isplitl [Hk56]
      · iapply (fam_sub (A := Finset.Ico 56 u) (B := Finset.Ico 56 (u + 1)) (by rw [Finset.Ico_eq_empty (by omega)]; exact Finset.empty_subset _)
          (fun w => (slotRes (c, b, m8 w) : sProp 𝕄))) $$ Hk56
      isplitr; · iexact Hh'
      iexact HT
    · iexact HO
  · rw [if_neg hc, add_zero]
    unfold Ret
    rw [show min u 56 + 8 = 64 by omega, show min (u + 1) 56 + 8 = 64 by omega]
    iintro ⟨#HC, Hs, #Hre, ⟨HR, Hk56, #Hh, HT⟩, HO⟩
    ihave HR := (fam_pop (show u < u + 8 by omega) (RD c b)) $$ HR
    icases HR with ⟨-, HR⟩
    have hrd : (iprop(emp) : sProp 𝕄) ⊢ RD c b (u + 8) := by unfold RD; rw [if_neg hc]
    isplitr [HO]
    · isplitl [HR]
      · iapply (fam_push (show u + 1 ≤ u + 8 by omega) (RD c b))
        isplitl [HR]; · iexact HR
        iapply hrd
        iempintro
      isplitl [Hk56 Hs]
      · iapply (fam_push (show 56 ≤ u by omega) (fun w => (slotRes (c, b, m8 w) : sProp 𝕄)))
        isplitl [Hk56] <;> iassumption
      isplitr; · iexact Hh
      iapply (fam_sub (A := Finset.Ico u 56) (B := Finset.Ico (u + 1) 56) (Finset.Ico_subset_Ico (by omega) le_rfl)
        (fun u => (dutyTok ER (cell (pp c b) (kc b)) 0 u : sProp 𝕄))) $$ HT
    · iexact HO

end Cert.KernelIdeal.Own

end
-- ==== Proof.KernelIdeal.Steps.lean ====
module

public import proofs.«01_k».proof.Proof.KernelIdeal.Families

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## One ring of sums -/

section Reduce

variable (o : ℕ → Fin 3 → ℕ) (h : ∀ j a, o j a + S1x128x1024.size a ≤ S1x16384x2048.size a)
  (mr : Memref sig .tc .vmem S2x128x1024 .f32) (ls : Fin 2 → DmaSem sig) (q : Fin 2 → PosShare TreeShare)
  (ma : Memref sig .tc .vmem S2x128x1024 .bf16) (hm : ma.IsWhole)
  (dst : ℕ → Memref sig .tc .hbm S128x1024 .bf16) (hw : ∀ j, (dst j).view.WordExact) (so : Fin 2 → DmaSem sig)
  (rr : Memref sig .tc .vmem S8x128x1024 .bf16) (Y : ℕ → S128x1024.Idx → Elt F .bf16)

/-- The load of block `j`: under way while there are blocks. -/
def LW (j : ℕ) : sProp 𝕄 := if j < 64 then LF m c (o j) (h j) mr (m2 j) (ls (m2 j)) (q (m2 j)) else LI m c mr (m2 j) (ls (m2 j)) (q (m2 j))

/-- The sum of block `j`. -/
def redVal (j : ℕ) : S128x1024.Idx → Elt F .bf16 :=
  (addf (truncf .bf16 (inB m c (o j) (h j) : Vec F S128x1024 .f32) bitsLt_bf16_f32 : Vec F S128x1024 .bf16)
    (Y j : Vec F S128x1024 .bf16) : Vec F S128x1024 .bf16)

/-- What the slot of sum `w` is before that sum is put in it. -/
def OB (w : ℕ) : sProp 𝕄 :=
  if 2 ≤ w then OF c ma (m2 (w - 2)) (dst (w - 2)) (so (m2 (w - 2))) (redVal m c o h Y (w - 2))
  else iprop(idle c (slot2 ma (m2 w)) ∗ semVal ((c : Thread nD τ), .dma (so (m2 w))) 0)

/-- Block `j` of the result is written. -/
def OD (j : ℕ) : sProp 𝕄 := has c (dst j) fullShare (redVal m c o h Y j)

/-- The ring of sums before block `n`. -/
def Red (n : ℕ) : sProp 𝕄 :=
  iprop(LW m c o h mr ls q n ∗ LI m c mr (m2 (n + 1)) (ls (m2 (n + 1))) (q (m2 (n + 1)))
    ∗ bigSep (Finset.Ico n (n + 2)) (OB m c o h ma dst so Y) ∗ bigSep (Finset.Ico n 64) (fun j => idle c (dst j))
    ∗ bigSep (Finset.Ico 0 (n - 2)) (OD m c o h dst Y))

/-- Waiting for the sum two steps back to be out, where there is one, gives its slot back. -/
theorem wp_waitOutC (w : ℕ) {O : CellTallies nD τ sig ℕ} (hO : Above 0 O) (Q : PUnit → sProp (MT nD τ sig ℕ (Elt F) ℕ UU ℕ)) :
    iprop(Ctx m ∗ OB m c o h ma dst so Y w ∗ bigSep (Finset.Ico 0 (w - 2)) (OD m c o h dst Y) ∗ ow c O)
      ⊢ iprop((iprop(idle c (slot2 ma (m2 w)) ∗ semVal ((c : Thread nD τ), .dma (so (m2 w))) 0
            ∗ bigSep (Finset.Ico 0 (w + 1 - 2)) (OD m c o h dst Y) ∗ ow c O) -∗ Q ⟨⟩)
        -∗ wpc c (cond (2 ≤ w) (waitOut ma hm (m2 (w - 2)) (dst (w - 2)) (hw (w - 2)) (so (m2 (w - 2))))) Q) := by
  refine cond_rule c (fun hp Q => ?_) (fun hp => ?_) Q
  · have hOB : (OB m c o h ma dst so Y w : sProp 𝕄)
        ⊢ OF c ma (m2 (w - 2)) (dst (w - 2)) (so (m2 (w - 2))) (redVal m c o h Y (w - 2)) := by unfold OB; rw [if_pos hp]
    rw [show w + 1 - 2 = (w - 2) + 1 by omega]
    iintro ⟨#HC, HB, HD, HO⟩ Hk
    ihave HB := hOB $$ HB
    iapply (wp_waitOut m c ma (m2 (w - 2)) (dst (w - 2)) (so (m2 (w - 2))) (redVal m c o h Y (w - 2)) hm (hw _) hO) $$ [HB HO]
    · isplitr; · iexact HC
      isplitl [HB] <;> iassumption
    iintro ⟨Hd, Hs, Hv, HO⟩
    iapply Hk
    isplitl [Hs]; · iapply (at_eq (fun k => idle c (slot2 ma k)) (m2_sub hp)) $$ Hs
    isplitl [Hv]; · iapply (at_eq (fun k => semVal ((c : Thread nD τ), .dma (so k)) 0) (m2_sub hp)) $$ Hv
    isplitr [HO]
    · iapply (fam_push (show 0 ≤ w - 2 by omega) (OD m c o h dst Y))
      isplitl [HD]; · iexact HD
      unfold OD
      iexact Hd
    · iexact HO
  · unfold OB
    rw [if_neg hp, show w + 1 - 2 = w - 2 by omega]
    iintro ⟨-, ⟨H1, H2⟩, H3, H4⟩
    isplitl [H1]; · iexact H1
    isplitl [H2]; · iexact H2
    isplitl [H3] <;> iassumption

/-- One reduction: wait for the load, start the next, free a slot of sums, add, and start writing out. -/
theorem wp_reduce {s : ℕ} (hs : s < 64) {qr : PosShare TreeShare} {O : CellTallies nD τ sig ℕ} (hO : Above 0 O)
    (Q : PUnit → sProp (MT nD τ sig ℕ (Elt F) ℕ UU ℕ)) :
    iprop(Ctx m ∗ Red m c o h mr ls q ma dst so Y s ∗ has c (slot8 rr (m8 s)) qr (Y s) ∗ ow c O)
      ⊢ iprop((iprop(Red m c o h mr ls q ma dst so Y (s + 1) ∗ has c (slot8 rr (m8 s)) qr (Y s) ∗ ow c O) -∗ Q ⟨⟩)
        -∗ wpc c (do
          waitLoad (inV (o s) (h s)) mr (m2 s) (ls (m2 s))
          cond (s + 1 < 64) (startLoad (inV (o (s + 1)) (h (s + 1))) mr (m2 (s + 1)) (ls (m2 (s + 1))))
          cond (2 ≤ s) (waitOut ma hm (m2 (s - 2)) (dst (s - 2)) (hw (s - 2)) (so (m2 (s - 2))))
          accum mr rr ma hm (m2 s) (m8 s)
          startOut ma hm (m2 s) (dst s) (hw s) (so (m2 s))) Q) := by
  simp only [wpc_bind]
  have hLW : (LW m c o h mr ls q s : sProp 𝕄) ⊢ LF m c (o s) (h s) mr (m2 s) (ls (m2 s)) (q (m2 s)) := by unfold LW; rw [if_pos hs]
  have hOB : (OF c ma (m2 s) (dst s) (so (m2 s)) (redVal m c o h Y s) : sProp 𝕄) ⊢ OB m c o h ma dst so Y (s + 2) := by
    unfold OB; rw [if_pos (by omega), show s + 2 - 2 = s by omega]
  unfold Red
  iintro ⟨#HC, ⟨HL, HI, HW, HN, HD⟩, Hr, HO⟩ Hk
  ihave HL := hLW $$ HL
  iapply (wp_waitLoad m c (o s) (h s) mr (m2 s) (ls (m2 s)) (q (m2 s)) hO) $$ [HL HO]
  · isplitr; · iexact HC
    isplitl [HL] <;> iassumption
  iintro ⟨Hx, HL, HO⟩
  iapply (wp_startCond m c (s + 1 < 64) (o (s + 1)) (h (s + 1)) mr (m2 (s + 1)) (ls (m2 (s + 1))) (q (m2 (s + 1)))) $$ HI
  iintro HI
  ihave HW := (fam_pop (show s < s + 2 by omega) (OB m c o h ma dst so Y)) $$ HW
  icases HW with ⟨HB, HW⟩
  iapply (wp_waitOutC m c o h ma hm dst hw so Y s hO) $$ [HB HD HO]
  · isplitr; · iexact HC
    isplitl [HB]; · iexact HB
    isplitl [HD] <;> iassumption
  iintro ⟨Hs, Hv, HD, HO⟩
  iapply (wp_accum c mr rr ma hm (m2 s) (m8 s) (q := qr) (X := inB m c (o s) (h s)) (Y := Y s)) $$ [Hx Hr Hs]
  · isplitl [Hx]; · iexact Hx
    isplitl [Hr] <;> iassumption
  iintro ⟨Hx, Hr, Hs⟩
  ihave HN := (fam_pop hs (fun j => idle c (dst j))) $$ HN
  icases HN with ⟨Hn, HN⟩
  iapply (wp_startOut c ma (m2 s) (dst s) (so (m2 s)) (redVal m c o h Y s) hm (hw s)) $$ [Hs Hn Hv]
  · isplitl [Hs]; · unfold redVal; iexact Hs
    isplitl [Hn] <;> iassumption
  iintro HF
  ihave HF := hOB $$ HF
  iapply Hk
  isplitr [Hr HO]
  · isplitl [HI]; · unfold LW; iexact HI
    isplitl [Hx HL]
    · iapply (at_eq (fun k => LI m c mr k (ls k) (q k)) (m2_add s).symm)
      unfold LI
      isplitl [Hx]; · iapply (has_idle (F := F) c) $$ Hx
      iexact HL
    isplitl [HW HF]
    · iapply (fam_push (show s + 1 ≤ s + 2 by omega) (OB m c o h ma dst so Y))
      isplitl [HW] <;> iassumption
    isplitl [HN] <;> iassumption
  · isplitl [Hr] <;> iassumption

end Reduce

/-! ## The device's three rings -/

/-- Shares of the input, one per load that may be under way. -/
def qS (k : Fin 2) : PosShare TreeShare := if k = 0 then fullShare.left.left.left else fullShare.left.left.right
/-- The shares of the input that the direct sum's loads take. -/
def qD (k : Fin 2) : PosShare TreeShare := if k = 0 then fullShare.left.right.left else fullShare.left.right.right
/-- The shares of the input that the relayed sum's loads take. -/
def qR (k : Fin 2) : PosShare TreeShare := if k = 0 then fullShare.right.left else fullShare.right.right

/-- Where block `j` to send lies. -/
abbrev oS (j : ℕ) : Fin 3 → ℕ := k0_off1 c (BitVec.ofNat 32 (2 * (n64 j).val))
/-- Where block `j` of the direct sum lies. -/
abbrev oD (j : ℕ) : Fin 3 → ℕ := k0_off2 c (BitVec.ofNat 32 (2 * (n64 j).val))
/-- Where block `j` of the relayed sum lies. -/
abbrev oR (j : ℕ) : Fin 3 → ℕ := k0_off3 c (BitVec.ofNat 32 (2 * (n64 j).val))

/-- A load of a block to send on its way. -/
abbrev LWs (j : ℕ) : sProp 𝕄 := LW m c (oS c) (fun j => k0_off1_inb c (n64 j)) xsM lsS qS j

/-- A semaphore of what leaves along `x`, at zero. -/
abbrev ZX (w : ℕ) : sProp 𝕄 := semVal ((c : Thread nD τ), .dma (sxS (m8 w))) 0
/-- A semaphore of what leaves along `y`, at zero. -/
abbrev ZY (w : ℕ) : sProp 𝕄 := semVal ((c : Thread nD τ), .dma (syS (m8 w))) 0

/-- The send ring before block `n`. -/
def SendSt (n : ℕ) : sProp 𝕄 :=
  iprop(LWs m c n ∗ LWs m c (n + 1) ∗ bigSep (Finset.Ico n (n + 4)) (SB m c) ∗ bigSep (Finset.Ico n (n + 4)) (ZX c)
    ∗ bigSep (Finset.Ico n 64) (FX c) ∗ takenAt m c cx (n - 8))

/-- Rounding block `v` and sending it along `x`. -/
theorem wp_sendPart {v : ℕ} (hv : v < 64) {O : CellTallies nD τ sig ℕ} (hO : Above (16 * (v + 1)) O)
    (Q : PUnit → sProp (MT nD τ sig ℕ (Elt F) ℕ UU ℕ)) :
    iprop(Ctx m ∗ hist true (px c) 8 ∗ SendSt m c v ∗ ow c (O + tX c v))
      ⊢ iprop((iprop(SendSt m c (v + 1) ∗ ow c O) -∗ Q ⟨⟩) -∗ wpc c (sendPart c v) Q) := by
  unfold sendPart
  simp only [wpc_bind]
  have hO' : Above (16 * (v + 1)) (O + tX c v) := hO.add (Above.tally (by omega) (by omega))
  have hO0 : Above 0 (O + tX c v) := hO'.mono (by omega)
  have hLW : (LWs m c v : sProp 𝕄) ⊢ LF m c (oS c v) (k0_off1_inb c (n64 v)) xsM (m2 v) (lsS (m2 v)) (qS (m2 v)) := by
    unfold LWs LW; rw [if_pos hv]
  have hSB : (SF m c v : sProp 𝕄) ⊢ SB m c (v + 4) := by unfold SB; rw [if_pos (by omega), show v + 4 - 4 = v by omega]
  unfold SendSt
  iintro ⟨#HC, #Hh, ⟨HL, HL1, HW, HZ, HF, Ht⟩, HO⟩ Hk
  ihave HL := hLW $$ HL
  iapply (wp_waitLoad m c (oS c v) (k0_off1_inb c (n64 v)) xsM (m2 v) (lsS (m2 v)) (qS (m2 v)) hO0) $$ [HL HO]
  · isplitr; · iexact HC
    isplitl [HL] <;> iassumption
  iintro ⟨Hx, HL, HO⟩
  ihave HW := (fam_pop (show v < v + 4 by omega) (SB m c)) $$ HW
  icases HW with ⟨HB, HW⟩
  iapply (wp_waitSXc m c v hO0) $$ [HB HO]
  · isplitr; · iexact HC
    isplitl [HB] <;> iassumption
  iintro ⟨Hs, Hz4, HO⟩
  iapply (wp_fill c v (X := inB m c (oS c v) (k0_off1_inb c (n64 v)))) $$ [Hx Hs]
  · isplitl [Hx] <;> iassumption
  iintro ⟨Hx, Hs⟩
  iapply (wp_startCond m c (v + 2 < 64) (oS c (v + 2)) (k0_off1_inb c (n64 (v + 2))) xsM (m2 (v + 2)) (lsS (m2 (v + 2))) (qS (m2 (v + 2)))) $$ [Hx HL]
  · iapply (at_eq (fun k => LI m c xsM k (lsS k) (qS k)) (m2_add v).symm)
    unfold LI
    isplitl [Hx]; · iapply (has_idle (F := F) c) $$ Hx
    iexact HL
  iintro HL
  ihave HF := (fam_pop hv (FX c)) $$ HF
  icases HF with ⟨Hf, HF⟩
  unfold FX
  icases Hf with ⟨Htok, Hwt, Hcr⟩
  iapply (wp_takeX m c hv hO') $$ [Hcr Ht HO]
  · isplitr; · iexact HC
    isplitr; · iexact Hh
    isplitl [Hcr]; · iexact Hcr
    isplitl [Ht] <;> iassumption
  iintro ⟨#Hrel, Ht, HO⟩
  ihave HZ := (fam_pop (show v < v + 4 by omega) (ZX c)) $$ HZ
  icases HZ with ⟨Hz, HZ⟩
  iapply (wp_sendX m c hv (O := O)) $$ [Hs Hz HO Htok Hwt]
  · isplitr; · iexact HC
    isplitl [Hs]; · unfold sendVal xsB; iexact Hs
    isplitl [Hz]; · iexact Hz
    isplitl [HO]; · iexact HO
    isplitl [Htok]; · iexact Htok
    isplitl [Hwt]; · iexact Hwt
    iexact Hrel
  iintro ⟨HS, HO⟩
  ihave HS := hSB $$ HS
  iapply Hk
  isplitr [HO]
  · isplitl [HL1]; · iexact HL1
    isplitl [HL]; · unfold LWs LW; iexact HL
    isplitl [HW HS]
    · iapply (fam_push (show v + 1 ≤ v + 4 by omega) (SB m c))
      isplitl [HW] <;> iassumption
    isplitl [HZ Hz4]
    · iapply (fam_push (show v + 1 ≤ v + 4 by omega) (ZX c))
      isplitl [HZ] <;> iassumption
    isplitl [HF] <;> iassumption
  · iexact HO

/-- The ring of the device's own rows, before block `n`. -/
abbrev DirSt (n : ℕ) : sProp 𝕄 :=
  Red m c (oD c) (fun j => k0_off2_inb c (n64 j)) xdM ldS qD adM (odV c) odS (sendVal m (px c)) n

/-- The ring of the relayed rows, before block `n`. -/
abbrev RelRed (n : ℕ) : sProp 𝕄 :=
  Red m c (oR c) (fun j => k0_off3_inb c (n64 j)) xrM lrS qR arM (orV c) orS (sendVal m (px (py c))) n

/-- Reducing block `s` with the one that came along `x`. -/
theorem wp_directPart {s : ℕ} (hs : s < 64) {O : CellTallies nD τ sig ℕ} (hO : Above 0 O) {qr : PosShare TreeShare}
    (Q : PUnit → sProp (MT nD τ sig ℕ (Elt F) ℕ UU ℕ)) :
    iprop(Ctx m ∗ DirSt m c s ∗ has c (slot8 rxM (m8 s)) qr (sendVal m (px c) s) ∗ ow c O)
      ⊢ iprop((iprop(DirSt m c (s + 1) ∗ has c (slot8 rxM (m8 s)) qr (sendVal m (px c) s) ∗ ow c O) -∗ Q ⟨⟩)
        -∗ wpc c (directPart c s) Q) :=
  wp_reduce m c (oD c) (fun j => k0_off2_inb c (n64 j)) xdM ldS qD adM (Memref.isWhole_whole _) (odV c) (wod c) odS rxM
    (sendVal m (px c)) hs hO Q

/-- Everything about the relayed rows, before block `n`, but the retired slots. -/
def RelA (n : ℕ) : sProp 𝕄 :=
  iprop(RelRed m c n ∗ bigSep (Finset.Ico n (n + 8)) (PY c) ∗ bigSep (Finset.Ico n 64) (CRY c))

/-- Waiting for block `t` along `y`, reducing with it, and giving its slot back. -/
theorem wp_relayPart {t : ℕ} (ht : t < 64) {O : CellTallies nD τ sig ℕ} (hO : Above (16 * (t + 4) + 3) O)
    (Q : PUnit → sProp (MT nD τ sig ℕ (Elt F) ℕ UU ℕ)) :
    iprop(Ctx m ∗ RelA m c t ∗ ow c O)
      ⊢ iprop((iprop(RelA m c (t + 1) ∗ slotRes (c, false, m8 t) ∗ reached ER (cell c (ry (m8 t))) (t / 8 + 1) ∗ ow c O) -∗ Q ⟨⟩)
        -∗ wpc c (relayPart c t) Q) := by
  have key := fun Q => wp_reduce m c (oR c) (fun j => k0_off3_inb c (n64 j)) xrM lrS qR arM (Memref.isWhole_whole _) (orV c) (wor c) orS ryM
    (sendVal m (px (py c))) ht (qr := fullShare) (hO.mono (Nat.zero_le _)) Q
  have hres : (idle c (slot8 ryM (m8 t)) : sProp 𝕄) ⊢ slotRes (c, false, m8 t) := by unfold slotRes; exact .rfl
  unfold relayPart RelA
  rw [wpc_bind]
  iintro ⟨#HC, ⟨HR, HP, HCr⟩, HO⟩ Hk
  ihave HP := (fam_pop (show t < t + 8 by omega) (PY c)) $$ HP
  icases HP with ⟨Hp, HP⟩
  ihave HCr := (fam_pop ht (CRY c)) $$ HCr
  icases HCr with ⟨Hc, HCr⟩
  iapply (wp_waitRY m c ht hO) $$ [Hp Hc HO]
  · isplitr; · iexact HC
    isplitl [Hc]; · iexact Hc
    isplitl [Hp] <;> iassumption
  iintro ⟨Hr, Hp, #Hre, HO⟩
  iapply (key Q) $$ [HR Hr HO]
  · isplitr; · iexact HC
    isplitl [HR]; · iexact HR
    isplitl [Hr] <;> iassumption
  iintro ⟨HR, Hr, HO⟩
  iapply Hk
  isplitr [Hr HO]
  · isplitl [HR]; · iexact HR
    isplitl [HP Hp]
    · iapply (fam_push (show t + 1 ≤ t + 8 by omega) (PY c))
      isplitl [HP] <;> iassumption
    iexact HCr
  · isplitl [Hr]
    · iapply hres
      iapply (has_idle (F := F) c) $$ Hr
    isplitr; · iexact Hre
    iexact HO

/-! ## One step -/

/-- What device `c` owes for step `s`, and for all steps from `s` on. -/
def stepO (s : ℕ) : CellTallies nD τ sig ℕ :=
  (((if 3 ≤ s then (if s - 3 + 8 < 64 then tCX c (s - 3) else 0) else 0) + (if 1 ≤ s then (if s - 1 + 8 < 64 then tCY c (s - 1) else 0) else 0))
    + (if s + 3 < 64 then tX c (s + 3) else 0)) + tY c s

/-- What is owed from step `s` on. -/
def owed (s : ℕ) : CellTallies nD τ sig ℕ := ∑ x ∈ Finset.Ico s 64, stepO c x

/-- At the end nothing is owed. -/
theorem owed_end : owed c 64 = 0 := by unfold owed; rw [Finset.Ico_self]; rfl

/-- What is owed from a step on is what is owed from the next on and what the step itself pays. -/
theorem owed_step {s : ℕ} (hs : s < 64) :
    owed c s = (((owed c (s + 1) + (if 3 ≤ s then (if s - 3 + 8 < 64 then tCX c (s - 3) else 0) else 0))
      + (if 1 ≤ s then (if s - 1 + 8 < 64 then tCY c (s - 1) else 0) else 0)) + (if s + 3 < 64 then tX c (s + 3) else 0)) + tY c s := by
  unfold owed
  rw [show Finset.Ico s 64 = insert s (Finset.Ico (s + 1) 64) from by
      ext x; simp only [Finset.mem_Ico, Finset.mem_insert]; omega,
    Finset.sum_insert (by simp only [Finset.mem_Ico]; omega), add_comm]
  simp only [stepO, add_assoc]

/-- A step's credit along `x` is above the waits before it. -/
theorem above_tCX {s ι : ℕ} (hs : s < 64) (h : ι ≤ 16 * (s + 4) + 10) :
    Above ι (if 3 ≤ s then (if s - 3 + 8 < 64 then tCX c (s - 3) else 0) else 0) :=
  Above.ite fun _ => Above.ite fun _ => Above.tally (by omega) (by omega)
/-- A step's credit along `y` is above the waits before it. -/
theorem above_tCY {s ι : ℕ} (hs : s < 64) (h : ι ≤ 16 * (s + 4) + 8) :
    Above ι (if 1 ≤ s then (if s - 1 + 8 < 64 then tCY c (s - 1) else 0) else 0) :=
  Above.ite fun _ => Above.ite fun _ => Above.tally (by omega) (by omega)
/-- A step's block along `x` is above the waits before it. -/
theorem above_tX {s ι : ℕ} (h : ι ≤ 16 * (s + 4) + 5) : Above ι (if s + 3 < 64 then tX c (s + 3) else 0) :=
  Above.ite fun _ => Above.tally (by omega) (by omega)
/-- A step's block along `y` is above the waits before it. -/
theorem above_tY {s ι : ℕ} (hs : s < 64) (h : ι ≤ 16 * (s + 4) + 2) : Above ι (tY c s) := Above.tally (by omega) (by omega)

/-- All that is owed from a step on is above the earlier waits. -/
theorem above_owed {s ι : ℕ} (h : ι ≤ 16 * (s + 4) + 2) : Above ι (owed c s) :=
  Above.sum fun x hx => by
    obtain ⟨h1, h2⟩ := Finset.mem_Ico.mp hx
    exact (((above_tCX c h2 (by omega)).add (above_tCY c h2 (by omega))).add (above_tX c (by omega))).add (above_tY c h2 (by omega))

/-- What slot `w` of the relay's semaphores holds before block `w` is relayed: free, or block `w - 3` still leaving, the
    rest of its slot kept. -/
def YB (w : ℕ) : sProp 𝕄 :=
  if 3 ≤ w then iprop(YF m c (w - 3) ∗ has c (slot8 rxM (m8 (w - 3))) fullShare.right (sendVal m (px c) (w - 3))
    ∗ reached ER (cell c (rx (m8 (w - 3)))) ((w - 3) / 8 + 1))
  else semVal ((c : Thread nD τ), .dma (syS (m8 (w + 5)))) 0

/-- The received blocks, before step `s`. -/
def RecvSt (s : ℕ) : sProp 𝕄 :=
  iprop(bigSep (Finset.Ico s 64) (CRX c) ∗ bigSep (Finset.Ico s (s + 8)) (PX c) ∗ bigSep (Finset.Ico s 64) (FY c) ∗ takenAt m c cy (s - 8)
    ∗ bigSep (Finset.Ico s (s + 3)) (YB m c) ∗ bigSep (Finset.Ico s (s + 5)) (ZY c))

/-- Waiting until block `w` has left along `y` gives its receive slot back whole. -/
theorem wp_waitSY {w : ℕ} {O : CellTallies nD τ sig ℕ} (hO : Above 0 O) (Q : PUnit → sProp (MT nD τ sig ℕ (Elt F) ℕ UU ℕ)) :
    iprop(Ctx m ∗ YF m c w ∗ has c (slot8 rxM (m8 w)) fullShare.right (sendVal m (px c) w) ∗ ow c O)
      ⊢ iprop((iprop(slotRes (c, true, m8 w) ∗ semVal ((c : Thread nD τ), .dma (syS (m8 w))) 0 ∗ ow c O) -∗ Q ⟨⟩)
        -∗ wpc c (waitSY w) Q) := by
  have hres : (idle c (slot8 rxM (m8 w)) : sProp 𝕄) ⊢ slotRes (c, true, m8 w) := by unfold slotRes; exact .rfl
  refine lift_rule c (fun K Q => ?_) Q
  unfold YF
  iintro ⟨#HC, HF, Hr, HO⟩ Hk
  ihave HM := (Ctx_mayWait m (c := c) (s := .dma (syS (m8 w))) hO (by decide)) $$ HC
  iapply (wp_flightWait c (K := K) (Q := Q) (srcw := slot8 ryM (m8 w)) (dstw := slot8 rxM (m8 w)) (sem := syS (m8 w)) rfl (O := O)) $$ [HF HO HM]
  · isplitl [HF]; · iexact HF
    isplitl [HO] <;> iassumption
  iintro ⟨Hl, Hv, HO⟩
  iapply Hk
  isplitl [Hl Hr]
  · iapply hres
    iapply (has_idle (F := F) c)
    iapply (has_join (F := F) c)
    isplitl [Hl] <;> iassumption
  isplitl [Hv] <;> iassumption

/-- Everything about the relayed rows, before block `n`. -/
def RelSt (n : ℕ) : sProp 𝕄 := iprop(RelA m c n ∗ Ret c false n)

/-- The relayed part of a step, where there is one. -/
theorem wp_relayStep {s : ℕ} (hs : s < 64) {O : CellTallies nD τ sig ℕ} (hO : Above (16 * (s + 3) + 3) O)
    (Q : PUnit → sProp (MT nD τ sig ℕ (Elt F) ℕ UU ℕ)) :
    iprop(Ctx m ∗ RelSt m c (s - 1) ∗ ow c (O + (if 1 ≤ s then (if s - 1 + 8 < 64 then tCY c (s - 1) else 0) else 0)))
      ⊢ iprop((iprop(RelSt m c (s + 1 - 1) ∗ ow c O) -∗ Q ⟨⟩)
        -∗ wpc c (cond (1 ≤ s) (do relayPart c (s - 1); cond (s - 1 + 8 < 64) (give (py c) cyS))) Q) := by
  refine cond_rule c (fun hp Q => ?_) (fun hp => ?_) Q
  · rw [if_pos hp, wpc_bind, show s + 1 - 1 = s - 1 + 1 by omega]
    have hO' : Above (16 * (s - 1 + 4) + 3) (O + (if s - 1 + 8 < 64 then tCY c (s - 1) else 0)) :=
      (hO.mono (by omega)).add (Above.ite fun _ => Above.tally (by omega) (by omega))
    unfold RelSt
    iintro ⟨#HC, ⟨HA, HR⟩, HO⟩ Hk
    iapply (wp_relayPart m c (t := s - 1) (by omega) hO') $$ [HA HO]
    · isplitr; · iexact HC
      isplitl [HA] <;> iassumption
    iintro ⟨HA, Hs, #Hre, HO⟩
    unfold tCY
    iapply (wp_retire m c false (sm := cyS) rfl rfl rfl (fun u => by show hist false (py (py c)) (u + 9) = _; rw [py_py]) (u := s - 1)
      (ι := 16 * (s - 1 + 5) + 9) (by omega) (O := O)) $$ [Hs HR HO]
    · isplitr; · iexact HC
      isplitl [Hs]; · iexact Hs
      isplitr; · iexact Hre
      isplitl [HR]; · iexact HR
      iexact HO
    iintro ⟨HR, HO⟩
    iapply Hk
    isplitr [HO]
    · isplitl [HA] <;> iassumption
    · iexact HO
  · rw [if_neg hp, add_zero, show s + 1 - 1 = s - 1 by omega]
    iintro ⟨-, H1, H2⟩
    isplitl [H1] <;> iassumption

/-- The part of a step that gives an old slot along `x` back, where there is one. -/
theorem wp_retireStep {s : ℕ} (hs : s < 64) {O : CellTallies nD τ sig ℕ} (hO : Above 0 O)
    (Q : PUnit → sProp (MT nD τ sig ℕ (Elt F) ℕ UU ℕ)) :
    iprop(Ctx m ∗ YB m c s ∗ Ret c true (s - 3) ∗ ow c (O + (if 3 ≤ s then (if s - 3 + 8 < 64 then tCX c (s - 3) else 0) else 0)))
      ⊢ iprop((iprop(ZY c (s + 5) ∗ Ret c true (s + 1 - 3) ∗ ow c O) -∗ Q ⟨⟩)
        -∗ wpc c (cond (3 ≤ s) (do waitSY (s - 3); cond (s - 3 + 8 < 64) (give (px c) cxS))) Q) := by
  unfold YB
  refine cond_rule c (fun hp Q => ?_) (fun hp => ?_) Q
  · rw [if_pos hp, if_pos hp, wpc_bind, show s + 1 - 3 = s - 3 + 1 by omega]
    have hO' : Above 0 (O + (if s - 3 + 8 < 64 then tCX c (s - 3) else 0)) :=
      hO.add (Above.ite fun _ => Above.tally (by omega) (by omega))
    iintro ⟨#HC, ⟨HF, Hr, #Hre⟩, HR, HO⟩ Hk
    iapply (wp_waitSY m c (w := s - 3) hO') $$ [HF Hr HO]
    · isplitr; · iexact HC
      isplitl [HF]; · iexact HF
      isplitl [Hr] <;> iassumption
    iintro ⟨Hs, Hv, HO⟩
    unfold tCX
    iapply (wp_retire m c true (sm := cxS) rfl rfl rfl (fun u => by show hist true (px (px c)) (u + 9) = _; rw [px_px]) (u := s - 3)
      (ι := 16 * (s - 3 + 7) + 11) (by omega) (O := O)) $$ [Hs HR HO]
    · isplitr; · iexact HC
      isplitl [Hs]; · iexact Hs
      isplitr; · iexact Hre
      isplitl [HR]; · iexact HR
      iexact HO
    iintro ⟨HR, HO⟩
    iapply Hk
    isplitl [Hv]
    · iapply (at_eq (fun k => semVal ((c : Thread nD τ), .dma (syS k)) 0)
        (show m8 (s - 3) = m8 (s + 5) from Fin.ext (by show (s - 3) % 8 = (s + 5) % 8; omega))) $$ Hv
    isplitl [HR] <;> iassumption
  · rw [if_neg hp, if_neg hp, add_zero, show s + 1 - 3 = s - 3 by omega]
    iintro ⟨-, H0, H1, H2⟩
    isplitl [H0]; · iexact H0
    isplitl [H1] <;> iassumption

/-- The part of a step that sends a block ahead, where there is one. -/
theorem wp_sendStep (s : ℕ) {O : CellTallies nD τ sig ℕ} (hO : Above (16 * (s + 4)) O)
    (Q : PUnit → sProp (MT nD τ sig ℕ (Elt F) ℕ UU ℕ)) :
    iprop(Ctx m ∗ hist true (px c) 8 ∗ SendSt m c (min (s + 3) 64) ∗ ow c (O + (if s + 3 < 64 then tX c (s + 3) else 0)))
      ⊢ iprop((iprop(SendSt m c (min (s + 1 + 3) 64) ∗ ow c O) -∗ Q ⟨⟩) -∗ wpc c (cond (s + 3 < 64) (sendPart c (s + 3))) Q) := by
  refine cond_rule c (fun hp Q => ?_) (fun hp => ?_) Q
  · rw [if_pos hp, min_eq_left (by omega), min_eq_left (by omega), show s + 1 + 3 = s + 3 + 1 by omega]
    exact wp_sendPart m c hp hO Q
  · rw [if_neg hp, add_zero, min_eq_right (by omega), min_eq_right (by omega)]
    iintro ⟨-, -, H1, H2⟩
    isplitl [H1] <;> iassumption

/-- The state of device `c` before step `s`. -/
def Inv (s : ℕ) : sProp 𝕄 :=
  iprop(SendSt m c (min (s + 3) 64) ∗ DirSt m c s ∗ RelSt m c (s - 1) ∗ RecvSt m c s ∗ Ret c true (s - 3) ∗ ow c (owed c s))

/-- Step `s` takes a device from the state before it to the state before the next. -/
theorem wp_step {s : ℕ} (hs : s < 64) (Q : PUnit → sProp (MT nD τ sig ℕ (Elt F) ℕ UU ℕ)) :
    iprop(Ctx m ∗ hist true (px c) 8 ∗ hist false (py c) 8 ∗ Inv m c s)
      ⊢ iprop((Inv m c (s + 1) -∗ Q ⟨⟩) -∗ wpc c (step c s) Q) := by
  unfold step Inv RecvSt
  rw [owed_step c hs]
  simp only [wpc_bind]
  have hA := above_owed c (s := s + 1) (ι := 16 * (s + 5) + 2) (by omega)
  have hA1 : Above (16 * (s + 3) + 3) (owed c (s + 1) + (if 3 ≤ s then (if s - 3 + 8 < 64 then tCX c (s - 3) else 0) else 0)) :=
    (hA.mono (by omega)).add (above_tCX c hs (by omega))
  have hA2 : Above (16 * (s + 4)) (owed c (s + 1) + (if 3 ≤ s then (if s - 3 + 8 < 64 then tCX c (s - 3) else 0) else 0)
      + (if 1 ≤ s then (if s - 1 + 8 < 64 then tCY c (s - 1) else 0) else 0)) :=
    ((hA.mono (by omega)).add (above_tCX c hs (by omega))).add (above_tCY c hs (by omega))
  have hA4 := (hA2.add (above_tX c (s := s) (by omega))).add (above_tY c hs (by omega))
  have hYB : iprop(YF m c s ∗ has c (slot8 rxM (m8 s)) fullShare.right (sendVal m (px c) s) ∗ reached ER (cell c (rx (m8 s))) (s / 8 + 1))
      ⊢ (YB m c (s + 3) : sProp 𝕄) := by
    unfold YB; rw [if_pos (by omega), show s + 3 - 3 = s by omega]
  iintro ⟨#HC, #HhX, #HhY, HS, HD, HR, ⟨HCX, HP, HFY, Ht, HYB, HZ⟩, HX, HO⟩ Hk
  ihave HCX := (fam_pop hs (CRX c)) $$ HCX
  icases HCX with ⟨Hcx, HCX⟩
  ihave HP := (fam_pop (show s < s + 8 by omega) (PX c)) $$ HP
  icases HP with ⟨Hp, HP⟩
  iapply (wp_waitRX m c hs (hA4.mono (by omega))) $$ [Hcx Hp HO]
  · isplitr; · iexact HC
    isplitl [Hcx]; · iexact Hcx
    isplitl [Hp] <;> iassumption
  iintro ⟨Hr, Hp, #Hre, HO⟩
  ihave HFY := (fam_pop hs (FY c)) $$ HFY
  icases HFY with ⟨Hf, HFY⟩
  unfold FY
  icases Hf with ⟨Htok, Hwt, Hcr⟩
  iapply (wp_takeY m c hs (hA4.mono (by omega))) $$ [Hcr Ht HO]
  · isplitr; · iexact HC
    isplitr; · iexact HhY
    isplitl [Hcr]; · iexact Hcr
    isplitl [Ht] <;> iassumption
  iintro ⟨#Hrel, Ht, HO⟩
  ihave Hr := (has_split (F := F) c) $$ Hr
  icases Hr with ⟨Hl, Hr⟩
  ihave HZ := (fam_pop (show s < s + 5 by omega) (ZY c)) $$ HZ
  icases HZ with ⟨Hz, HZ⟩
  iapply (wp_sendY m c hs) $$ [Hl Hz HO Htok Hwt]
  · isplitr; · iexact HC
    isplitl [Hl]; · iexact Hl
    isplitl [Hz]; · iexact Hz
    isplitl [HO]; · iexact HO
    isplitl [Htok]; · iexact Htok
    isplitl [Hwt]; · iexact Hwt
    iexact Hrel
  iintro ⟨HY, HO⟩
  iapply (wp_sendStep m c s hA2) $$ [HS HO]
  · isplitr; · iexact HC
    isplitr; · iexact HhX
    isplitl [HS] <;> iassumption
  iintro ⟨HS, HO⟩
  iapply (wp_directPart m c hs (hA2.mono (by omega))) $$ [HD Hr HO]
  · isplitr; · iexact HC
    isplitl [HD]; · iexact HD
    isplitl [Hr] <;> iassumption
  iintro ⟨HD, Hr, HO⟩
  iapply (wp_relayStep m c hs hA1) $$ [HR HO]
  · isplitr; · iexact HC
    isplitl [HR] <;> iassumption
  iintro ⟨HR, HO⟩
  ihave HYB := (fam_pop (show s < s + 3 by omega) (YB m c)) $$ HYB
  icases HYB with ⟨Hyb, HYB⟩
  iapply (wp_retireStep m c hs (hA.mono (by omega))) $$ [Hyb HX HO]
  · isplitr; · iexact HC
    isplitl [Hyb]; · iexact Hyb
    isplitl [HX] <;> iassumption
  iintro ⟨Hz5, HX, HO⟩
  iapply Hk
  isplitl [HS]; · iexact HS
  isplitl [HD]; · iexact HD
  isplitl [HR]; · iexact HR
  isplitr [HX HO]
  · isplitl [HCX]; · iexact HCX
    isplitl [HP Hp]
    · iapply (fam_push (show s + 1 ≤ s + 8 by omega) (PX c))
      isplitl [HP] <;> iassumption
    isplitl [HFY]; · iexact HFY
    isplitl [Ht]; · iexact Ht
    isplitl [HYB HY Hr]
    · iapply (fam_push (show s + 1 ≤ s + 3 by omega) (YB m c))
      isplitl [HYB]; · iexact HYB
      iapply hYB
      isplitl [HY]; · iexact HY
      isplitl [Hr]; · iexact Hr
      iexact Hre
    · iapply (fam_push (show s + 1 ≤ s + 5 by omega) (ZY c))
      isplitl [HZ] <;> iassumption
  isplitl [HX] <;> iassumption

/-- The remaining steps. -/
theorem wp_loop (k : ℕ) (hk : k ≤ 64) (Q : PUnit → sProp (MT nD τ sig ℕ (Elt F) ℕ UU ℕ)) :
    iprop(Ctx m ∗ hist true (px c) 8 ∗ hist false (py c) 8 ∗ Inv m c (64 - k))
      ⊢ iprop((Inv m c 64 -∗ Q ⟨⟩) -∗ wpc c (loop c k) Q) := by
  induction k with
  | zero =>
    show _ ⊢ iprop((Inv m c 64 -∗ Q ⟨⟩) -∗ wpc c (.ret ⟨⟩) Q)
    iintro ⟨-, -, -, H⟩ Hk
    iapply (wpc_ret c ⟨⟩ Q)
    iapply Hk
    iexact H
  | succ k ih =>
    have h1 := wp_step m c (s := 63 - k) (by omega) (fun _ => wpc c (loop c k) Q)
    rw [show 63 - k + 1 = 64 - k by omega] at h1
    have h2 := ih (by omega)
    show _ ⊢ iprop((Inv m c 64 -∗ Q ⟨⟩) -∗ wpc c (step c (63 - k) >>= fun _ => loop c k) Q)
    rw [wpc_bind, show 64 - (k + 1) = 63 - k by omega]
    iintro ⟨#HC, #HX, #HY, H⟩ Hk
    iapply h1 $$ [H]
    · isplitr; · iexact HC
      isplitr; · iexact HX
      isplitr; · iexact HY
      iexact H
    iintro H
    iapply h2 $$ [H]
    · isplitr; · iexact HC
      isplitr; · iexact HX
      isplitr; · iexact HY
      iexact H
    iexact Hk

end Cert.KernelIdeal.Own

end
-- ==== Proof.KernelIdeal.Run.lean ====
module

public import proofs.«01_k».proof.Proof.KernelIdeal.Steps

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## One ring of sums: its start and its end -/

section Reduce

variable (o : ℕ → Fin 3 → ℕ) (h : ∀ j a, o j a + S1x128x1024.size a ≤ S1x16384x2048.size a)
  (mr : Memref sig .tc .vmem S2x128x1024 .f32) (ls : Fin 2 → DmaSem sig) (q : Fin 2 → PosShare TreeShare)
  (ma : Memref sig .tc .vmem S2x128x1024 .bf16) (hm : ma.IsWhole)
  (dst : ℕ → Memref sig .tc .hbm S128x1024 .bf16) (hw : ∀ j, (dst j).view.WordExact) (so : Fin 2 → DmaSem sig)
  (Y : ℕ → S128x1024.Idx → Elt F .bf16)

/-- A load's slot at rest, and a sum's. -/
def Ld (j : ℕ) : sProp 𝕄 := LI m c mr (m2 j) (ls (m2 j)) (q (m2 j))
/-- A slot of sums and its semaphore, free. -/
def Osl (w : ℕ) : sProp 𝕄 := iprop(idle c (slot2 ma (m2 w)) ∗ semVal ((c : Thread nD τ), .dma (so (m2 w))) 0)

/-- The last sums under way. -/
def RTail (w : ℕ) : sProp 𝕄 :=
  iprop(bigSep (Finset.Ico (w + 2) 66) (OB m c o h ma dst so Y) ∗ bigSep (Finset.Ico 62 w) (Osl c ma so)
    ∗ bigSep (Finset.Ico 0 w) (OD m c o h dst Y))

/-- The first loads find their slots free. -/
theorem wp_firstLoad {j : ℕ} (hj : j < 64) (Q : PUnit → sProp (MT nD τ sig ℕ (Elt F) ℕ UU ℕ)) :
    Ld m c mr ls q j ⊢ iprop((LW m c o h mr ls q j -∗ Q ⟨⟩)
      -∗ wpc c (startLoad (inV (o j) (h j)) mr (m2 j) (ls (m2 j))) Q) := by
  have := wp_startLoad m c (o j) (h j) mr (m2 j) (ls (m2 j)) (q (m2 j)) Q
  unfold Ld LW
  rw [if_pos hj]
  exact this

/-- What the reductions have before the first. -/
theorem red_start : iprop(LW m c o h mr ls q 0 ∗ Ld m c mr ls q 1 ∗ bigSep (Finset.Ico 0 2) (Osl c ma so)
      ∗ bigSep (Finset.Ico 0 64) (fun j => idle c (dst j)))
    ⊢ (Red m c o h mr ls q ma dst so Y 0 : sProp 𝕄) := by
  have hB : (bigSep (Finset.Ico 0 2) (Osl (F := F) c ma so) : sProp 𝕄) = bigSep (Finset.Ico 0 2) (OB m c o h ma dst so Y) :=
    bigSep_congr fun w hw => by
      unfold Osl OB
      rw [if_neg (by have := Finset.mem_Ico.mp hw; omega)]
  rw [hB]
  unfold Red Ld
  iintro ⟨H1, H2, H3, H4⟩
  isplitl [H1]; · iexact H1
  isplitl [H2]; · iexact H2
  isplitl [H3]; · iexact H3
  isplitl [H4]; · iexact H4
  iapply (fam_none (Nat.le_refl 0) (OD m c o h dst Y))
  iempintro

/-- What the reductions have after the last. -/
theorem red_end : (Red m c o h mr ls q ma dst so Y 64 : sProp 𝕄)
    ⊢ iprop(Ld m c mr ls q 64 ∗ Ld m c mr ls q 65 ∗ RTail m c o h ma dst so Y 62) := by
  unfold Red RTail Ld LW
  rw [if_neg (Nat.lt_irrefl 64)]
  iintro ⟨H1, H2, H3, -, H4⟩
  isplitl [H1]; · iexact H1
  isplitl [H2]; · iexact H2
  isplitl [H3]; · iexact H3
  isplitr; · iapply (fam_none (Nat.le_refl 62) (Osl (F := F) c ma so)); iempintro
  iexact H4

/-- Waiting at the end for one of the last two sums to be out. -/
theorem wp_lastOut {w : ℕ} (h1 : 62 ≤ w) (h2 : w < 64) {O : CellTallies nD τ sig ℕ} (hO : Above 0 O)
    (Q : PUnit → sProp (MT nD τ sig ℕ (Elt F) ℕ UU ℕ)) :
    iprop(Ctx m ∗ RTail m c o h ma dst so Y w ∗ ow c O)
      ⊢ iprop((iprop(RTail m c o h ma dst so Y (w + 1) ∗ ow c O) -∗ Q ⟨⟩)
        -∗ wpc c (waitOut ma hm (m2 w) (dst w) (hw w) (so (m2 w))) Q) := by
  have hOB : (OB m c o h ma dst so Y (w + 2) : sProp 𝕄) ⊢ OF c ma (m2 w) (dst w) (so (m2 w)) (redVal m c o h Y w) := by
    unfold OB; rw [if_pos (by omega), show w + 2 - 2 = w by omega]
  unfold RTail
  rw [show w + 1 + 2 = w + 2 + 1 by omega]
  iintro ⟨#HC, ⟨HB, HI, HD⟩, HO⟩ Hk
  ihave HB := (fam_pop (show w + 2 < 66 by omega) (OB m c o h ma dst so Y)) $$ HB
  icases HB with ⟨Hb, HB⟩
  ihave Hb := hOB $$ Hb
  iapply (wp_waitOut m c ma (m2 w) (dst w) (so (m2 w)) (redVal m c o h Y w) hm (hw w) hO) $$ [Hb HO]
  · isplitr; · iexact HC
    isplitl [Hb] <;> iassumption
  iintro ⟨Hd, Hs, Hv, HO⟩
  iapply Hk
  isplitr [HO]
  · isplitl [HB]; · iexact HB
    isplitl [HI Hs Hv]
    · iapply (fam_push h1 (Osl c ma so))
      isplitl [HI]; · iexact HI
      unfold Osl
      isplitl [Hs] <;> iassumption
    · iapply (fam_push (Nat.zero_le w) (OD m c o h dst Y))
      isplitl [HD]; · iexact HD
      unfold OD
      iexact Hd
  · iexact HO

end Reduce

/-! ## The last waits of the two copies between devices -/

/-- A send slot, free. -/
def Sb (w : ℕ) : sProp 𝕄 := idle c (slot4 sbM (m4 w))

/-- The last blocks sent along `x` that have not yet been waited for, from `w` on. -/
def STail (w : ℕ) : sProp 𝕄 :=
  iprop(bigSep (Finset.Ico (w + 4) 68) (SB m c) ∗ bigSep (Finset.Ico 60 w) (Sb c) ∗ bigSep (Finset.Ico 60 w) (ZX c))

/-- Waiting at the end for one of the last blocks to leave along `x`. -/
theorem wp_lastSX {w : ℕ} (h1 : 60 ≤ w) (h2 : w < 64) {O : CellTallies nD τ sig ℕ} (hO : Above 0 O)
    (Q : PUnit → sProp (MT nD τ sig ℕ (Elt F) ℕ UU ℕ)) :
    iprop(Ctx m ∗ STail m c w ∗ ow c O) ⊢ iprop((iprop(STail m c (w + 1) ∗ ow c O) -∗ Q ⟨⟩) -∗ wpc c (waitSX w) Q) := by
  have hSB : (SB m c (w + 4) : sProp 𝕄) ⊢ SF m c w := by unfold SB; rw [if_pos (by omega), show w + 4 - 4 = w by omega]
  unfold STail
  rw [show w + 1 + 4 = w + 4 + 1 by omega]
  iintro ⟨#HC, ⟨HB, HI, HZ⟩, HO⟩ Hk
  ihave HB := (fam_pop (show w + 4 < 68 by omega) (SB m c)) $$ HB
  icases HB with ⟨Hb, HB⟩
  ihave Hb := hSB $$ Hb
  iapply (wp_waitSX m c (w := w) hO) $$ [Hb HO]
  · isplitr; · iexact HC
    isplitl [Hb] <;> iassumption
  iintro ⟨Hs, Hv, HO⟩
  iapply Hk
  isplitr [HO]
  · isplitl [HB]; · iexact HB
    isplitl [HI Hs]
    · iapply (fam_push h1 (Sb c))
      isplitl [HI]; · iexact HI
      unfold Sb
      iexact Hs
    · iapply (fam_push h1 (ZX c))
      isplitl [HZ] <;> iassumption
  · iexact HO

/-- Receive slot `w` of ring `b`. -/
def Rs (b : Bool) (w : ℕ) : sProp 𝕄 := slotRes (c, b, m8 w)

/-- The last blocks passed on along `y` that have not yet been waited for, from `w` on. -/
def YTail (w : ℕ) : sProp 𝕄 :=
  iprop(bigSep (Finset.Ico (w + 3) 67) (YB m c) ∗ bigSep (Finset.Ico 61 w) (Rs c true) ∗ bigSep (Finset.Ico 61 w) (ZY c))

/-- Waiting at the end for one of the last blocks to leave along `y`. -/
theorem wp_lastSY {w : ℕ} (h1 : 61 ≤ w) (h2 : w < 64) {O : CellTallies nD τ sig ℕ} (hO : Above 0 O)
    (Q : PUnit → sProp (MT nD τ sig ℕ (Elt F) ℕ UU ℕ)) :
    iprop(Ctx m ∗ YTail m c w ∗ ow c O) ⊢ iprop((iprop(YTail m c (w + 1) ∗ ow c O) -∗ Q ⟨⟩) -∗ wpc c (waitSY w) Q) := by
  have hYB : (YB m c (w + 3) : sProp 𝕄) ⊢ iprop(YF m c w ∗ has c (slot8 rxM (m8 w)) fullShare.right (sendVal m (px c) w)
      ∗ reached ER (cell c (rx (m8 w))) (w / 8 + 1)) := by
    unfold YB; rw [if_pos (by omega), show w + 3 - 3 = w by omega]
  unfold YTail
  rw [show w + 1 + 3 = w + 3 + 1 by omega]
  iintro ⟨#HC, ⟨HB, HI, HZ⟩, HO⟩ Hk
  ihave HB := (fam_pop (show w + 3 < 67 by omega) (YB m c)) $$ HB
  icases HB with ⟨Hb, HB⟩
  ihave Hb := hYB $$ Hb
  icases Hb with ⟨Hb, Hr, -⟩
  iapply (wp_waitSY m c (w := w) hO) $$ [Hb Hr HO]
  · isplitr; · iexact HC
    isplitl [Hb]; · iexact Hb
    isplitl [Hr] <;> iassumption
  iintro ⟨Hs, Hv, HO⟩
  iapply Hk
  isplitr [HO]
  · isplitl [HB]; · iexact HB
    isplitl [HI Hs]
    · iapply (fam_push h1 (Rs c true))
      isplitl [HI]; · iexact HI
      unfold Rs
      iexact Hs
    · iapply (fam_push h1 (ZY c))
      isplitl [HZ] <;> iassumption
  · iexact HO

/-! ## The barrier -/

/-- The handshake owed to the `x` partner. -/
def tBX : CellTallies nD τ sig ℕ := tallyAt (cell (px c) ba) 1 1
/-- The handshake owed to the `y` partner. -/
def tBY : CellTallies nD τ sig ℕ := tallyAt (cell (py c) ba) 1 1

/-- Everything device `c` owes at the start. -/
def O₀ : CellTallies nD τ sig ℕ := ((((owed c 0 + tX c 2) + tX c 1) + tX c 0) + tBY c) + tBX c

/-- The handshake: both partners' receive slots are free from here on. -/
theorem wp_barrier {O : CellTallies nD τ sig ℕ} (hO : Above 1 O) (Q : PUnit → sProp (MT nD τ sig ℕ (Elt F) ℕ UU ℕ)) :
    iprop(Ctx m ∗ cred (tallyAt (cell c ba) 1 2) ∗ ow c O ∗ atPos ER (cell c ba) 0 ∅ 0)
      ⊢ iprop((iprop(hist true (px c) 8 ∗ hist false (py c) 8 ∗ ow c O ∗ atPos ER (cell c ba) 1 ∅ 0) -∗ Q ⟨⟩)
        -∗ wpc c (semWaitWord baS 2#32) Q) := by
  have hpay : (bigSep ({0, 1} : Finset ℕ) (fun u => payK m c (some ba) 0 u) : sProp 𝕄) ⊢ iprop(hist true (px c) 8 ∗ hist false (py c) 8) := by
    rw [bigSep_insert (by decide), bigSep_singleton]
    exact .rfl
  refine lift_rule c (fun K Q => ?_) Q
  show _ ⊢ iprop(_ -∗ wpc c (.op (.semWait baS ((2 : ℕ) : ℤ)) K) Q)
  iintro ⟨#HC, Hcr, HO, Hat⟩ Hk
  ihave HI := (Ctx_cell m c ba) $$ HC
  ihave HM := (Ctx_mayWait m (c := c) (s := .reg baS) hO (by decide)) $$ HC
  unfold cinv ow
  icases HI with ⟨%κ, #HI⟩
  icases HO with ⟨%W, HO⟩
  have hdd : (Rd m).duties ((c : Thread nD τ), SemLoc.reg baS) 0 = {0, 1} := duties_cell m c ba 0
  have hpp : ∀ u, (Rd m).payload ((c : Thread nD τ), SemLoc.reg baS) 0 u = payK m c (some ba) 0 u := fun u => pay_cell m c ba 0 u
  have hee : (Rd m).expect ((c : Thread nD τ), SemLoc.reg baS) 0 = 2 := expect_cell m c ba 0
  have key := Rounds.wp_wait_rest_token (Q := Q) (k := K) (T := ∅) (m := 0) (R := 0) (O := O) (W := W) (k' := 2) 𝒱₀ ER (Rd m) (c : Thread nD τ) none
    (fun X => wpE_semWait_eq (defs := defs₀ (F := F)) (𝒱 := 𝒱₀) (c := (c : Thread nD τ)) (bd := none) (E := Set.univ)
      (sem := baS) (k := 2) X)
    (Set.mem_univ κ) 1 (by rw [hee])
  simp only [hdd, hpp, Finset.sdiff_empty] at key
  iapply key $$ [Hcr HO Hat]
  · isplitr; · iexact HI
    isplitl [Hcr]; · iexact Hcr
    isplitl [HO]; · iexact HO
    isplitr; · iexact HM
    iexact Hat
  iintro ⟨HO, Hat, -, Hp⟩
  ihave Hp := hpay $$ Hp
  icases Hp with ⟨Hx, Hy⟩
  iapply Hk
  isplitl [Hx]; · iexact Hx
  isplitl [Hy]; · iexact Hy
  isplitl [HO]; · iexists _; iexact HO
  iexact Hat

/-- Before the barrier the reader frees every slot for the first time. -/
theorem first_release (b : Bool) :
    iprop(Ctx m ∗ bigSep (Finset.Ico 0 8) (fun w => readerAt ES ((c, b, m8 w) : Key) 0) ∗ bigSep (Finset.Ico 0 8) (Rs c b))
      ⊢ (|={Set.univ}=> (bigSep (Finset.Ico 0 8) (RD c b) ∗ hist b c 8) : sProp 𝕄) := by
  have hone : ∀ w ∈ Finset.Ico 0 8, iprop(Ctx m ∗ (readerAt ES ((c, b, m8 w) : Key) 0 ∗ Rs c b w))
      ⊢ (|={Set.univ}=> (RD c b w ∗ rel b c w) : sProp 𝕄) := by
    intro w hw
    have hw8 := (Finset.mem_Ico.mp hw).2
    have hRD : (readerAt ES ((c, b, m8 w) : Key) (0 + 1) : sProp 𝕄) ⊢ RD c b w := by
      unfold RD; rw [if_pos (by omega), show w / 8 = 0 by omega]
    have hrel : iprop(released ES ((c, b, m8 w) : Key) (0 + 1) ∗ reached ER (cell c (rk b (m8 w))) 0) ⊢ (rel b c w : sProp 𝕄) := by
      unfold rel; rw [show w / 8 = 0 by omega]
    iintro ⟨#HC, Hr, Hs⟩
    ihave HS := (Ctx_slot m (c, b, m8 w)) $$ HC
    ihave #Hre := (Ctx_reached m c (rk b (m8 w))) $$ HC
    unfold sinv Rs
    icases HS with ⟨%ι, #HS⟩
    ihave Hrel := (Release.slot_release ES (ι := ι) (Es := Set.univ) (k := ((c, b, m8 w) : Key)) (S := slotRes (c, b, m8 w)) (Set.mem_univ ι)
      (slotRes_false _) 0) $$ [Hr Hs]
    · isplitr; · iexact HS
      isplitl [Hr] <;> iassumption
    imod Hrel with ⟨Hr, Hl⟩
    imodintro
    isplitl [Hr]; · iapply hRD $$ Hr
    iapply hrel
    isplitl [Hl]; · iexact Hl
    iexact Hre
  have hall : iprop(Ctx m ∗ bigSep (Finset.Ico 0 8) (fun w => iprop(readerAt ES ((c, b, m8 w) : Key) 0 ∗ Rs c b w)))
      ⊢ (|={Set.univ}=> bigSep (Finset.Ico 0 8) (fun w => iprop(RD c b w ∗ rel b c w)) : sProp 𝕄) :=
    ((sep_mono_left (BI.bigSep_of_persistent (Finset.Ico 0 8) (Ctx m))).trans (by
      rw [← bigSep_sep']; exact bigSep_mono hone)).trans (bigSep_fupd _ _)
  rw [bigSep_sep', bigSep_sep'] at hall
  have hh : (hist b c 8 : sProp 𝕄) = bigSep (Finset.Ico 0 8) (rel b c) := by unfold hist; rw [Finset.range_eq_Ico]
  rw [hh]
  exact hall

/-! ## The whole body -/

/-- The slots of receive ring `b`, and the units of its count, before anything is received. -/
def RetStart (b : Bool) : sProp 𝕄 :=
  iprop(bigSep (Finset.Ico 0 8) (fun w => readerAt ES ((c, b, m8 w) : Key) 0) ∗ bigSep (Finset.Ico 0 8) (Rs c b)
    ∗ bigSep (Finset.Ico 0 56) (fun u => dutyTok ER (cell (pp c b) (kc b)) 0 u))

/-- Before the handshake a device declares its own slots free. -/
theorem ret_start (b : Bool) : iprop(Ctx m ∗ RetStart c b) ⊢ (|={Set.univ}=> (hist b c 8 ∗ Ret c b 0) : sProp 𝕄) := by
  have h := first_release m c b
  unfold RetStart Ret
  iintro ⟨#HC, H1, H2, H3⟩
  ihave H := h $$ [H1 H2]
  · isplitr; · iexact HC
    isplitl [H1] <;> iassumption
  imod H with ⟨H, #Hh⟩
  imodintro
  isplitr; · iexact Hh
  isplitl [H]; · iexact H
  isplitr
  · iapply (fam_none (show 0 ≤ 56 by omega) (fun w => (slotRes (c, b, m8 w) : sProp 𝕄)))
    iempintro
  isplitr; · iexact Hh
  iexact H3

/-- Two runs of a family that follow each other. -/
theorem fam_join {i j k : ℕ} (h1 : i ≤ j) (h2 : j ≤ k) (Φ : ℕ → sProp (MT nD τ sig ℕ (Elt F) ℕ UU ℕ)) :
    bigSep (Finset.Ico i k) Φ = iprop(bigSep (Finset.Ico i j) Φ ∗ bigSep (Finset.Ico j k) Φ) := by
  rw [← Finset.Ico_union_Ico_eq_Ico h1 h2, bigSep_union (Finset.Ico_disjoint_Ico_consecutive i j k)]
  rfl

/-- What device `c` starts from. -/
def Start : sProp 𝕄 :=
  iprop((bigSep (Finset.Ico 0 2) (Ld m c xsM lsS qS) ∗ bigSep (Finset.Ico 0 4) (Sb c) ∗ bigSep (Finset.Ico 0 8) (ZX c)
      ∗ bigSep (Finset.Ico 0 64) (FX c) ∗ takenAt m c cx 0)
    ∗ (bigSep (Finset.Ico 0 2) (Ld m c xdM ldS qD) ∗ bigSep (Finset.Ico 0 2) (Osl c adM odS) ∗ bigSep (Finset.Ico 0 64) (fun j => idle c (odV c j)))
    ∗ (bigSep (Finset.Ico 0 2) (Ld m c xrM lrS qR) ∗ bigSep (Finset.Ico 0 2) (Osl c arM orS) ∗ bigSep (Finset.Ico 0 64) (fun j => idle c (orV c j))
      ∗ bigSep (Finset.Ico 0 8) (PY c) ∗ bigSep (Finset.Ico 0 64) (CRY c))
    ∗ (bigSep (Finset.Ico 0 64) (CRX c) ∗ bigSep (Finset.Ico 0 8) (PX c) ∗ bigSep (Finset.Ico 0 64) (FY c) ∗ takenAt m c cy 0
      ∗ bigSep (Finset.Ico 0 8) (ZY c))
    ∗ RetStart c true ∗ RetStart c false
    ∗ (dutyTok ER (cell (px c) ba) 0 0 ∗ dutyTok ER (cell (py c) ba) 0 1 ∗ atPos ER (cell c ba) 0 ∅ 0 ∗ cred (tallyAt (cell c ba) 1 2))
    ∗ ow c (O₀ c))

/-- What it ends with. -/
def End : sProp 𝕄 :=
  iprop((bigSep (Finset.Ico 64 66) (Ld m c xsM lsS qS) ∗ bigSep (Finset.Ico 60 64) (Sb c) ∗ bigSep (Finset.Ico 60 68) (ZX c)
      ∗ atPos ER (cell c cx) 1 ∅ 0)
    ∗ (bigSep (Finset.Ico 64 66) (Ld m c xdM ldS qD) ∗ bigSep (Finset.Ico 62 64) (Osl c adM odS)
      ∗ bigSep (Finset.Ico 0 64) (OD m c (oD c) (fun j => k0_off2_inb c (n64 j)) (odV c) (sendVal m (px c))))
    ∗ (bigSep (Finset.Ico 64 66) (Ld m c xrM lrS qR) ∗ bigSep (Finset.Ico 62 64) (Osl c arM orS)
      ∗ bigSep (Finset.Ico 0 64) (OD m c (oR c) (fun j => k0_off3_inb c (n64 j)) (orV c) (sendVal m (px (py c))))
      ∗ bigSep (Finset.Ico 64 72) (PY c))
    ∗ (bigSep (Finset.Ico 64 72) (PX c) ∗ atPos ER (cell c cy) 1 ∅ 0 ∗ bigSep (Finset.Ico 61 69) (ZY c))
    ∗ bigSep (Finset.Ico 56 64) (Rs c true) ∗ bigSep (Finset.Ico 56 64) (Rs c false)
    ∗ atPos ER (cell c ba) 1 ∅ 0 ∗ ow c 0)

/-- A stretch of two of a family. -/
theorem fam_two (i : ℕ) (Φ : ℕ → sProp (MT nD τ sig ℕ (Elt F) ℕ UU ℕ)) : bigSep (Finset.Ico i (i + 2)) Φ = iprop(Φ i ∗ Φ (i + 1)) := by
  rw [Idealize.SL.BI.bigSep_Ico_succ_bot (by omega), Idealize.SL.BI.bigSep_Ico_one]

/-- A run of a family, shifted. -/
theorem fam_shift {i j k : ℕ} (Φ : ℕ → sProp (MT nD τ sig ℕ (Elt F) ℕ UU ℕ)) :
    bigSep (Finset.Ico (i + k) (j + k)) Φ = bigSep (Finset.Ico i j) (fun w => Φ (w + k)) := by
  have h : Finset.Ico (i + k) (j + k) = (Finset.Ico i j).map (addRightEmbedding k) := by
    ext x
    simp only [Finset.mem_map, Finset.mem_Ico, addRightEmbedding_apply]
    exact ⟨fun h => ⟨x - k, by omega, by omega⟩, fun ⟨y, hy, e⟩ => by omega⟩
  rw [h, bigSep_map]
  rfl

/-- The send ring at the start. -/
theorem sb_start : iprop(bigSep (Finset.Ico 0 4) (Sb c) ∗ bigSep (Finset.Ico 0 8) (ZX c))
    ⊢ (iprop(bigSep (Finset.Ico 0 4) (SB m c) ∗ bigSep (Finset.Ico 0 4) (ZX c)) : sProp 𝕄) := by
  have h : (bigSep (Finset.Ico 0 4) (SB m c) : sProp 𝕄) = iprop(bigSep (Finset.Ico 0 4) (Sb c) ∗ bigSep (Finset.Ico 0 4) (fun w => ZX c (w + 4))) := by
    rw [← bigSep_sep']
    exact bigSep_congr fun w hw => by unfold SB Sb; rw [if_neg (by have := Finset.mem_Ico.mp hw; omega)]
  rw [h, fam_join (show 0 ≤ 4 by omega) (show 4 ≤ 8 by omega) (ZX (F := F) c), ← fam_shift (i := 0) (j := 4) (k := 4) (ZX (F := F) c)]
  iintro ⟨H1, H2, H3⟩
  isplitl [H1 H3]
  · isplitl [H1] <;> iassumption
  iexact H2

/-- The relay's semaphores at the start. -/
theorem yb_start : (bigSep (Finset.Ico 0 8) (ZY c) : sProp 𝕄) ⊢ iprop(bigSep (Finset.Ico 0 3) (YB m c) ∗ bigSep (Finset.Ico 0 5) (ZY c)) := by
  have h : (bigSep (Finset.Ico 0 3) (YB m c) : sProp 𝕄) = bigSep (Finset.Ico 0 3) (fun w => ZY c (w + 5)) :=
    bigSep_congr fun w hw => by unfold YB; rw [if_neg (by have := Finset.mem_Ico.mp hw; omega)]
  rw [h, fam_join (show 0 ≤ 5 by omega) (show 5 ≤ 8 by omega) (ZY (F := F) c), ← fam_shift (i := 0) (j := 3) (k := 5) (ZY (F := F) c)]
  exact sep_comm.1

/-- What stands beside the steps. -/
def Side : sProp 𝕄 := iprop(hist true (px c) 8 ∗ hist false (py c) 8 ∗ atPos ER (cell c ba) 1 ∅ 0)

/-- The kernel's start, up to step zero. -/
theorem wp_prologue (Q : PUnit → sProp (MT nD τ sig ℕ (Elt F) ℕ UU ℕ)) :
    iprop(Ctx m ∗ Start m c) ⊢ iprop((iprop(Side c ∗ Inv m c 0) -∗ Q ⟨⟩) -∗ wpc c (prologue c) Q) := by
  unfold prologue Start
  simp only [wpc_bind]
  have hA0 : Above 60 (owed c 0) := above_owed c (by omega)
  have hA2 : Above 48 (owed c 0) := hA0.mono (by omega)
  have hX2 : Above 32 (owed c 0 + tX c 2) := (hA0.mono (by omega)).add (Above.tally (by omega) (by omega))
  have hX1 : Above 16 (owed c 0 + tX c 2 + tX c 1) := (hX2.mono (by omega)).add (Above.tally (by omega) (by omega))
  have hX0 : Above 1 (owed c 0 + tX c 2 + tX c 1 + tX c 0) := (hX1.mono (by omega)).add (Above.tally (by omega) (by omega))
  have hp1 : (hist true c 8 : sProp 𝕄) ⊢ payK m (px c) (some ba) 0 0 := by
    show _ ⊢ hist true (px (px c)) 8
    rw [px_px]
  have hp2 : (hist false c 8 : sProp 𝕄) ⊢ payK m (py c) (some ba) 0 1 := by
    show _ ⊢ hist false (py (py c)) 8
    rw [py_py]
  have hgX := fun O Q => lift_rule c (fun K Q => wp_give m c (K := K) (Q := Q) (sm := baS) (p := px c) (x := ba) rfl (u := 0) (ι := 1) (O := O)
    (by show (0 : ℕ) ∈ ({0, 1} : Finset ℕ); decide) rfl) Q
  have hgY := fun O Q => lift_rule c (fun K Q => wp_give m c (K := K) (Q := Q) (sm := baS) (p := py c) (x := ba) rfl (u := 1) (ι := 1) (O := O)
    (by show (1 : ℕ) ∈ ({0, 1} : Finset ℕ); decide) rfl) Q
  iintro ⟨#HC, ⟨HLs, HSb, HZX, HFX, HtX⟩, ⟨HLd, HOd, HNd⟩, ⟨HLr, HOr, HNr, HPY, HCY⟩, ⟨HCX, HPX, HFY, HtY, HZY⟩, HRX, HRY, ⟨Hb1, Hb2, HaB, HcB⟩, HO⟩ Hk
  -- the slots' first release
  ihave HRX := (ret_start m c true) $$ [HRX]
  · isplitr; · iexact HC
    iexact HRX
  imod HRX with ⟨#HhX, HRX⟩
  ihave HRY := (ret_start m c false) $$ [HRY]
  · isplitr; · iexact HC
    iexact HRY
  imod HRY with ⟨#HhY, HRY⟩
  -- the first loads
  ihave HLs := (Entails.of_eq (fam_two 0 (Ld m c xsM lsS qS))) $$ HLs
  icases HLs with ⟨HL0, HL1⟩
  iapply (wp_firstLoad m c (oS c) (fun j => k0_off1_inb c (n64 j)) xsM lsS qS (j := 0) (by omega)) $$ HL0
  iintro HL0
  iapply (wp_firstLoad m c (oS c) (fun j => k0_off1_inb c (n64 j)) xsM lsS qS (j := 1) (by omega)) $$ HL1
  iintro HL1
  ihave HLd := (Entails.of_eq (fam_two 0 (Ld m c xdM ldS qD))) $$ HLd
  icases HLd with ⟨HD0, HD1⟩
  iapply (wp_firstLoad m c (oD c) (fun j => k0_off2_inb c (n64 j)) xdM ldS qD (j := 0) (by omega)) $$ HD0
  iintro HD0
  ihave HLr := (Entails.of_eq (fam_two 0 (Ld m c xrM lrS qR))) $$ HLr
  icases HLr with ⟨HR0, HR1⟩
  iapply (wp_firstLoad m c (oR c) (fun j => k0_off3_inb c (n64 j)) xrM lrS qR (j := 0) (by omega)) $$ HR0
  iintro HR0
  -- the barrier
  unfold O₀ tBX tBY
  iapply (hgX _ _) $$ [HO Hb1]
  · isplitr; · iexact HC
    isplitl [HO]; · iexact HO
    isplitl [Hb1]; · iexact Hb1
    isplitr; · iapply hp1; iexact HhX
    iapply (Ctx_reached m (px c) ba) $$ HC
  iintro HO
  iapply (hgY _ _) $$ [HO Hb2]
  · isplitr; · iexact HC
    isplitl [HO]; · iexact HO
    isplitl [Hb2]; · iexact Hb2
    isplitr; · iapply hp2; iexact HhY
    iapply (Ctx_reached m (py c) ba) $$ HC
  iintro HO
  iapply (wp_barrier m c hX0) $$ [HcB HO HaB]
  · isplitr; · iexact HC
    isplitl [HcB]; · iexact HcB
    isplitl [HO] <;> iassumption
  iintro ⟨#HgX, #HgY, HO, HaB⟩
  -- the first sends
  ihave HS := (sb_start m c) $$ [HSb HZX]
  · isplitl [HSb] <;> iassumption
  icases HS with ⟨HSB, HZX⟩
  iapply (wp_sendPart m c (v := 0) (by omega) hX1) $$ [HL0 HL1 HSB HZX HFX HtX HO]
  · isplitr; · iexact HC
    isplitr; · iexact HgX
    isplitr [HO]
    · unfold SendSt
      isplitl [HL0]; · iexact HL0
      isplitl [HL1]; · iexact HL1
      isplitl [HSB]; · iexact HSB
      isplitl [HZX]; · iexact HZX
      isplitl [HFX] <;> iassumption
    · iexact HO
  iintro ⟨HS, HO⟩
  iapply (wp_sendPart m c (v := 1) (by omega) hX2) $$ [HS HO]
  · isplitr; · iexact HC
    isplitr; · iexact HgX
    isplitl [HS] <;> iassumption
  iintro ⟨HS, HO⟩
  iapply (wp_sendPart m c (v := 2) (by omega) hA2) $$ [HS HO]
  · isplitr; · iexact HC
    isplitr; · iexact HgX
    isplitl [HS] <;> iassumption
  iintro ⟨HS, HO⟩
  iapply Hk
  unfold Side Inv RecvSt RelSt RelA
  isplitl [HaB]
  · isplitr; · iexact HgX
    isplitr; · iexact HgY
    iexact HaB
  isplitl [HS]; · iexact HS
  isplitl [HD0 HD1 HOd HNd]
  · iapply (red_start m c (oD c) (fun j => k0_off2_inb c (n64 j)) xdM ldS qD adM (odV c) odS (sendVal m (px c)))
    isplitl [HD0]; · iexact HD0
    isplitl [HD1]; · iexact HD1
    isplitl [HOd] <;> iassumption
  isplitl [HR0 HR1 HOr HNr HPY HCY HRY]
  · isplitr [HRY]
    · isplitl [HR0 HR1 HOr HNr]
      · iapply (red_start m c (oR c) (fun j => k0_off3_inb c (n64 j)) xrM lrS qR arM (orV c) orS (sendVal m (px (py c))))
        isplitl [HR0]; · iexact HR0
        isplitl [HR1]; · iexact HR1
        isplitl [HOr] <;> iassumption
      isplitl [HPY] <;> iassumption
    · iexact HRY
  isplitl [HCX HPX HFY HtY HZY]
  · isplitl [HCX]; · iexact HCX
    isplitl [HPX]; · iexact HPX
    isplitl [HFY]; · iexact HFY
    isplitl [HtY]; · iexact HtY
    iapply (yb_start m c) $$ HZY
  isplitl [HRX]; · iexact HRX
  iexact HO

/-- The kernel's end, after the last step. -/
theorem wp_epilogue (Q : PUnit → sProp (MT nD τ sig ℕ (Elt F) ℕ UU ℕ)) :
    iprop(Ctx m ∗ Side c ∗ Inv m c 64) ⊢ iprop((End m c -∗ Q ⟨⟩) -∗ wpc c (epilogue c) Q) := by
  unfold epilogue Inv Side
  simp only [wpc_bind]
  rw [owed_end, show min (64 + 3) 64 = 64 by omega, show 64 - 1 = 63 by omega, show 64 - 3 = 61 by omega]
  have hz : ∀ ι, Above ι (0 : CellTallies nD τ sig ℕ) := Above.zero
  have htX : (takenAt m c cx (64 - 8) : sProp 𝕄) ⊢ atPos ER (cell c cx) 1 ∅ 0 := by unfold takenAt; rw [if_neg (by omega)]
  have htY : (takenAt m c cy (64 - 8) : sProp 𝕄) ⊢ atPos ER (cell c cy) 1 ∅ 0 := by unfold takenAt; rw [if_neg (by omega)]
  have hL1 : (LWs m c 64 : sProp 𝕄) ⊢ Ld m c xsM lsS qS 64 := by unfold LWs LW Ld; rw [if_neg (by omega)]
  have hL2 : (LWs m c (64 + 1) : sProp 𝕄) ⊢ Ld m c xsM lsS qS 65 := by unfold LWs LW Ld; rw [if_neg (by omega)]
  have hRt : (Ret c true 61 : sProp 𝕄) ⊢ bigSep (Finset.Ico 56 61) (Rs c true) := by unfold Ret Rs; iintro ⟨-, H, -, -⟩; iexact H
  have hRf : (Ret c false 63 : sProp 𝕄) ⊢ bigSep (Finset.Ico 56 63) (Rs c false) := by unfold Ret Rs; iintro ⟨-, H, -, -⟩; iexact H
  have hwX : bigSep (Finset.Ico 64 (64 + 4)) (SB m c) ⊢ (STail m c 60 : sProp 𝕄) := by
    unfold STail
    iintro H
    isplitl [H]; · iexact H
    isplitr
    · iapply (fam_none (Nat.le_refl 60) (Sb (F := F) c)); iempintro
    · iapply (fam_none (Nat.le_refl 60) (ZX (F := F) c)); iempintro
  have hwY : bigSep (Finset.Ico 64 (64 + 3)) (YB m c) ⊢ (YTail m c 61 : sProp 𝕄) := by
    unfold YTail
    iintro H
    isplitl [H]; · iexact H
    isplitr
    · iapply (fam_none (Nat.le_refl 61) (Rs (F := F) c true)); iempintro
    · iapply (fam_none (Nat.le_refl 61) (ZY (F := F) c)); iempintro
  unfold SendSt RelSt RecvSt
  iintro ⟨#HC, ⟨-, -, HaB⟩, ⟨HL0, HL1, HSB, HZX, -, HtX⟩, HD, ⟨HA, HRf⟩, ⟨-, HPX, -, HtY, HYB, HZY⟩, HRt, HO⟩ Hk
  iapply (wp_relayPart m c (t := 63) (by omega) (hz _)) $$ [HA HO]
  · isplitr; · iexact HC
    isplitl [HA] <;> iassumption
  iintro ⟨HA, Hs63, -, HO⟩
  ihave HX := hwX $$ HSB
  iapply (wp_lastSX m c (w := 60) (by omega) (by omega) (hz _)) $$ [HX HO]
  · isplitr; · iexact HC
    isplitl [HX] <;> iassumption
  iintro ⟨HX, HO⟩
  iapply (wp_lastSX m c (w := 61) (by omega) (by omega) (hz _)) $$ [HX HO]
  · isplitr; · iexact HC
    isplitl [HX] <;> iassumption
  iintro ⟨HX, HO⟩
  iapply (wp_lastSX m c (w := 62) (by omega) (by omega) (hz _)) $$ [HX HO]
  · isplitr; · iexact HC
    isplitl [HX] <;> iassumption
  iintro ⟨HX, HO⟩
  iapply (wp_lastSX m c (w := 63) (by omega) (by omega) (hz _)) $$ [HX HO]
  · isplitr; · iexact HC
    isplitl [HX] <;> iassumption
  iintro ⟨HX, HO⟩
  ihave HY := hwY $$ HYB
  iapply (wp_lastSY m c (w := 61) (by omega) (by omega) (hz _)) $$ [HY HO]
  · isplitr; · iexact HC
    isplitl [HY] <;> iassumption
  iintro ⟨HY, HO⟩
  iapply (wp_lastSY m c (w := 62) (by omega) (by omega) (hz _)) $$ [HY HO]
  · isplitr; · iexact HC
    isplitl [HY] <;> iassumption
  iintro ⟨HY, HO⟩
  iapply (wp_lastSY m c (w := 63) (by omega) (by omega) (hz _)) $$ [HY HO]
  · isplitr; · iexact HC
    isplitl [HY] <;> iassumption
  iintro ⟨HY, HO⟩
  unfold RelA
  icases HA with ⟨HR, HPY, -⟩
  ihave HD := (red_end m c (oD c) (fun j => k0_off2_inb c (n64 j)) xdM ldS qD adM (odV c) odS (sendVal m (px c))) $$ HD
  ihave HR := (red_end m c (oR c) (fun j => k0_off3_inb c (n64 j)) xrM lrS qR arM (orV c) orS (sendVal m (px (py c)))) $$ HR
  icases HD with ⟨HD0, HD1, HD⟩
  icases HR with ⟨HR0, HR1, HR⟩
  iapply (wp_lastOut m c (oD c) (fun j => k0_off2_inb c (n64 j)) adM (Memref.isWhole_whole _) (odV c) (wod c) odS (sendVal m (px c))
    (w := 62) (by omega) (by omega) (hz _)) $$ [HD HO]
  · isplitr; · iexact HC
    isplitl [HD] <;> iassumption
  iintro ⟨HD, HO⟩
  iapply (wp_lastOut m c (oR c) (fun j => k0_off3_inb c (n64 j)) arM (Memref.isWhole_whole _) (orV c) (wor c) orS (sendVal m (px (py c)))
    (w := 62) (by omega) (by omega) (hz _)) $$ [HR HO]
  · isplitr; · iexact HC
    isplitl [HR] <;> iassumption
  iintro ⟨HR, HO⟩
  iapply (wp_lastOut m c (oD c) (fun j => k0_off2_inb c (n64 j)) adM (Memref.isWhole_whole _) (odV c) (wod c) odS (sendVal m (px c))
    (w := 63) (by omega) (by omega) (hz _)) $$ [HD HO]
  · isplitr; · iexact HC
    isplitl [HD] <;> iassumption
  iintro ⟨HD, HO⟩
  iapply (wp_lastOut m c (oR c) (fun j => k0_off3_inb c (n64 j)) arM (Memref.isWhole_whole _) (orV c) (wor c) orS (sendVal m (px (py c)))
    (w := 63) (by omega) (by omega) (hz _)) $$ [HR HO]
  · isplitr; · iexact HC
    isplitl [HR] <;> iassumption
  iintro ⟨HR, HO⟩
  iapply Hk
  unfold End STail YTail RTail
  icases HX with ⟨-, HXs, HXz⟩
  icases HY with ⟨-, HYs, HYz⟩
  icases HD with ⟨-, HDs, HDd⟩
  icases HR with ⟨-, HRs, HRd⟩
  isplitl [HL0 HL1 HXs HXz HZX HtX]
  · isplitl [HL0 HL1]
    · iapply (Entails.of_eq (fam_two 64 (Ld m c xsM lsS qS)).symm)
      isplitl [HL0]; · iapply hL1 $$ HL0
      iapply hL2 $$ HL1
    isplitl [HXs]; · iexact HXs
    isplitl [HXz HZX]
    · iapply (Entails.of_eq (fam_join (show 60 ≤ 64 by omega) (show 64 ≤ 68 by omega) (ZX (F := F) c)).symm)
      isplitl [HXz] <;> iassumption
    iapply htX $$ HtX
  isplitl [HD0 HD1 HDs HDd]
  · isplitl [HD0 HD1]
    · iapply (Entails.of_eq (fam_two 64 (Ld m c xdM ldS qD)).symm)
      isplitl [HD0] <;> iassumption
    isplitl [HDs] <;> iassumption
  isplitl [HR0 HR1 HRs HRd HPY]
  · isplitl [HR0 HR1]
    · iapply (Entails.of_eq (fam_two 64 (Ld m c xrM lrS qR)).symm)
      isplitl [HR0] <;> iassumption
    isplitl [HRs]; · iexact HRs
    isplitl [HRd] <;> iassumption
  isplitl [HPX HtY HYz HZY]
  · isplitl [HPX]; · iexact HPX
    isplitl [HtY]; · iapply htY $$ HtY
    iapply (Entails.of_eq (fam_join (show 61 ≤ 64 by omega) (show 64 ≤ 69 by omega) (ZY (F := F) c)).symm)
    isplitl [HYz] <;> iassumption
  isplitl [HYs HRt]
  · ihave HRt := hRt $$ HRt
    iapply (Entails.of_eq (fam_join (show 56 ≤ 61 by omega) (show 61 ≤ 64 by omega) (Rs (F := F) c true)).symm)
    isplitl [HRt] <;> iassumption
  isplitl [Hs63 HRf]
  · ihave HRf := hRf $$ HRf
    iapply (fam_push (show 56 ≤ 63 by omega) (Rs (F := F) c false))
    isplitl [HRf]; · iexact HRf
    unfold Rs
    iexact Hs63
  isplitl [HaB] <;> iassumption

/-- A program that first reads the device's own number. -/
theorem wp_here (k : Dev nD → TProg F PUnit) (Q : PUnit → sProp (MT nD τ sig ℕ (Elt F) ℕ UU ℕ)) :
    wpc c (Prog.lift .deviceId >>= k) Q = wpc c (k c) Q :=
  wp_deviceId (defs := defs₀ (F := F)) (𝒱 := 𝒱₀) (c := (c : Thread nD τ)) (bd := none) (E := Set.univ) (k := k) (Q := Q)

/-- The kernel's body takes device `c` from its start to its end. -/
theorem wp_body (Q : PUnit → sProp (MT nD τ sig ℕ (Elt F) ℕ UU ℕ)) :
    iprop(Ctx m ∗ Start m c) ⊢ iprop((End m c -∗ Q ⟨⟩) -∗ wpc c body Q) := by
  have hb : wpc c (body (F := F)) Q = wpc c (do prologue c; loop c 64; epilogue c) Q := by
    exact wp_here c (fun d => do prologue d; loop d 64; epilogue d) Q
  rw [hb, wpc_bind, wpc_bind]
  have hl := wp_loop m c 64 (Nat.le_refl 64)
  rw [Nat.sub_self] at hl
  iintro ⟨#HC, HS⟩ Hk
  iapply (wp_prologue m c) $$ [HS]
  · isplitr; · iexact HC
    iexact HS
  unfold Side
  iintro ⟨⟨#HX, #HY, HB⟩, HI⟩
  iapply hl $$ [HI]
  · isplitr; · iexact HC
    isplitr; · iexact HX
    isplitr; · iexact HY
    iexact HI
  iintro HI
  iapply (wp_epilogue m c) $$ [HI HB]
  · isplitr; · iexact HC
    isplitr [HI]
    · unfold Side
      isplitr; · iexact HX
      isplitr; · iexact HY
      iexact HB
    · iexact HI
  iexact Hk

end Cert.KernelIdeal.Own

end
-- ==== Proof.KernelIdeal.Buffers.lean ====
module

public import proofs.«01_k».proof.Proof.KernelIdeal.Run
public import Idealize.ShloMosaic.Lib.Ring

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## Families over a run of numbers and over a finite index -/

/-- Two assertions in either order are equal. -/
theorem sep_comm_eq (A B : sProp (MT nD τ sig ℕ (Elt F) ℕ UU ℕ)) : iprop(A ∗ B) = iprop(B ∗ A) := by
  have h (A B : sProp 𝕄) : iprop(A ∗ B) ⊢ iprop(B ∗ A) := by
    iintro ⟨a, b⟩
    isplitl [b] <;> iassumption
  exact BI.equiv_iff.mp ⟨h A B, h B A⟩

/-- Three assertions grouped either way are equal. -/
theorem sep_assoc_eq (A B C : sProp (MT nD τ sig ℕ (Elt F) ℕ UU ℕ)) : iprop((A ∗ B) ∗ C) = iprop(A ∗ B ∗ C) := by
  have h1 : iprop((A ∗ B) ∗ C) ⊢ iprop(A ∗ B ∗ C) := by
    iintro ⟨⟨a, b⟩, c⟩
    isplitl [a]; · iexact a
    isplitl [b] <;> iassumption
  have h2 : iprop(A ∗ B ∗ C) ⊢ iprop((A ∗ B) ∗ C) := by
    iintro ⟨a, b, c⟩
    isplitr [c]
    · isplitl [a] <;> iassumption
    iexact c
  exact BI.equiv_iff.mp ⟨h1, h2⟩

/-- Nothing beside an assertion is the assertion. -/
theorem emp_sep_eq (A : sProp (MT nD τ sig ℕ (Elt F) ℕ UU ℕ)) : iprop(emp ∗ A) = A := by
  have h1 : iprop(emp ∗ A) ⊢ A := by
    iintro ⟨-, a⟩
    iexact a
  have h2 : A ⊢ iprop(emp ∗ A) := by
    iintro a
    isplitr; · iempintro
    iexact a
  exact BI.equiv_iff.mp ⟨h1, h2⟩

/-- A family over the first `n` numbers, by their type or by their values. -/
theorem fam_val (n : ℕ) (Φ : ℕ → sProp (MT nD τ sig ℕ (Elt F) ℕ UU ℕ)) :
    bigSep (Finset.Ico 0 n) Φ = bigSep Finset.univ (fun k : Fin n => Φ k.val) := by
  have h : Finset.Ico 0 n = (Finset.univ : Finset (Fin n)).map Fin.valEmbedding := by
    ext x
    simp only [Finset.mem_map, Finset.mem_univ, true_and, Finset.mem_Ico, Fin.valEmbedding_apply]
    exact ⟨fun h => ⟨⟨x, h.2⟩, rfl⟩, fun ⟨y, e⟩ => by have := y.isLt; omega⟩
  rw [h, bigSep_map]
  rfl

/-- `n` numbers in a row meet every remainder modulo `n` once. -/
theorem fam_fin {n : ℕ} (hn : 0 < n) (a : ℕ) (Ψ : Fin n → sProp (MT nD τ sig ℕ (Elt F) ℕ UU ℕ)) :
    bigSep (Finset.Ico a (a + n)) (fun w => Ψ ⟨w % n, Nat.mod_lt _ hn⟩) = bigSep Finset.univ Ψ := by
  induction a with
  | zero =>
    rw [Nat.zero_add, fam_val]
    exact bigSep_congr fun k _ => congrArg Ψ (Fin.ext (Nat.mod_eq_of_lt k.isLt))
  | succ a ih =>
    rw [← ih, show a + 1 + n = a + n + 1 by omega, Idealize.SL.BI.bigSep_Ico_succ_top (by omega),
      Idealize.SL.BI.bigSep_Ico_succ_bot (show a < a + n by omega)]
    have e : Ψ ⟨(a + n) % n, Nat.mod_lt _ hn⟩ = Ψ ⟨a % n, Nat.mod_lt _ hn⟩ := congrArg Ψ (Fin.ext (Nat.add_mod_right a n))
    rw [e, sep_comm_eq]

/-! ## A buffer and its blocks -/

/-- A block held at given contents is a block held at some contents. -/
theorem pts_slot (ℓ : Loc nD τ sig) (I : Finset (Idx ℓ)) (f : Buf (Elt F) ℓ) : (ℓ ↦[I]{fullShare} f : sProp 𝕄) ⊢ slot ℓ I := by
  unfold slot
  iintro H
  iexists f
  iexact H

section Ring

variable {n : ℕ} {sp : Space} {s : Shape} {e : EltTy} (M : Memref sig .tc sp s e) (R : Fin n → Rect s)

/-- The elements of the block at a rectangle. -/
abbrev blk (r : Rect s) : Finset M.view.ty.Idx := (M.view.slice r).set

/-- Slots with no common elements are views with none. -/
theorem slices_disjoint (hd : ∀ b b', b ≠ b' → Disjoint (R b).set (R b').set) (b b' : Fin n) (h : b ≠ b') :
    Disjoint (blk M (R b)) (blk M (R b')) := by
  unfold blk
  rw [View.set_slice, View.set_slice, Finset.disjoint_map]
  exact hd b b' h

/-- Slots that cover a buffer are views that do. -/
theorem slices_cover (hM : M.view.set = Finset.univ) (hc : Finset.univ.biUnion (fun b => (R b).set) = Finset.univ) :
    Finset.univ.biUnion (fun b => blk M (R b)) = Finset.univ := by
  ext i
  simp only [Finset.mem_biUnion, Finset.mem_univ, true_and, iff_true]
  obtain ⟨x, -, rfl⟩ := Finset.mem_map.mp (hM ▸ Finset.mem_univ i : i ∈ M.view.set)
  obtain ⟨b, -, hb⟩ := Finset.mem_biUnion.mp (hc ▸ Finset.mem_univ x : x ∈ Finset.univ.biUnion fun b => (R b).set)
  exact ⟨b, by unfold blk; rw [View.set_slice]; exact Finset.mem_map_of_mem _ hb⟩

/-- A buffer is its slots. -/
theorem ring_split (hM : M.view.set = Finset.univ) (hd : ∀ b b', b ≠ b' → Disjoint (R b).set (R b').set)
    (hc : Finset.univ.biUnion (fun b => (R b).set) = Finset.univ) :
    (iprop(∃ f, (M.view.loc (c : Thread nD τ)) ↦{fullShare} f) : sProp 𝕄)
      ⊢ bigSep Finset.univ fun b => slot (M.view.loc (c : Thread nD τ)) (blk M (R b)) := by
  iintro ⟨%f, H⟩
  have h : ((M.view.loc (c : Thread nD τ)) ↦{fullShare} f : sProp 𝕄)
      ⊢ bigSep Finset.univ fun b => slot (M.view.loc (c : Thread nD τ)) (blk M (R b)) := by
    rw [Ring.pointsTo_blocks (fun b => (blk M (R b))) (slices_disjoint M R hd) (slices_cover M R hM hc) f]
    exact bigSep_mono fun b _ => pts_slot _ _ f
  iapply h $$ H

/-- The slots are the buffer. -/
theorem ring_join (f₀ : Buf (Elt F) (M.view.loc (c : Thread nD τ))) (hM : M.view.set = Finset.univ)
    (hd : ∀ b b', b ≠ b' → Disjoint (R b).set (R b').set) (hc : Finset.univ.biUnion (fun b => (R b).set) = Finset.univ) :
    (bigSep Finset.univ fun b => slot (M.view.loc (c : Thread nD τ)) (blk M (R b)))
      ⊢ (iprop(∃ f, (M.view.loc (c : Thread nD τ)) ↦{fullShare} f) : sProp 𝕄) :=
  Ring.pointsTo_blocks_join_exists (ℓ := M.view.loc (c : Thread nD τ)) (q := fullShare) (fun b => (blk M (R b))) (slices_disjoint M R hd) (slices_cover M R hM hc) f₀

end Ring

section Rings

variable {e : EltTy}

/-- A slot starts at zero on every axis but the first. -/
theorem off_lead {b : ℕ} {a : Fin 3} (h : a ≠ 0) : ![b, 0, 0] a = 0 := by
  fin_cases a
  · exact absurd rfl h
  · rfl
  · rfl

/-- Two different slots of two have no common element. -/
theorem disj2 (b b' : Fin 2) (h : b ≠ b') : Disjoint (rect2 b).set (rect2 b').set :=
  Ring.lead_disjoint (s := S2x128x1024) (NB := 2) (0 : Fin 3) 1 (fun b => ![b.val, 0, 0]) S1x128x1024.size inb2 (fun b => (Nat.one_mul _).symm) rfl b b' h
/-- Two different slots of four have no common element. -/
theorem disj4 (b b' : Fin 4) (h : b ≠ b') : Disjoint (rect4 b).set (rect4 b').set :=
  Ring.lead_disjoint (s := S4x128x1024) (NB := 4) (0 : Fin 3) 1 (fun b => ![b.val, 0, 0]) S1x128x1024.size inb4 (fun b => (Nat.one_mul _).symm) rfl b b' h
/-- Two different slots of eight have no common element. -/
theorem disj8 (b b' : Fin 8) (h : b ≠ b') : Disjoint (rect8 b).set (rect8 b').set :=
  Ring.lead_disjoint (s := S8x128x1024) (NB := 8) (0 : Fin 3) 1 (fun b => ![b.val, 0, 0]) S1x128x1024.size inb8 (fun b => (Nat.one_mul _).symm) rfl b b' h

/-- The two slots cover the buffer. -/
theorem cover2 : Finset.univ.biUnion (fun b => (rect2 b).set) = Finset.univ :=
  Ring.lead_cover (s := S2x128x1024) (NB := 2) (0 : Fin 3) 1 (fun b => ![b.val, 0, 0]) S1x128x1024.size inb2 (fun b => (Nat.one_mul _).symm) (fun b a h => off_lead h) rfl (by decide) rfl
/-- The four slots cover the buffer. -/
theorem cover4 : Finset.univ.biUnion (fun b => (rect4 b).set) = Finset.univ :=
  Ring.lead_cover (s := S4x128x1024) (NB := 4) (0 : Fin 3) 1 (fun b => ![b.val, 0, 0]) S1x128x1024.size inb4 (fun b => (Nat.one_mul _).symm) (fun b a h => off_lead h) rfl (by decide) rfl
/-- The eight slots cover the buffer. -/
theorem cover8 : Finset.univ.biUnion (fun b => (rect8 b).set) = Finset.univ :=
  Ring.lead_cover (s := S8x128x1024) (NB := 8) (0 : Fin 3) 1 (fun b => ![b.val, 0, 0]) S1x128x1024.size inb8 (fun b => (Nat.one_mul _).symm) (fun b a h => off_lead h) rfl (by decide) rfl

/-- A ring of two blocks, held whole or block by block. -/
theorem ring2 (M : Memref sig .tc .vmem S2x128x1024 e) (hM : M.view.set = Finset.univ) :
    (bigSep Finset.univ fun k => (idle c (slot2 M k) : sProp 𝕄)) = bigSep Finset.univ fun k => slot (M.view.loc (c : Thread nD τ)) (blk M (rect2 k)) :=
  bigSep_congr fun k _ => congrArg (slot (M.view.loc (c : Thread nD τ))) (View.set_reshape (M.view.slice (rect2 k)) _)
/-- The slots of a buffer of four as parts of it. -/
theorem ring4 (M : Memref sig .tc .vmem S4x128x1024 e) (hM : M.view.set = Finset.univ) :
    (bigSep Finset.univ fun k => (idle c (slot4 M k) : sProp 𝕄)) = bigSep Finset.univ fun k => slot (M.view.loc (c : Thread nD τ)) (blk M (rect4 k)) :=
  bigSep_congr fun k _ => congrArg (slot (M.view.loc (c : Thread nD τ))) (View.set_reshape (M.view.slice (rect4 k)) _)
/-- The slots of a buffer of eight as parts of it. -/
theorem ring8 (M : Memref sig .tc .vmem S8x128x1024 e) (hM : M.view.set = Finset.univ) :
    (bigSep Finset.univ fun k => (idle c (slot8 M k) : sProp 𝕄)) = bigSep Finset.univ fun k => slot (M.view.loc (c : Thread nD τ)) (blk M (rect8 k)) :=
  bigSep_congr fun k _ => congrArg (slot (M.view.loc (c : Thread nD τ))) (View.set_reshape (M.view.slice (rect8 k)) _)

/-- A buffer of two is two slots. -/
theorem ring2_split (M : Memref sig .tc .vmem S2x128x1024 e) (hM : M.view.set = Finset.univ) :
    (iprop(∃ f, (M.view.loc (c : Thread nD τ)) ↦{fullShare} f) : sProp 𝕄) ⊢ bigSep Finset.univ fun k => idle c (slot2 M k) := by
  rw [ring2 c M hM]; exact ring_split c M rect2 hM disj2 cover2
/-- A buffer of four is four slots. -/
theorem ring4_split (M : Memref sig .tc .vmem S4x128x1024 e) (hM : M.view.set = Finset.univ) :
    (iprop(∃ f, (M.view.loc (c : Thread nD τ)) ↦{fullShare} f) : sProp 𝕄) ⊢ bigSep Finset.univ fun k => idle c (slot4 M k) := by
  rw [ring4 c M hM]; exact ring_split c M rect4 hM disj4 cover4
/-- A buffer of eight is eight slots. -/
theorem ring8_split (M : Memref sig .tc .vmem S8x128x1024 e) (hM : M.view.set = Finset.univ) :
    (iprop(∃ f, (M.view.loc (c : Thread nD τ)) ↦{fullShare} f) : sProp 𝕄) ⊢ bigSep Finset.univ fun k => idle c (slot8 M k) := by
  rw [ring8 c M hM]; exact ring_split c M rect8 hM disj8 cover8

/-- Two slots are a buffer of two. -/
theorem ring2_join (M : Memref sig .tc .vmem S2x128x1024 e) (f₀ : Buf (Elt F) (M.view.loc (c : Thread nD τ))) (hM : M.view.set = Finset.univ) :
    (bigSep Finset.univ fun k => (idle c (slot2 M k) : sProp 𝕄)) ⊢ iprop(∃ f, (M.view.loc (c : Thread nD τ)) ↦{fullShare} f) := by
  rw [ring2 c M hM]; exact ring_join c M rect2 f₀ hM disj2 cover2
/-- Four slots are a buffer of four. -/
theorem ring4_join (M : Memref sig .tc .vmem S4x128x1024 e) (f₀ : Buf (Elt F) (M.view.loc (c : Thread nD τ))) (hM : M.view.set = Finset.univ) :
    (bigSep Finset.univ fun k => (idle c (slot4 M k) : sProp 𝕄)) ⊢ iprop(∃ f, (M.view.loc (c : Thread nD τ)) ↦{fullShare} f) := by
  rw [ring4 c M hM]; exact ring_join c M rect4 f₀ hM disj4 cover4
/-- Eight slots are a buffer of eight. -/
theorem ring8_join (M : Memref sig .tc .vmem S8x128x1024 e) (f₀ : Buf (Elt F) (M.view.loc (c : Thread nD τ))) (hM : M.view.set = Finset.univ) :
    (bigSep Finset.univ fun k => (idle c (slot8 M k) : sProp 𝕄)) ⊢ iprop(∃ f, (M.view.loc (c : Thread nD τ)) ↦{fullShare} f) := by
  rw [ring8 c M hM]; exact ring_join c M rect8 f₀ hM disj8 cover8

end Rings

/-! ## The input, in six shares -/

/-- A share of a buffer is its two halves. -/
theorem share_two {ℓ : Loc nD τ sig} (q : PosShare TreeShare) (f : Buf (Elt F) ℓ) :
    (ℓ ↦{q} f : sProp 𝕄) = iprop((ℓ ↦{q.left} f) ∗ ℓ ↦{q.right} f) :=
  (pointsTo_share (PosShare.mem_left_op_right q)).1.antisymm (pointsTo_share (PosShare.mem_left_op_right q)).2

/-- The share `q` of the device's part of the input. -/
abbrev inQ (q : PosShare TreeShare) : sProp 𝕄 := (xM.view.loc (c : Thread nD τ)) ↦{q} m (xM.view.loc (c : Thread nD τ))

/-- The input, held whole, is the shares of the six loads that may be on their way. -/
theorem in_shares : (inQ m c fullShare : sProp 𝕄)
    = iprop((bigSep Finset.univ fun k : Fin 2 => inQ m c (qS k)) ∗ (bigSep Finset.univ fun k : Fin 2 => inQ m c (qD k))
      ∗ bigSep Finset.univ fun k : Fin 2 => inQ m c (qR k)) := by
  have h2 (Φ : Fin 2 → sProp 𝕄) : bigSep Finset.univ Φ = iprop(Φ 0 ∗ Φ 1) := bigSep_univ_eq_bigSepL [0, 1] (by decide) (by decide) Φ
  rw [h2, h2, h2]
  show (inQ m c fullShare : sProp 𝕄) = iprop((inQ m c fullShare.left.left.left ∗ inQ m c fullShare.left.left.right)
    ∗ (inQ m c fullShare.left.right.left ∗ inQ m c fullShare.left.right.right) ∗ inQ m c fullShare.right.left ∗ inQ m c fullShare.right.right)
  unfold inQ
  rw [← share_two, ← share_two, ← share_two, share_two fullShare, share_two fullShare.left]
  exact sep_assoc_eq _ _ _

/-! ## The result, in blocks of rows -/

/-- Row `y` of the mesh. -/
abbrev myV : ℕ := (c.val / 4) % 2

/-- A step's number below 64 is itself. -/
theorem n64_val {j : ℕ} (hj : j < 64) : (n64 j).val = j := Nat.mod_eq_of_lt hj

/-- Where direct sum `j` goes. -/
theorem off4_eq {j : ℕ} (hj : j < 64) : k0_off4 c (BitVec.ofNat 32 (2 * (n64 j).val)) = ![256 * j + 128 * myV c, 0] := by
  rw [k0_off4_eq, n64_val hj]
/-- Where relayed sum `j` goes. -/
theorem off5_eq {j : ℕ} (hj : j < 64) : k0_off5 c (BitVec.ofNat 32 (2 * (n64 j).val)) = ![(256 * j + 128) - 128 * myV c, 0] := by
  rw [k0_off5_eq, n64_val hj]

/-- The elements of a block of 128 rows. -/
theorem row_block (off : Fin 2 → ℕ) (inb : ∀ a, off a + S128x1024.size a ≤ S16384x1024.size a) {r : ℕ} (h : off = ![r, 0]) (i : S16384x1024.Idx) :
    i ∈ (Rect.unit (s := S16384x1024) off S128x1024.size inb).set ↔ r ≤ (i 0).val ∧ (i 0).val < r + 128 := by
  subst h
  rw [Rect.mem_set_unit]
  constructor
  · intro h; exact h 0
  · intro h a
    fin_cases a
    · exact h
    · exact ⟨Nat.zero_le _, by have := (i 1).isLt; simpa using this⟩

/-- The elements of direct sum `j`. -/
theorem mem_od {j : ℕ} (hj : j < 64) (i : S16384x1024.Idx) :
    i ∈ (odV c j).view.set ↔ 256 * j + 128 * myV c ≤ (i 0).val ∧ (i 0).val < 256 * j + 128 * myV c + 128 := by
  have e : (odV c j).view.set = (Rect.unit (s := S16384x1024) (k0_off4 c (BitVec.ofNat 32 (2 * (n64 j).val))) S128x1024.size (k0_off4_inb c (n64 j))).set :=
    View.set_slice_whole main_v1 _
  rw [e]
  exact row_block _ _ (off4_eq c hj) i
/-- The elements of relayed sum `j`. -/
theorem mem_or {j : ℕ} (hj : j < 64) (i : S16384x1024.Idx) :
    i ∈ (orV c j).view.set ↔ (256 * j + 128) - 128 * myV c ≤ (i 0).val ∧ (i 0).val < (256 * j + 128) - 128 * myV c + 128 := by
  have e : (orV c j).view.set = (Rect.unit (s := S16384x1024) (k0_off5 c (BitVec.ofNat 32 (2 * (n64 j).val))) S128x1024.size (k0_off5_inb c (n64 j))).set :=
    View.set_slice_whole main_v1 _
  rw [e]
  exact row_block _ _ (off5_eq c hj) i

/-- The rows of the result block by block: the blocks the device reduces itself, then the relayed ones. -/
abbrev rowsOf : Fin 64 ⊕ Fin 64 → Finset S16384x1024.Idx :=
  Sum.elim (fun k => (odV c k.val).view.set) (fun k => (orV c k.val).view.set)

/-- There are two places along `y`. -/
theorem my_lt : myV c < 2 := Nat.mod_lt _ (by decide)

/-- No two sums share a row. -/
theorem rows_disjoint (b b' : Fin 64 ⊕ Fin 64) (h : b ≠ b') : Disjoint (rowsOf c b) (rowsOf c b') := by
  have hm := my_lt c
  rw [Finset.disjoint_left]
  intro i hi hi'
  rcases b with b | b <;> rcases b' with b' | b' <;> have hb := b.isLt <;> have hb' := b'.isLt
  · have h1 := (mem_od c b.isLt i).mp hi
    have h2 := (mem_od c b'.isLt i).mp hi'
    exact h (congrArg Sum.inl (Fin.ext (by omega)))
  · have h1 := (mem_od c b.isLt i).mp hi
    have h2 := (mem_or c b'.isLt i).mp hi'
    omega
  · have h1 := (mem_or c b.isLt i).mp hi
    have h2 := (mem_od c b'.isLt i).mp hi'
    omega
  · have h1 := (mem_or c b.isLt i).mp hi
    have h2 := (mem_or c b'.isLt i).mp hi'
    exact h (congrArg Sum.inr (Fin.ext (by omega)))

/-- The sums cover all rows. -/
theorem rows_cover : Finset.univ.biUnion (rowsOf c) = Finset.univ := by
  have hm := my_lt c
  ext i
  simp only [Finset.mem_biUnion, Finset.mem_univ, true_and, iff_true]
  have hi : (i 0).val < 16384 := (i 0).isLt
  have hj : (i 0).val / 256 < 64 := by omega
  by_cases hd : (i 0).val / 128 % 2 = myV c
  · exact ⟨.inl ⟨(i 0).val / 256, hj⟩, (mem_od c hj i).mpr (by omega)⟩
  · exact ⟨.inr ⟨(i 0).val / 256, hj⟩, (mem_or c hj i).mpr (by omega)⟩

/-- Where a row and column of the result lie within their block. -/
def inBlk (i : S16384x1024.Idx) : S128x1024.Idx := fun a =>
  ⟨![(i 0).val % 128, (i 1).val] a, by
    fin_cases a
    · exact Nat.mod_lt _ (by decide)
    · exact (i 1).isLt⟩

/-- Direct sum `j`. -/
abbrev valD : ℕ → S128x1024.Idx → Elt F .bf16 := redVal m c (oD c) (fun j => k0_off2_inb c (n64 j)) (sendVal m (px c))
/-- Relayed sum `j`. -/
abbrev valR : ℕ → S128x1024.Idx → Elt F .bf16 := redVal m c (oR c) (fun j => k0_off3_inb c (n64 j)) (sendVal m (px (py c)))

/-- The device's part of the result. -/
def OUT : S16384x1024.Idx → Elt F .bf16 := fun i =>
  if (i 0).val / 128 % 2 = myV c then valD m c ((i 0).val / 256) (inBlk i) else valR m c ((i 0).val / 256) (inBlk i)

/-- An element of a block of rows in the whole result. -/
theorem emb_row (off : Fin 2 → ℕ) (inb : ∀ a, off a + S128x1024.size a ≤ S16384x1024.size a) {r : ℕ} (h : off = ![r, 0]) (x : S128x1024.Idx) :
    (((Rect.unit (s := S16384x1024) off S128x1024.size inb).emb x) 0).val = r + (x 0).val
      ∧ (((Rect.unit (s := S16384x1024) off S128x1024.size inb).emb x) 1).val = (x 1).val := by
  subst h
  constructor
  · rw [Rect.emb_apply]; show r + 1 * (x 0).val = _; omega
  · rw [Rect.emb_apply]; show 0 + 1 * (x 1).val = _; omega

/-- An element's place in its block. -/
theorem inBlk_of {i : S16384x1024.Idx} {x : S128x1024.Idx} {r : ℕ} (h0 : (i 0).val = r + (x 0).val) (h1 : (i 1).val = (x 1).val) (hr : r % 128 = 0) :
    inBlk i = x := by
  funext a
  have hx : (x 0).val < 128 := (x 0).isLt
  refine Fin.ext ?_
  fin_cases a
  · show (i 0).val % 128 = (x 0).val; omega
  · exact h1

/-- The result's rows of direct sum `j` hold that sum. -/
theorem read_od {j : ℕ} (hj : j < 64) : (odV c j).view.read (Elt F) (OUT m c) = valD m c j := by
  funext x
  have hm := my_lt c
  have hx : (x 0).val < 128 := (x 0).isLt
  obtain ⟨h0, h1⟩ := emb_row _ (k0_off4_inb c (n64 j)) (off4_eq c hj) x
  show OUT m c ((Rect.unit (s := S16384x1024) (k0_off4 c (BitVec.ofNat 32 (2 * (n64 j).val))) S128x1024.size (k0_off4_inb c (n64 j))).emb x) = _
  generalize (Rect.unit (s := S16384x1024) (k0_off4 c (BitVec.ofNat 32 (2 * (n64 j).val))) S128x1024.size (k0_off4_inb c (n64 j))).emb x = i at h0 h1
  unfold OUT
  rw [if_pos (by omega), inBlk_of h0 h1 (by omega), show (i 0).val / 256 = j by omega]

/-- The result's rows of relayed sum `j` hold that sum. -/
theorem read_or {j : ℕ} (hj : j < 64) : (orV c j).view.read (Elt F) (OUT m c) = valR m c j := by
  funext x
  have hm := my_lt c
  have hx : (x 0).val < 128 := (x 0).isLt
  obtain ⟨h0, h1⟩ := emb_row _ (k0_off5_inb c (n64 j)) (off5_eq c hj) x
  show OUT m c ((Rect.unit (s := S16384x1024) (k0_off5 c (BitVec.ofNat 32 (2 * (n64 j).val))) S128x1024.size (k0_off5_inb c (n64 j))).emb x) = _
  generalize (Rect.unit (s := S16384x1024) (k0_off5 c (BitVec.ofNat 32 (2 * (n64 j).val))) S128x1024.size (k0_off5_inb c (n64 j))).emb x = i at h0 h1
  unfold OUT
  rw [if_neg (by omega), inBlk_of h0 h1 (by omega), show (i 0).val / 256 = j by omega]

/-- A block read as the result reads there is that block of the result. -/
theorem has_block {sp : Space} {s : Shape} {e : EltTy} (M : Memref sig .tc sp s e) {X : s.Idx → Elt F e}
    (f : Buf (Elt F) (M.view.loc (c : Thread nD τ))) (h : M.view.read (Elt F) f = X) :
    (has c M fullShare X : sProp 𝕄) ⊢ (M.view.loc (c : Thread nD τ)) ↦[M.view.set]{fullShare} f := by
  unfold has owns
  iintro ⟨%g, %hg, H⟩
  have e : ((M.view.loc (c : Thread nD τ)) ↦[M.view.set]{fullShare} g : sProp 𝕄) ⊢ (M.view.loc (c : Thread nD τ)) ↦[M.view.set]{fullShare} f :=
    Entails.of_eq (pointsTo_congr fun i hi => by
      obtain ⟨x, -, rfl⟩ := Finset.mem_map.mp hi
      have := congrFun (hg.trans h.symm) x
      exact cast_inj _ |>.mp this)
  iapply e $$ H

/-- The buffer of the result. -/
abbrev oL : Loc nD τ sig := oM.view.loc (c : Thread nD τ)

/-- The result is the rows of all sums. -/
theorem out_rows (f : Buf (Elt F) (oL c)) : (oL c ↦{fullShare} f : sProp 𝕄)
    = iprop((bigSep (Finset.Ico 0 64) fun j => oL c ↦[(odV c j).view.set]{fullShare} f) ∗ bigSep (Finset.Ico 0 64) fun j => oL c ↦[(orV c j).view.set]{fullShare} f) := by
  rw [Ring.pointsTo_blocks (rowsOf c) (rows_disjoint c) (rows_cover c) f, bigSep_univ_sum, fam_val, fam_val]
  rfl

/-- The result buffer is given to the sums. -/
theorem out_split : (iprop(∃ f, oL c ↦{fullShare} f) : sProp 𝕄)
    ⊢ iprop(bigSep (Finset.Ico 0 64) (fun j => idle c (odV c j)) ∗ bigSep (Finset.Ico 0 64) (fun j => idle c (orV c j))) := by
  iintro ⟨%f, H⟩
  have h : (oL c ↦{fullShare} f : sProp 𝕄)
      ⊢ iprop(bigSep (Finset.Ico 0 64) (fun j => idle c (odV c j)) ∗ bigSep (Finset.Ico 0 64) (fun j => idle c (orV c j))) := by
    rw [out_rows c f]
    refine BIClass.sep_mono (bigSep_mono fun j _ => pts_slot _ _ f) (bigSep_mono fun j _ => pts_slot _ _ f)
  iapply h $$ H

/-- The sums written out are the result. -/
theorem out_join : iprop(bigSep (Finset.Ico 0 64) (OD m c (oD c) (fun j => k0_off2_inb c (n64 j)) (odV c) (sendVal m (px c)))
      ∗ bigSep (Finset.Ico 0 64) (OD m c (oR c) (fun j => k0_off3_inb c (n64 j)) (orV c) (sendVal m (px (py c)))))
    ⊢ (oL c ↦{fullShare} OUT m c : sProp 𝕄) := by
  rw [out_rows c (OUT m c)]
  refine BIClass.sep_mono (bigSep_mono fun j hj => ?_) (bigSep_mono fun j hj => ?_)
  · exact has_block c (odV c j) (OUT m c) (read_od m c (Finset.mem_Ico.mp hj).2)
  · exact has_block c (orV c j) (OUT m c) (read_or m c (Finset.mem_Ico.mp hj).2)

end Cert.KernelIdeal.Own

end
-- ==== Proof.KernelIdeal.Close.lean ====
module

public import proofs.«01_k».proof.Proof.KernelIdeal.Buffers
public import Idealize.ShloMosaic.Lib.Pipeline.CollectiveSegs
public import proofs.«01_k».proof.Proof.Gen.KernelIdeal.Launch

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## The kernel's own semaphores -/

/-- The semaphores only their own device uses: of the loads, of the writes of the result, and of the sends. -/
abbrev LK : Type := Fin 2 ⊕ (Fin 2 ⊕ (Fin 2 ⊕ (Fin 2 ⊕ (Fin 2 ⊕ (Fin 8 ⊕ Fin 8)))))

/-- Where each semaphore of a device's own is. -/
def locS : LK → SemLoc sig
  | .inl k => .dma (lsS k)
  | .inr (.inl k) => .dma (ldS k)
  | .inr (.inr (.inl k)) => .dma (lrS k)
  | .inr (.inr (.inr (.inl k))) => .dma (odS k)
  | .inr (.inr (.inr (.inr (.inl k)))) => .dma (orS k)
  | .inr (.inr (.inr (.inr (.inr (.inl k))))) => .dma (sxS k)
  | .inr (.inr (.inr (.inr (.inr (.inr k))))) => .dma (syS k)

/-- The shared semaphores the launch hands the kernel: all but the barrier's. -/
abbrev SK : Type := Fin 8 ⊕ (Fin 8 ⊕ Fin 2)

/-- Where each shared semaphore but the barrier's is. -/
def shS : SK → SemLoc sig
  | .inl k => semOf (rx k)
  | .inr (.inl k) => semOf (ry k)
  | .inr (.inr k) => semOf (.inr (.inr k.castSucc))

/-- The kernel's scratch semaphores. -/
def osem : LK ⊕ SK → SemLoc sig := Sum.elim locS shS

/-- They are different, and none is a window's. -/
theorem ownSemFacts : Pipeline.OwnSemFacts cfg0.spec osem := ⟨by decide, by decide, fun k w => w.elim0⟩

/-- All of them at zero. -/
abbrev own0 : sProp 𝕄 := Pipeline.ownSems0 osem c

/-- A device's semaphore at zero. -/
abbrev z (s : SemLoc sig) : sProp 𝕄 := semVal ((c : Thread nD τ), s) 0

/-- The semaphores of a device's own, at zero, kind by kind. -/
def LSems : sProp 𝕄 :=
  iprop((bigSep Finset.univ fun k => z c (.dma (lsS k))) ∗ (bigSep Finset.univ fun k => z c (.dma (ldS k)))
    ∗ (bigSep Finset.univ fun k => z c (.dma (lrS k))) ∗ (bigSep Finset.univ fun k => z c (.dma (odS k)))
    ∗ (bigSep Finset.univ fun k => z c (.dma (orS k))) ∗ (bigSep Finset.univ fun k => z c (.dma (sxS k)))
    ∗ bigSep Finset.univ fun k => z c (.dma (syS k)))

/-- The shared semaphores, at zero. -/
def SSems : sProp 𝕄 := bigSep Finset.univ fun x : CK => z c (semOf x)

/-- The one semaphore from outside the kernel is the barrier's. -/
theorem unscoped_eq : (unscopedSems0 c : sProp 𝕄) = z c (semOf ba) := by
  unfold unscopedSems0; rw [bigSep_eq_bigSepL_of_eq [SemLoc.reg baS] (by decide) (by decide)]; rfl

/-- A family over two. -/
theorem fin2 (Φ : Fin 2 → sProp (MT nD τ sig ℕ (Elt F) ℕ UU ℕ)) : bigSep Finset.univ Φ = iprop(Φ 0 ∗ Φ 1) :=
  bigSep_univ_eq_bigSepL [0, 1] (by decide) (by decide) Φ
/-- A family over three. -/
theorem fin3 (Φ : Fin 3 → sProp (MT nD τ sig ℕ (Elt F) ℕ UU ℕ)) : bigSep Finset.univ Φ = iprop(Φ 0 ∗ Φ 1 ∗ Φ 2) :=
  bigSep_univ_eq_bigSepL [0, 1, 2] (by decide) (by decide) Φ

/-- The semaphores of a device's own, kind by kind. -/
theorem lsems_eq : (bigSep Finset.univ fun k : LK => z c (locS k) : sProp 𝕄) = LSems c := by
  rw [bigSep_univ_sum, bigSep_univ_sum, bigSep_univ_sum, bigSep_univ_sum, bigSep_univ_sum, bigSep_univ_sum]
  rfl

/-- A family over the shared semaphores, kind by kind. -/
theorem ck_eq (Φ : CK → sProp (MT nD τ sig ℕ (Elt F) ℕ UU ℕ)) : bigSep Finset.univ Φ
    = iprop((bigSep Finset.univ fun k => Φ (rx k)) ∗ (bigSep Finset.univ fun k => Φ (ry k)) ∗ Φ cx ∗ Φ cy ∗ Φ ba) := by
  rw [bigSep_univ_sum, bigSep_univ_sum, fin3]
  rfl

/-- The shared semaphores but the barrier's, kind by kind. -/
theorem sk_eq : (bigSep Finset.univ fun k : SK => z c (shS k) : sProp 𝕄)
    = iprop((bigSep Finset.univ fun k => z c (semOf (rx k))) ∗ (bigSep Finset.univ fun k => z c (semOf (ry k))) ∗ z c (semOf cx) ∗ z c (semOf cy)) := by
  rw [bigSep_univ_sum, bigSep_univ_sum, fin2]
  rfl

/-- The kernel's own semaphores and the barrier's are its local and its shared ones. -/
theorem sems_split : iprop(own0 c ∗ unscopedSems0 c) ⊢ (iprop(LSems c ∗ SSems c) : sProp 𝕄) := by
  have h : (own0 c : sProp 𝕄) = iprop(LSems c ∗ bigSep Finset.univ fun k : SK => z c (shS k)) := by
    unfold own0 Pipeline.ownSems0; rw [bigSep_univ_sum, ← lsems_eq]; rfl
  unfold SSems
  rw [h, unscoped_eq, ck_eq, sk_eq]
  iintro ⟨⟨H1, H2, H3, H4, H5⟩, H6⟩
  isplitl [H1]; · iexact H1
  isplitl [H2]; · iexact H2
  isplitl [H3]; · iexact H3
  isplitl [H4]; · iexact H4
  isplitl [H5] <;> iassumption

/-- A device's own and shared semaphores are all that it has. -/
theorem sems_join : iprop(LSems c ∗ SSems c) ⊢ (iprop(own0 c ∗ unscopedSems0 c) : sProp 𝕄) := by
  have h : (own0 c : sProp 𝕄) = iprop(LSems c ∗ bigSep Finset.univ fun k : SK => z c (shS k)) := by
    unfold own0 Pipeline.ownSems0; rw [bigSep_univ_sum, ← lsems_eq]; rfl
  unfold SSems
  rw [h, unscoped_eq, ck_eq, sk_eq]
  iintro ⟨H1, H2, H3, H4, H5, H6⟩
  isplitr [H6]
  · isplitl [H1]; · iexact H1
    isplitl [H2]; · iexact H2
    isplitl [H3]; · iexact H3
    isplitl [H4] <;> iassumption
  iexact H6

/-! ## Rings at rest -/

/-- Two free load slots in a row are both of them. -/
theorem ld_eq (mr : Memref sig .tc .vmem S2x128x1024 .f32) (ls : Fin 2 → DmaSem sig) (q : Fin 2 → PosShare TreeShare) (a : ℕ) :
    (bigSep (Finset.Ico a (a + 2)) (Ld m c mr ls q) : sProp 𝕄)
      = iprop((bigSep Finset.univ fun k => idle c (slot2 mr k)) ∗ (bigSep Finset.univ fun k => z c (.dma (ls k))) ∗ bigSep Finset.univ fun k => inQ m c (q k)) := by
  rw [show (bigSep (Finset.Ico a (a + 2)) (Ld m c mr ls q) : sProp 𝕄) = bigSep Finset.univ fun k => LI m c mr k (ls k) (q k) from
    fam_fin (by decide) a (fun k => LI m c mr k (ls k) (q k)), ← bigSep_sep', ← bigSep_sep']
  rfl

/-- Two free slots of sums in a row are both of them. -/
theorem osl_eq (ma : Memref sig .tc .vmem S2x128x1024 .bf16) (so : Fin 2 → DmaSem sig) (a : ℕ) :
    (bigSep (Finset.Ico a (a + 2)) (Osl c ma so) : sProp 𝕄)
      = iprop((bigSep Finset.univ fun k => idle c (slot2 ma k)) ∗ bigSep Finset.univ fun k => z c (.dma (so k))) := by
  rw [show (bigSep (Finset.Ico a (a + 2)) (Osl c ma so) : sProp 𝕄) = bigSep Finset.univ fun k => iprop(idle c (slot2 ma k) ∗ z c (.dma (so k))) from
    fam_fin (by decide) a (fun k => iprop(idle c (slot2 ma k) ∗ z c (.dma (so k)))), ← bigSep_sep']

/-- Four free send slots in a row are all of them. -/
theorem sb_eq (a : ℕ) : (bigSep (Finset.Ico a (a + 4)) (Sb c) : sProp 𝕄) = bigSep Finset.univ fun k => idle c (slot4 sbM k) :=
  fam_fin (by decide) a (fun k => idle c (slot4 sbM k))
/-- Eight semaphores of what leaves along `x` in a row are all of them. -/
theorem zx_eq (a : ℕ) : (bigSep (Finset.Ico a (a + 8)) (ZX c) : sProp 𝕄) = bigSep Finset.univ fun k => z c (.dma (sxS k)) :=
  fam_fin (by decide) a (fun k => z c (.dma (sxS k)))
/-- Eight semaphores of what leaves along `y` in a row are all of them. -/
theorem zy_eq (a : ℕ) : (bigSep (Finset.Ico a (a + 8)) (ZY c) : sProp 𝕄) = bigSep Finset.univ fun k => z c (.dma (syS k)) :=
  fam_fin (by decide) a (fun k => z c (.dma (syS k)))
/-- Eight receive slots along `x` in a row are all of them. -/
theorem rsx_eq (a : ℕ) : (bigSep (Finset.Ico a (a + 8)) (Rs c true) : sProp 𝕄) = bigSep Finset.univ fun k => idle c (slot8 rxM k) :=
  fam_fin (by decide) a (fun k => idle c (slot8 rxM k))
/-- Eight receive slots along `y` in a row are all of them. -/
theorem rsy_eq (a : ℕ) : (bigSep (Finset.Ico a (a + 8)) (Rs c false) : sProp 𝕄) = bigSep Finset.univ fun k => idle c (slot8 ryM k) :=
  fam_fin (by decide) a (fun k => idle c (slot8 ryM k))

/-- Eight places along `x` in a row are all semaphores' in the same round. -/
theorem px_eq {a r : ℕ} (h : a = 8 * r) : (bigSep (Finset.Ico a (a + 8)) (PX c) : sProp 𝕄) = bigSep Finset.univ fun k => atPos ER (cell c (rx k)) r ∅ 0 := by
  rw [← fam_fin (by decide) a]
  exact bigSep_congr fun w hw => by
    have := Finset.mem_Ico.mp hw
    unfold PX
    rw [show w / 8 = r by omega]
/-- Eight places along `y` in a row are all semaphores' in the same round. -/
theorem py_eq {a r : ℕ} (h : a = 8 * r) : (bigSep (Finset.Ico a (a + 8)) (PY c) : sProp 𝕄) = bigSep Finset.univ fun k => atPos ER (cell c (ry k)) r ∅ 0 := by
  rw [← fam_fin (by decide) a]
  exact bigSep_congr fun w hw => by
    have := Finset.mem_Ico.mp hw
    unfold PY
    rw [show w / 8 = r by omega]

/-! ## The kernel's buffers -/

/-- Every slot of every ring, free. -/
def Slots : sProp 𝕄 :=
  iprop((bigSep Finset.univ fun k => idle c (slot2 xsM k)) ∗ (bigSep Finset.univ fun k => idle c (slot2 xdM k))
    ∗ (bigSep Finset.univ fun k => idle c (slot2 xrM k)) ∗ (bigSep Finset.univ fun k => idle c (slot4 sbM k))
    ∗ (bigSep Finset.univ fun k => idle c (slot8 rxM k)) ∗ (bigSep Finset.univ fun k => idle c (slot8 ryM k))
    ∗ (bigSep Finset.univ fun k => idle c (slot2 adM k)) ∗ bigSep Finset.univ fun k => idle c (slot2 arM k))

/-- The kernel's scratch buffers, with any contents. -/
abbrev Scr : sProp 𝕄 := Pipeline.scopedRest cfg0.spec c

/-- The scratch buffers are their slots. -/
theorem slots_split : (Scr c : sProp 𝕄) ⊢ Slots c := by
  unfold Scr Slots
  rw [scopedRest0_eq]
  iintro ⟨H0, H1, H2, H3, H4, H5, H6, H7⟩
  isplitl [H0]; · iapply (ring2_split c xsM (View.set_whole _)); iexact H0
  isplitl [H1]; · iapply (ring2_split c xdM (View.set_whole _)); iexact H1
  isplitl [H2]; · iapply (ring2_split c xrM (View.set_whole _)); iexact H2
  isplitl [H3]; · iapply (ring4_split c sbM (View.set_whole _)); iexact H3
  isplitl [H4]; · iapply (ring8_split c rxM (View.set_whole _)); iexact H4
  isplitl [H5]; · iapply (ring8_split c ryM (View.set_whole _)); iexact H5
  isplitl [H6]; · iapply (ring2_split c adM (View.set_whole _)); iexact H6
  iapply (ring2_split c arM (View.set_whole _)); iexact H7

include m in
/-- The slots are the scratch buffers. -/
theorem slots_join : (Slots c : sProp 𝕄) ⊢ Scr c := by
  unfold Scr Slots
  rw [scopedRest0_eq]
  iintro ⟨H0, H1, H2, H3, H4, H5, H6, H7⟩
  isplitl [H0]; · iapply (ring2_join c xsM (m _) (View.set_whole _)); iexact H0
  isplitl [H1]; · iapply (ring2_join c xdM (m _) (View.set_whole _)); iexact H1
  isplitl [H2]; · iapply (ring2_join c xrM (m _) (View.set_whole _)); iexact H2
  isplitl [H3]; · iapply (ring4_join c sbM (m _) (View.set_whole _)); iexact H3
  isplitl [H4]; · iapply (ring8_join c rxM (m _) (View.set_whole _)); iexact H4
  isplitl [H5]; · iapply (ring8_join c ryM (m _) (View.set_whole _)); iexact H5
  isplitl [H6]; · iapply (ring2_join c adM (m _) (View.set_whole _)); iexact H6
  iapply (ring2_join c arM (m _) (View.set_whole _)); iexact H7

/-! ## The end of the kernel -/

/-- What stays true may be used for each member of a family. -/
theorem fam_persistent {I : Type} [DecidableEq I] {S : Finset I} {R : sProp (MT nD τ sig ℕ (Elt F) ℕ UU ℕ)} [BI.Persistent R]
    {Φ Ψ : I → sProp (MT nD τ sig ℕ (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The round after the last of a shared semaphore. -/
def lastR : CK → ℕ
  | .inl _ => 8
  | .inr (.inl _) => 8
  | .inr (.inr _) => 1

/-- After its last round a shared semaphore has no duty. -/
theorem duties_last (x : CK) (r : ℕ) (h : lastR x ≤ r) : dutiesK (some x) r = ∅ := by
  rcases x with k | k | k
  · exact if_neg (by have : 8 ≤ r := h; omega)
  · exact if_neg (by have : 8 ≤ r := h; omega)
  · exact if_neg (by have : 1 ≤ r := h; omega)

/-- After its last round a shared semaphore is at zero for good. -/
theorem close_cell (x : CK) : iprop(Ctx m ∗ atPos ER (cell c x) (lastR x) ∅ 0) ⊢ (|={Set.univ}=> z c (semOf x) : sProp 𝕄) := by
  have hI := Ctx_cell m c x
  unfold cinv at hI
  iintro ⟨#HC, H⟩
  ihave HI := hI $$ HC
  icases HI with ⟨%κ, HI⟩
  iapply (Rounds.cell_close ER (Rd m) (Set.mem_univ κ) (fun h => h) (R := lastR x) (fun r hr => (duties_cell m c x r).trans (duties_last x r hr)))
  isplitl [HI] <;> iassumption

/-- So are all of them. -/
theorem close_cells : iprop(Ctx m ∗ bigSep Finset.univ fun x : CK => atPos ER (cell c x) (lastR x) ∅ 0) ⊢ (|={Set.univ}=> SSems c : sProp 𝕄) :=
  (fam_persistent fun x _ => close_cell m c x).trans (bigSep_fupd _ _)

/-- What a device ends with: its input as it was, its result, and its semaphores at zero. -/
def Fin1 : sProp 𝕄 := iprop(inQ m c fullShare ∗ (oL c ↦{fullShare} OUT m c) ∗ unscopedSems0 c)

/-- A device's end gives its buffers back with the result, all semaphores at zero, and nothing owed. -/
theorem end_close : iprop(Ctx m ∗ End m c) ⊢ (|={Set.univ}=> ((Fin1 m c ∗ own0 c ∗ Scr c) ∗ ow c 0) : sProp 𝕄) := by
  have hj := sems_join (F := F) c
  have hs := slots_join (F := F) m c
  have ho := out_join m c
  have hc := close_cells m c
  rw [ck_eq] at hc
  unfold End Fin1
  rw [ld_eq m c xsM lsS qS 64, ld_eq m c xdM ldS qD 64, ld_eq m c xrM lrS qR 64, sb_eq c 60, zx_eq c 60, osl_eq c adM odS 62, osl_eq c arM orS 62,
    py_eq c (show 64 = 8 * 8 by rfl), px_eq c (show 64 = 8 * 8 by rfl), zy_eq c 61, rsx_eq c 56, rsy_eq c 56, in_shares]
  unfold Slots at hs
  unfold LSems at hj
  iintro ⟨#HC, ⟨⟨S1, S2, S3⟩, S4, S5, S6⟩, ⟨⟨D1, D2, D3⟩, ⟨D4, D5⟩, D6⟩, ⟨⟨R1, R2, R3⟩, ⟨R4, R5⟩, R6, R7⟩, ⟨V1, V2, V3⟩, A1, A2, B1, HO⟩
  ihave Hz := hc $$ [S6 R7 V1 V2 B1]
  · isplitr; · iexact HC
    isplitl [V1]; · iexact V1
    isplitl [R7]; · iexact R7
    isplitl [S6]; · iexact S6
    isplitl [V2]; · iexact V2
    iexact B1
  imod Hz
  ihave Hout := ho $$ [D6 R6]
  · isplitl [D6] <;> iassumption
  ihave Hsl := hs $$ [S1 D1 R1 S4 A1 A2 D4 R4]
  · isplitl [S1]; · iexact S1
    isplitl [D1]; · iexact D1
    isplitl [R1]; · iexact R1
    isplitl [S4]; · iexact S4
    isplitl [A1]; · iexact A1
    isplitl [A2]; · iexact A2
    isplitl [D4] <;> iassumption
  ihave Hse := hj $$ [S2 D2 R2 D5 R5 S5 V3 Hz]
  · isplitr [Hz]
    · isplitl [S2]; · iexact S2
      isplitl [D2]; · iexact D2
      isplitl [R2]; · iexact R2
      isplitl [D5]; · iexact D5
      isplitl [R5]; · iexact R5
      isplitl [S5] <;> iassumption
    iexact Hz
  icases Hse with ⟨Ho, Hu⟩
  imodintro
  isplitr [HO]
  · isplitr [Ho Hsl]
    · isplitl [S3 D3 R3]
      · isplitl [S3]; · iexact S3
        isplitl [D3] <;> iassumption
      isplitl [Hout] <;> iassumption
    isplitl [Ho] <;> iassumption
  iexact HO

/-! ## The start of the kernel -/

/-- The duties a device pays, and the turns it has at its neighbours' receive slots. -/
def Pay : sProp 𝕄 :=
  iprop((bigSep (Finset.Ico 0 64) fun v => dutyTok ER (cell (px c) (rx (m8 v))) (v / 8) 0)
    ∗ (bigSep (Finset.Ico 0 64) fun v => writeTok ES ((px c, true, m8 v) : Key) (v / 8 + 1))
    ∗ (bigSep (Finset.Ico 0 64) fun v => dutyTok ER (cell (py c) (ry (m8 v))) (v / 8) 0)
    ∗ (bigSep (Finset.Ico 0 64) fun v => writeTok ES ((py c, false, m8 v) : Key) (v / 8 + 1))
    ∗ (bigSep (Finset.Ico 0 56) fun u => dutyTok ER (cell (px c) cx) 0 u) ∗ (bigSep (Finset.Ico 0 56) fun u => dutyTok ER (cell (py c) cy) 0 u)
    ∗ dutyTok ER (cell (px c) ba) 0 0 ∗ dutyTok ER (cell (py c) ba) 0 1)

/-- Where a device stands at its own semaphores and receive slots. -/
def Pos : sProp 𝕄 :=
  iprop((bigSep Finset.univ fun x : CK => atPos ER (cell c x) 0 ∅ 0)
    ∗ (bigSep Finset.univ fun k : Fin 8 => readerAt ES ((c, true, k) : Key) 0) ∗ bigSep Finset.univ fun k : Fin 8 => readerAt ES ((c, false, k) : Key) 0)

/-- What the others owe a device. -/
def Creds : sProp 𝕄 :=
  iprop(bigSep (Finset.Ico 0 64) (CRX c) ∗ bigSep (Finset.Ico 0 64) (CRY c)
    ∗ (bigSep (Finset.Ico 0 56) fun u => cred (tallyAt (cell c cx) (16 * (u + 7) + 11) 1))
    ∗ (bigSep (Finset.Ico 0 56) fun u => cred (tallyAt (cell c cy) (16 * (u + 5) + 9) 1)) ∗ cred (tallyAt (cell c ba) 1 2))

/-- What starts eight blocks late, counted from zero. -/
theorem late (Φ : ℕ → sProp (MT nD τ sig ℕ (Elt F) ℕ UU ℕ)) :
    (bigSep (Finset.Ico 0 64) fun v => if 8 ≤ v then Φ (v - 8) else iprop(emp)) = bigSep (Finset.Ico 0 56) Φ := by
  have e1 : (bigSep (Finset.Ico 0 8) fun v => if 8 ≤ v then Φ (v - 8) else iprop(emp)) = iprop(emp) := by
    rw [bigSep_congr (fun v hv => if_neg (show ¬ 8 ≤ v by have := Finset.mem_Ico.mp hv; omega))]
    exact bigSep_emp_const _
  have e2 : (bigSep (Finset.Ico (0 + 8) (56 + 8)) fun v => if 8 ≤ v then Φ (v - 8) else iprop(emp)) = bigSep (Finset.Ico 0 56) Φ := by
    rw [fam_shift]
    exact bigSep_congr fun v _ => by rw [if_pos (by omega), Nat.add_sub_cancel]
  rw [fam_join (show 0 ≤ 8 by omega) (show 8 ≤ 64 by omega), e1, e2]
  exact emp_sep_eq _

/-- What a device needs to send its blocks along `x`, kind by kind. -/
theorem fx_eq : (bigSep (Finset.Ico 0 64) (FX c) : sProp 𝕄)
    = iprop((bigSep (Finset.Ico 0 64) fun v => dutyTok ER (cell (px c) (rx (m8 v))) (v / 8) 0)
      ∗ (bigSep (Finset.Ico 0 64) fun v => writeTok ES ((px c, true, m8 v) : Key) (v / 8 + 1))
      ∗ bigSep (Finset.Ico 0 56) fun u => cred (tallyAt (cell c cx) (16 * (u + 7) + 11) 1)) := by
  rw [← late (fun u => cred (tallyAt (cell c cx) (16 * (u + 7) + 11) 1)), ← bigSep_sep', ← bigSep_sep']
  rfl
/-- What a device needs to send its blocks along `y`, kind by kind. -/
theorem fy_eq : (bigSep (Finset.Ico 0 64) (FY c) : sProp 𝕄)
    = iprop((bigSep (Finset.Ico 0 64) fun v => dutyTok ER (cell (py c) (ry (m8 v))) (v / 8) 0)
      ∗ (bigSep (Finset.Ico 0 64) fun v => writeTok ES ((py c, false, m8 v) : Key) (v / 8 + 1))
      ∗ bigSep (Finset.Ico 0 56) fun u => cred (tallyAt (cell c cy) (16 * (u + 5) + 9) 1)) := by
  rw [← late (fun u => cred (tallyAt (cell c cy) (16 * (u + 5) + 9) 1)), ← bigSep_sep', ← bigSep_sep']
  rfl

/-- The readers' first turns, slot by slot. -/
theorem reader_eq (b : Bool) : (bigSep (Finset.Ico 0 8) fun w => readerAt ES ((c, b, m8 w) : Key) 0 : sProp 𝕄) = bigSep Finset.univ fun k : Fin 8 => readerAt ES ((c, b, k) : Key) 0 :=
  fam_fin (by decide) 0 (fun k => readerAt ES ((c, b, k) : Key) 0)

/-- No credit has been taken at the start. -/
theorem taken_start (x : CK) : (atPos ER (cell c x) 0 ∅ 0 : sProp 𝕄) ⊢ takenAt m c x 0 := by
  unfold takenAt
  rw [if_pos (by decide)]
  iintro H
  iexists ∅
  isplitr; · ipureintro; exact Finset.empty_subset _
  isplitl [H]; · iexact H
  rw [bigSep_empty]
  iempintro

/-- The buffers a device starts from. -/
def Mem : sProp 𝕄 := iprop(inQ m c fullShare ∗ (∃ f, oL c ↦{fullShare} f) ∗ Scr c)

/-- What the launch gives a device is its start. -/
theorem start_intro : iprop(Mem m c ∗ LSems c ∗ Pos c ∗ Pay c ∗ Creds c ∗ ow c (O₀ c)) ⊢ (Start m c : sProp 𝕄) := by
  have hs := slots_split (F := F) c
  have ho := out_split (F := F) c
  have hx := taken_start m c cx
  have hy := taken_start m c cy
  unfold Start RetStart Mem LSems Pos Pay Creds
  unfold Slots at hs
  rw [ck_eq, ld_eq m c xsM lsS qS 0, ld_eq m c xdM ldS qD 0, ld_eq m c xrM lrS qR 0, sb_eq c 0, zx_eq c 0, osl_eq c adM odS 0, osl_eq c arM orS 0,
    py_eq c (show 0 = 8 * 0 by rfl), px_eq c (show 0 = 8 * 0 by rfl), zy_eq c 0, rsx_eq c 0, rsy_eq c 0, in_shares, fx_eq, fy_eq,
    reader_eq, reader_eq]
  iintro ⟨⟨⟨Q1, Q2, Q3⟩, Ho, Hs⟩, ⟨Z1, Z2, Z3, Z4, Z5, Z6, Z7⟩, ⟨⟨P1, P2, P3, P4, P5⟩, E1, E2⟩, ⟨T1, T2, T3, T4, T5, T6, T7, T8⟩, ⟨C1, C2, C3, C4, C5⟩, HO⟩
  ihave Hs := hs $$ Hs
  icases Hs with ⟨S0, S1, S2, S3, S4, S5, S6, S7⟩
  ihave Ho := ho $$ Ho
  icases Ho with ⟨O1, O2⟩
  ihave P3 := hx $$ P3
  ihave P4 := hy $$ P4
  isplitl [S0 Z1 Q1 S3 Z6 T1 T2 C3 P3]
  · isplitl [S0 Z1 Q1]
    · isplitl [S0]; · iexact S0
      isplitl [Z1] <;> iassumption
    isplitl [S3]; · iexact S3
    isplitl [Z6]; · iexact Z6
    isplitl [T1 T2 C3]
    · isplitl [T1]; · iexact T1
      isplitl [T2] <;> iassumption
    iexact P3
  isplitl [S1 Z2 Q2 S6 Z4 O1]
  · isplitl [S1 Z2 Q2]
    · isplitl [S1]; · iexact S1
      isplitl [Z2] <;> iassumption
    isplitl [S6 Z4]
    · isplitl [S6] <;> iassumption
    iexact O1
  isplitl [S2 Z3 Q3 S7 Z5 O2 P2 C2]
  · isplitl [S2 Z3 Q3]
    · isplitl [S2]; · iexact S2
      isplitl [Z3] <;> iassumption
    isplitl [S7 Z5]
    · isplitl [S7] <;> iassumption
    isplitl [O2]; · iexact O2
    isplitl [P2] <;> iassumption
  isplitl [C1 P1 T3 T4 C4 P4 Z7]
  · isplitl [C1]; · iexact C1
    isplitl [P1]; · iexact P1
    isplitl [T3 T4 C4]
    · isplitl [T3]; · iexact T3
      isplitl [T4] <;> iassumption
    isplitl [P4] <;> iassumption
  isplitl [E1 S4 T5]
  · isplitl [E1]; · iexact E1
    isplitl [S4]; · iexact S4
    iexact T5
  isplitl [E2 S5 T6]
  · isplitl [E2]; · iexact E2
    isplitl [S5]; · iexact S5
    iexact T6
  isplitl [T7 T8 P5 C5]
  · isplitl [T7]; · iexact T7
    isplitl [T8]; · iexact T8
    isplitl [P5] <;> iassumption
  iexact HO

end Cert.KernelIdeal.Own

end
-- ==== Proof.KernelIdeal.Fund.lean ====
module

public import proofs.«01_k».proof.Proof.KernelIdeal.Close

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## What the devices owe at the start -/

section Sums

variable {A : Type} [AddCommMonoid A]

/-- A sum may leave out what is zero. -/
theorem sum_within {i j k l : ℕ} (h1 : i ≤ k) (h2 : l ≤ j) (f : ℕ → A) (h : ∀ x ∈ Finset.Ico i j, ¬ (k ≤ x ∧ x < l) → f x = 0) :
    ∑ x ∈ Finset.Ico i j, f x = ∑ x ∈ Finset.Ico k l, f x := by
  refine (Finset.sum_subset (fun x hx => ?_) (fun x hx hn => h x hx (fun hh => hn (Finset.mem_Ico.mpr hh)))).symm
  have := Finset.mem_Ico.mp hx
  exact Finset.mem_Ico.mpr (by omega)

/-- A sum may be counted from another start. -/
theorem sum_shift {i j k : ℕ} (f : ℕ → A) : ∑ x ∈ Finset.Ico (i + k) (j + k), f x = ∑ x ∈ Finset.Ico i j, f (x + k) := by
  have h : Finset.Ico (i + k) (j + k) = (Finset.Ico i j).map (addRightEmbedding k) := by
    ext x
    simp only [Finset.mem_map, Finset.mem_Ico, addRightEmbedding_apply]
    exact ⟨fun h => ⟨x - k, by omega, by omega⟩, fun ⟨y, hy, e⟩ => by omega⟩
  rw [h, Finset.sum_map]
  rfl

/-- Counts taken `a` steps late. -/
theorem sum_late {a : ℕ} (ha : a ≤ 8) (f : ℕ → A) :
    (∑ x ∈ Finset.Ico 0 64, if a ≤ x then (if x - a + 8 < 64 then f (x - a) else 0) else 0) = ∑ u ∈ Finset.Ico 0 56, f u := by
  rw [sum_within (k := 0 + a) (l := 56 + a) (by omega) (by omega), sum_shift]
  · refine Finset.sum_congr rfl fun u hu => ?_
    have := Finset.mem_Ico.mp hu
    rw [if_pos (by omega), if_pos (by omega), Nat.add_sub_cancel]
  · intro x hx hn
    by_cases h : a ≤ x
    · rw [if_pos h, if_neg (by omega)]
    · rw [if_neg h]

/-- Blocks sent three steps ahead, with the first three. -/
theorem sum_ahead (f : ℕ → A) :
    (∑ x ∈ Finset.Ico 0 64, if x + 3 < 64 then f (x + 3) else 0) + f 2 + f 1 + f 0 = ∑ v ∈ Finset.Ico 0 64, f v := by
  have h1 : (∑ x ∈ Finset.Ico 0 64, if x + 3 < 64 then f (x + 3) else 0) = ∑ v ∈ Finset.Ico 3 64, f v := by
    rw [sum_within (k := 0) (l := 61) (by omega) (by omega), show (3 : ℕ) = 0 + 3 by rfl, show (64 : ℕ) = 61 + 3 by rfl, sum_shift]
    · refine Finset.sum_congr rfl fun u hu => ?_
      have := Finset.mem_Ico.mp hu
      rw [if_pos (by omega)]
    · intro x hx hn
      have := Finset.mem_Ico.mp hx
      rw [if_neg (by omega)]
  have step {i : ℕ} (h : i < 64) : ∑ v ∈ Finset.Ico i 64, f v = ∑ v ∈ Finset.Ico (i + 1) 64, f v + f i := by
    rw [show Finset.Ico i 64 = insert i (Finset.Ico (i + 1) 64) from by
        ext x; simp only [Finset.mem_Ico, Finset.mem_insert]; omega,
      Finset.sum_insert (by simp only [Finset.mem_Ico]; omega), add_comm]
  rw [h1, step (i := 0) (by omega), step (i := 0 + 1) (by omega), step (i := 0 + 1 + 1) (by omega)]

end Sums

/-- All that a device owes, kind by kind. -/
theorem owed_all : O₀ c = ((((∑ v ∈ Finset.Ico 0 64, tX c v) + ∑ s ∈ Finset.Ico 0 64, tY c s) + ∑ u ∈ Finset.Ico 0 56, tCX c u)
    + ∑ u ∈ Finset.Ico 0 56, tCY c u) + (tBX c + tBY c) := by
  have h : owed c 0 = ((∑ u ∈ Finset.Ico 0 56, tCX c u) + ∑ u ∈ Finset.Ico 0 56, tCY c u)
      + (∑ x ∈ Finset.Ico 0 64, if x + 3 < 64 then tX c (x + 3) else 0) + ∑ s ∈ Finset.Ico 0 64, tY c s := by
    unfold owed stepO
    rw [Finset.sum_add_distrib, Finset.sum_add_distrib, Finset.sum_add_distrib, sum_late (by omega), sum_late (by omega)]
  unfold O₀
  rw [h, ← sum_ahead (tX c)]
  generalize (∑ x ∈ Finset.Ico 0 64, if x + 3 < 64 then tX c (x + 3) else 0) = a
  generalize (∑ s ∈ Finset.Ico 0 64, tY c s) = b
  generalize (∑ u ∈ Finset.Ico 0 56, tCX c u) = d
  generalize (∑ u ∈ Finset.Ico 0 56, tCY c u) = e
  ac_rfl

/-- What a pairing of the devices owes is owed to each. -/
theorem cred_px (x : CK) (ι n : ℕ) :
    (Pipeline.launchCred (fun d => tallyAt (cell (px d) x) ι n) c : sProp 𝕄) ⊢ cred (tallyAt (cell c x) ι n) :=
  Pipeline.launchCred_tallyAt (semOf x) px px px_px px_px ι n c
/-- What the `y` partner owes is a device's credit. -/
theorem cred_py (x : CK) (ι n : ℕ) :
    (Pipeline.launchCred (fun d => tallyAt (cell (py d) x) ι n) c : sProp 𝕄) ⊢ cred (tallyAt (cell c x) ι n) :=
  Pipeline.launchCred_tallyAt (semOf x) py py py_py py_py ι n c

/-- What all devices owe gives each its credits. -/
theorem creds : (Pipeline.launchCred O₀ c : sProp 𝕄) ⊢ Creds c := by
  rw [show O₀ = fun d => ((((∑ v ∈ Finset.Ico 0 64, tX d v) + ∑ s ∈ Finset.Ico 0 64, tY d s) + ∑ u ∈ Finset.Ico 0 56, tCX d u)
      + ∑ u ∈ Finset.Ico 0 56, tCY d u) + (tBX d + tBY d) from funext owed_all,
    Pipeline.launchCred_add, Pipeline.launchCred_add, Pipeline.launchCred_add, Pipeline.launchCred_add, Pipeline.launchCred_add,
    Pipeline.launchCred_sum (Finset.Ico 0 64) (fun v d => tX d v), Pipeline.launchCred_sum (Finset.Ico 0 64) (fun v d => tY d v),
    Pipeline.launchCred_sum (Finset.Ico 0 56) (fun v d => tCX d v), Pipeline.launchCred_sum (Finset.Ico 0 56) (fun v d => tCY d v)]
  have h1 : (bigSep (Finset.Ico 0 64) fun v => (Pipeline.launchCred (fun d => tX d v) c : sProp 𝕄)) ⊢ bigSep (Finset.Ico 0 64) (CRX c) :=
    bigSep_mono fun v _ => cred_px c _ _ _
  have h2 : (bigSep (Finset.Ico 0 64) fun v => (Pipeline.launchCred (fun d => tY d v) c : sProp 𝕄)) ⊢ bigSep (Finset.Ico 0 64) (CRY c) :=
    bigSep_mono fun v _ => cred_py c _ _ _
  have h3 : (bigSep (Finset.Ico 0 56) fun v => (Pipeline.launchCred (fun d => tCX d v) c : sProp 𝕄))
      ⊢ bigSep (Finset.Ico 0 56) fun u => cred (tallyAt (cell c cx) (16 * (u + 7) + 11) 1) := bigSep_mono fun v _ => cred_px c _ _ _
  have h4 : (bigSep (Finset.Ico 0 56) fun v => (Pipeline.launchCred (fun d => tCY d v) c : sProp 𝕄))
      ⊢ bigSep (Finset.Ico 0 56) fun u => cred (tallyAt (cell c cy) (16 * (u + 5) + 9) 1) := bigSep_mono fun v _ => cred_py c _ _ _
  have h5 : (Pipeline.launchCred tBX c : sProp 𝕄) ⊢ cred (tallyAt (cell c ba) 1 1) := cred_px c ba 1 1
  have h6 : (Pipeline.launchCred tBY c : sProp 𝕄) ⊢ cred (tallyAt (cell c ba) 1 1) := cred_py c ba 1 1
  have h7 : iprop(cred (tallyAt (cell c ba) 1 1) ∗ cred (tallyAt (cell c ba) 1 1)) ⊢ (cred (tallyAt (cell c ba) 1 2) : sProp 𝕄) := by
    rw [show (tallyAt (cell c ba) 1 2 : CellTallies nD τ sig ℕ) = tallyAt (cell c ba) 1 1 + tallyAt (cell c ba) 1 1 from (tallyAt_add _ _ 1 1).symm]
    exact (cred_add _ _).2
  unfold Creds
  iintro ⟨⟨⟨⟨H1, H2⟩, H3⟩, H4⟩, H5, H6⟩
  isplitl [H1]; · iapply h1 $$ H1
  isplitl [H2]; · iapply h2 $$ H2
  isplitl [H3]; · iapply h3 $$ H3
  isplitl [H4]; · iapply h4 $$ H4
  iapply h7
  isplitl [H5]; · iapply h5 $$ H5
  iapply h6 $$ H6

/-! ## The ghost state at the start -/

/-- The members of a family over `8 n` numbers, round by round. -/
theorem fam_rounds (n : ℕ) (Φ : Fin 8 → ℕ → sProp (MT nD τ sig ℕ (Elt F) ℕ UU ℕ)) :
    bigSep (Finset.Ico 0 (8 * n)) (fun v => Φ (m8 v) (v / 8)) = bigSep (Finset.Ico 0 n) fun r => bigSep Finset.univ fun k => Φ k r := by
  induction n with
  | zero => rfl
  | succ n ih =>
    rw [fam_join (show 0 ≤ 8 * n by omega) (show 8 * n ≤ 8 * (n + 1) by omega), ih, Idealize.SL.BI.bigSep_Ico_succ_top (by omega),
      show 8 * (n + 1) = 8 * n + 8 by omega, ← fam_fin (by decide) (8 * n) (fun k => Φ k n)]
    have e : (bigSep (Finset.Ico (8 * n) (8 * n + 8)) fun v => Φ (m8 v) (v / 8)) = bigSep (Finset.Ico (8 * n) (8 * n + 8)) fun v => Φ (m8 v) n :=
      bigSep_congr fun v hv => by
        have := Finset.mem_Ico.mp hv
        rw [show v / 8 = n by omega]
    rw [e, sep_comm_eq]

/-- The members of a family over 64 numbers, slot by slot and round by round. -/
theorem fam_64 (Φ : Fin 8 → ℕ → sProp (MT nD τ sig ℕ (Elt F) ℕ UU ℕ)) :
    bigSep (Finset.Ico 0 64) (fun v => Φ (m8 v) (v / 8)) = bigSep Finset.univ fun k => bigSep Finset.univ fun r : Fin 8 => Φ k r.val := by
  rw [show (64 : ℕ) = 8 * 8 by rfl, fam_rounds, fam_val, ← bigSep_univ_prod (fun x : Fin 8 × Fin 8 => Φ x.2 x.1.val),
    ← bigSep_univ_prod (fun x : Fin 8 × Fin 8 => Φ x.1 x.2.val), bigSep_univ_equiv (Equiv.prodComm (Fin 8) (Fin 8))]
  rfl

/-- Different semaphores of different devices differ. -/
theorem cell_injective : Function.Injective (fun x : Dev nD × CK => cell x.1 x.2) := by
  rintro ⟨c, x⟩ ⟨c', x'⟩ h
  have h1 : c = c' := congrArg (fun g : GSem nD τ sig => g.1.1) h
  have h2 : x = x' := semOf_injective (congrArg Prod.snd h)
  rw [h1, h2]

/-- The shared semaphores. -/
def cells : Finset (GSem nD τ sig) := Finset.univ.map ⟨fun x : Dev nD × CK => cell x.1 x.2, cell_injective⟩

/-- A token's round and duty. -/
abbrev TK : Type := Fin 8 × Fin 56

/-- Different tokens differ. -/
theorem tok_injective : Function.Injective (fun x : Dev nD × (CK × TK) => (cell x.1 x.2.1, x.2.2.1.val, x.2.2.2.val)) := by
  rintro ⟨c, x, r, u⟩ ⟨c', x', r', u'⟩ h
  have h1 : (c, x) = (c', x') := cell_injective (congrArg (fun t : GSem nD τ sig × ℕ × ℕ => t.1) h)
  have h2 : r = r' := Fin.ext (congrArg (fun t : GSem nD τ sig × ℕ × ℕ => t.2.1) h)
  have h3 : u = u' := Fin.ext (congrArg (fun t : GSem nD τ sig × ℕ × ℕ => t.2.2) h)
  obtain ⟨h4, h5⟩ := Prod.mk.inj h1
  rw [h4, h5, h2, h3]

/-- The tokens dealt: of every shared semaphore, eight rounds of 56 duties. -/
def toks : Finset (GSem nD τ sig × ℕ × ℕ) :=
  Finset.univ.map ⟨fun x : Dev nD × (CK × TK) => (cell x.1 x.2.1, x.2.2.1.val, x.2.2.2.val), tok_injective⟩

/-- The duties others pay at a device's semaphores. -/
def Toks : sProp 𝕄 :=
  iprop((bigSep (Finset.Ico 0 64) fun v => dutyTok ER (cell c (rx (m8 v))) (v / 8) 0)
    ∗ (bigSep (Finset.Ico 0 64) fun v => dutyTok ER (cell c (ry (m8 v))) (v / 8) 0)
    ∗ (bigSep (Finset.Ico 0 56) fun u => dutyTok ER (cell c cx) 0 u) ∗ (bigSep (Finset.Ico 0 56) fun u => dutyTok ER (cell c cy) 0 u)
    ∗ dutyTok ER (cell c ba) 0 0 ∗ dutyTok ER (cell c ba) 0 1)

/-- Of a receive slot's tokens, one is kept for each round. -/
theorem toks_round (x : CK) : (bigSep Finset.univ fun y : TK => (dutyTok ER (cell c x) y.1.val y.2.val : sProp 𝕄))
    ⊢ bigSep Finset.univ fun r : Fin 8 => dutyTok ER (cell c x) r.val 0 := by
  rw [bigSep_univ_prod (fun y : TK => (dutyTok ER (cell c x) y.1.val y.2.val : sProp 𝕄))]
  exact bigSep_mono fun r _ => bigSep_elim (i := (0 : Fin 56)) (Finset.mem_univ _)

/-- Of a count's tokens, those of the first round are kept. -/
theorem toks_first (x : CK) : (bigSep Finset.univ fun y : TK => (dutyTok ER (cell c x) y.1.val y.2.val : sProp 𝕄))
    ⊢ bigSep (Finset.Ico 0 56) fun u => dutyTok ER (cell c x) 0 u := by
  rw [bigSep_univ_prod (fun y : TK => (dutyTok ER (cell c x) y.1.val y.2.val : sProp 𝕄)), fam_val]
  exact bigSep_elim (i := (0 : Fin 8)) (Finset.mem_univ _)

/-- Of the barrier's tokens, two are kept. -/
theorem toks_two (x : CK) : (bigSep Finset.univ fun y : TK => (dutyTok ER (cell c x) y.1.val y.2.val : sProp 𝕄))
    ⊢ iprop(dutyTok ER (cell c x) 0 0 ∗ dutyTok ER (cell c x) 0 1) := by
  have h : (bigSep (Finset.Ico 0 56) fun u => (dutyTok ER (cell c x) 0 u : sProp 𝕄)) ⊢ bigSep (Finset.Ico 0 (0 + 2)) fun u => dutyTok ER (cell c x) 0 u :=
    bigSep_subset (fun y hy => by have := Finset.mem_Ico.mp hy; exact Finset.mem_Ico.mpr (by omega))
  rw [fam_two] at h
  exact (toks_first c x).trans h

/-- All tokens dealt hold a device's duties. -/
theorem toks_of : (bigSep Finset.univ fun x : CK × TK => (dutyTok ER (cell c x.1) x.2.1.val x.2.2.val : sProp 𝕄)) ⊢ Toks c := by
  rw [bigSep_univ_prod, ck_eq]
  have h1 : (bigSep Finset.univ fun k : Fin 8 => bigSep Finset.univ fun y : TK => (dutyTok ER (cell c (rx k)) y.1.val y.2.val : sProp 𝕄))
      ⊢ bigSep (Finset.Ico 0 64) fun v => dutyTok ER (cell c (rx (m8 v))) (v / 8) 0 := by
    rw [fam_64 (fun k r => dutyTok ER (cell c (rx k)) r 0)]
    exact bigSep_mono fun k _ => toks_round c (rx k)
  have h2 : (bigSep Finset.univ fun k : Fin 8 => bigSep Finset.univ fun y : TK => (dutyTok ER (cell c (ry k)) y.1.val y.2.val : sProp 𝕄))
      ⊢ bigSep (Finset.Ico 0 64) fun v => dutyTok ER (cell c (ry (m8 v))) (v / 8) 0 := by
    rw [fam_64 (fun k r => dutyTok ER (cell c (ry k)) r 0)]
    exact bigSep_mono fun k _ => toks_round c (ry k)
  have h3 := toks_first (F := F) c cx
  have h4 := toks_first (F := F) c cy
  have h5 := toks_two (F := F) c ba
  unfold Toks
  iintro ⟨H1, H2, H3, H4, H5⟩
  isplitl [H1]; · iapply h1 $$ H1
  isplitl [H2]; · iapply h2 $$ H2
  isplitl [H3]; · iapply h3 $$ H3
  isplitl [H4]; · iapply h4 $$ H4
  iapply h5 $$ H5

/-- The turns of the writers at a device's receive slots. -/
def Turns : sProp 𝕄 :=
  iprop((bigSep (Finset.Ico 0 64) fun v => writeTok ES ((c, true, m8 v) : Key) (v / 8 + 1))
    ∗ bigSep (Finset.Ico 0 64) fun v => writeTok ES ((c, false, m8 v) : Key) (v / 8 + 1))

/-- A family over both rings' slots, ring by ring. -/
theorem bool_eq (Φ : Bool × Fin 8 → sProp (MT nD τ sig ℕ (Elt F) ℕ UU ℕ)) :
    bigSep Finset.univ Φ = iprop((bigSep Finset.univ fun k => Φ (true, k)) ∗ bigSep Finset.univ fun k => Φ (false, k)) := by
  rw [bigSep_univ_prod]
  exact bigSep_univ_eq_bigSepL [true, false] (by decide) (by decide) _

/-- All writers' turns, device by device. -/
theorem turns_eq : (bigSep ((Finset.univ : Finset Key) ×ˢ Finset.range 8) fun x => (writeTok ES x.1 (x.2 + 1) : sProp 𝕄))
    = bigSep Finset.univ fun c => Turns c := by
  have h : (Finset.univ : Finset Key) ×ˢ Finset.range 8
      = (Finset.univ : Finset (Key × Fin 8)).map ⟨fun x => (x.1, x.2.val), fun x y e => by
          obtain ⟨h1, h2⟩ := Prod.mk.inj (show (x.1, x.2.val) = (y.1, y.2.val) from e)
          exact Prod.ext h1 (Fin.ext h2)⟩ := by
    ext x
    simp only [Finset.mem_product, Finset.mem_univ, Finset.mem_range, Finset.mem_map, Function.Embedding.coeFn_mk]
    exact ⟨fun h => ⟨(x.1, ⟨x.2, h.2⟩), trivial, rfl⟩, fun ⟨y, _, e⟩ => ⟨trivial, by rw [← e]; exact y.2.isLt⟩⟩
  rw [h, bigSep_map, bigSep_univ_prod, bigSep_univ_prod]
  refine bigSep_congr fun c _ => ?_
  rw [bool_eq]
  unfold Turns
  rw [fam_64 (fun k r => writeTok ES ((c, true, k) : Key) (r + 1)), fam_64 (fun k r => writeTok ES ((c, false, k) : Key) (r + 1))]
  rfl

/-- The rounds at the start. -/
def ringEl : URounds (GSem nD τ sig) ℕ := initOf cells toks
/-- The slots at the start. -/
def slotEl : USlots Key := Release.initSlots Finset.univ 8

/-- The launch's ghost element. -/
def u₀ : UU :=
  (initOf (Pipeline.cells cfgs cellOf_inj) (Pipeline.launchToks cfgs cellOf_inj),
    (ringEl, (Emb.inl : Emb (USlots Key) (USlots Key × Counters)) slotEl))

/-- What the launch deals device `c`. -/
def G : sProp 𝕄 :=
  iprop((bigSep Finset.univ fun x : CK => roundState ER (Rd m) (cell c x) 0) ∗ (bigSep Finset.univ fun x : CK => reached ER (cell c x) 0)
    ∗ (bigSep Finset.univ fun x : CK => atPos ER (cell c x) 0 ∅ 0) ∗ Toks c
    ∗ (bigSep Finset.univ fun y : Bool × Fin 8 => sinv (c, y)) ∗ (bigSep Finset.univ fun y : Bool × Fin 8 => readerAt ES (c, y) 0) ∗ Turns c)

/-- The rounds at the start are each device's semaphores, places and tokens. -/
theorem fund_rounds : (BI.own (ER (F := F) ringEl) : sProp 𝕄)
    ⊢ |==> iprop((bigSep Finset.univ fun c => bigSep Finset.univ fun x : CK => roundState ER (Rd m) (cell c x) 0)
      ∗ (bigSep Finset.univ fun c => bigSep Finset.univ fun x : CK => reached ER (cell c x) 0)
      ∗ (bigSep Finset.univ fun c => bigSep Finset.univ fun x : CK => atPos ER (cell c x) 0 ∅ 0) ∗ bigSep Finset.univ fun c => Toks c) := by
  have hX (Φ : GSem nD τ sig → sProp 𝕄) : bigSep cells Φ = bigSep Finset.univ fun c : Dev nD => bigSep Finset.univ fun x : CK => Φ (cell c x) := by
    unfold cells; rw [bigSep_map, bigSep_univ_prod]; rfl
  have hT : (bigSep toks fun x => (dutyTok ER x.1 x.2.1 x.2.2 : sProp 𝕄)) ⊢ bigSep Finset.univ fun c : Dev nD => Toks c := by
    unfold toks; rw [bigSep_map, bigSep_univ_prod]
    exact bigSep_mono fun c _ => toks_of c
  have hF : (BI.own (ER (F := F) ringEl) : sProp 𝕄) ⊢ |==> iprop(bigSep cells (fun g => roundState ER (Rd m) g 0) ∗ bigSep cells (fun g => reached ER g 0)
      ∗ bigSep cells (fun g => atPos ER g 0 ∅ 0) ∗ bigSep toks fun x => dutyTok ER x.1 x.2.1 x.2.2) := Rounds.fund ER (Rd m) cells toks
  rw [hX, hX, hX] at hF
  iintro H
  ihave H := hF $$ H
  imod H with ⟨H1, H2, H3, H4⟩
  imodintro
  isplitl [H1]; · iexact H1
  isplitl [H2]; · iexact H2
  isplitl [H3]; · iexact H3
  iapply hT $$ H4

/-- The slots at the start are each device's turns. -/
theorem fund_slots : (BI.own (ES (F := F) slotEl) : sProp 𝕄)
    ⊢ |={Set.univ}=> iprop((bigSep Finset.univ fun c => bigSep Finset.univ fun y : Bool × Fin 8 => sinv (c, y))
      ∗ (bigSep Finset.univ fun c => bigSep Finset.univ fun y : Bool × Fin 8 => readerAt ES (c, y) 0) ∗ bigSep Finset.univ fun c => Turns c) := by
  have hF : (BI.own (ES (F := F) slotEl) : sProp 𝕄) ⊢ |={Set.univ}=> ∃ ιs : Key → ℕ, ⌜Set.InjOn ιs (Finset.univ : Finset Key) ∧ ∀ k ∈ (Finset.univ : Finset Key), ιs k ∉ (∅ : Finset ℕ)⌝
      ∗ bigSep Finset.univ (fun k => slotInv ES (ιs k) k (slotRes k)) ∗ bigSep Finset.univ (fun k : Key => readerAt ES k 0)
      ∗ bigSep (Finset.univ ×ˢ Finset.range 8) (fun x => writeTok ES x.1 (x.2 + 1)) := Release.slots_init (E := ES) Finset.univ 8 slotRes
  have hI (ιs : Key → ℕ) : (bigSep Finset.univ fun k => (slotInv ES (ιs k) k (slotRes k) : sProp 𝕄))
      ⊢ bigSep Finset.univ fun c => bigSep Finset.univ fun y : Bool × Fin 8 => sinv (c, y) := by
    rw [← bigSep_univ_prod (fun k : Key => (sinv k : sProp 𝕄))]
    refine bigSep_mono fun k _ => ?_
    have h : (slotInv ES (ιs k) k (slotRes k) : sProp 𝕄) ⊢ sinv k := by
      unfold sinv
      iintro H
      iexists ιs k
      iexact H
    exact h
  rw [turns_eq, bigSep_univ_prod (fun k : Key => (readerAt ES k 0 : sProp 𝕄))] at hF
  iintro H
  ihave H := hF $$ H
  imod H with ⟨%ιs, -, H1, H2, H3⟩
  imodintro
  isplitl [H1]; · iapply (hI ιs) $$ H1
  isplitl [H2] <;> iassumption

/-- The two parts of the ghost state come apart. -/
theorem own_parts : (BI.own ((embR : Emb _ 𝕄) ((ringEl, (Emb.inl : Emb (USlots Key) (USlots Key × Counters)) slotEl) : URounds (GSem nD τ sig) ℕ × (USlots Key × Counters))) : sProp 𝕄)
    ⊢ iprop(BI.own (ER (F := F) ringEl) ∗ BI.own (ES (F := F) slotEl)) :=
  BI.own_op_elim ((embR : Emb (URounds (GSem nD τ sig) ℕ × (USlots Key × Counters)) (MT nD τ sig ℕ (Elt F) ℕ UU ℕ)).op_of_mem
    (Prod.mk_mem_op (URA.mem_op_one ringEl) (URA.mem_one_op ((Emb.inl : Emb (USlots Key) (USlots Key × Counters)) slotEl))))

/-- The launch's ghost state is what each device is dealt. -/
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  have h0 := own_parts (F := F)
  have h1 := fund_rounds (F := F) m
  have h2 := fund_slots (F := F)
  have hG : (bigSep Finset.univ (G m) : sProp 𝕄) = iprop((bigSep Finset.univ fun c => bigSep Finset.univ fun x : CK => roundState ER (Rd m) (cell c x) 0)
      ∗ (bigSep Finset.univ fun c => bigSep Finset.univ fun x : CK => reached ER (cell c x) 0)
      ∗ (bigSep Finset.univ fun c => bigSep Finset.univ fun x : CK => atPos ER (cell c x) 0 ∅ 0) ∗ (bigSep Finset.univ fun c => Toks c)
      ∗ (bigSep Finset.univ fun c => bigSep Finset.univ fun y : Bool × Fin 8 => sinv (c, y))
      ∗ (bigSep Finset.univ fun c => bigSep Finset.univ fun y : Bool × Fin 8 => readerAt ES (c, y) 0) ∗ bigSep Finset.univ fun c => Turns c) := by
    unfold G
    rw [bigSep_sep', bigSep_sep', bigSep_sep', bigSep_sep', bigSep_sep', bigSep_sep']
  rw [hG]
  unfold u₀
  iintro Hu
  ihave H := (ownU_pair _ _) $$ Hu
  icases H with ⟨HP, HX⟩
  ihave HX := h0 $$ HX
  icases HX with ⟨HR, HS⟩
  ihave HR := h1 $$ HR
  imod HR with ⟨R1, R2, R3, R4⟩
  ihave HS := h2 $$ HS
  imod HS with ⟨S1, S2, S3⟩
  imodintro
  isplitl [HP]; · iexact HP
  isplitl [R1]; · iexact R1
  isplitl [R2]; · iexact R2
  isplitl [R3]; · iexact R3
  isplitl [R4]; · iexact R4
  isplitl [S1]; · iexact S1
  isplitl [S2] <;> iassumption

end Cert.KernelIdeal.Own

end
-- ==== Proof.KernelIdeal.Launch.lean ====
module

public import proofs.«01_k».proof.Proof.KernelIdeal.Fund
public import Idealize.ShloMosaic.Lib.Pipeline.Launch
public import Idealize.ShloMosaic.Lib.Tactic
public import proofs.«01_k».proof.Proof.Gen.KernelIdeal.Points

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.Transfers (Flight)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The invariants allocated -/

/-- What every device knows but for the order of waits. -/
def Known : sProp 𝕄 :=
  iprop((bigSep Finset.univ fun x : Dev nD × CK => cinv m (cell x.1 x.2)) ∗ (bigSep Finset.univ sinv)
    ∗ (bigSep Finset.univ fun x : Dev nD × CK => reached ER (cell x.1 x.2) 0))

/-- It stays true. -/
instance Known_persistent : BI.Persistent (Known m : sProp 𝕄) := by unfold Known; infer_instance

/-- With the order of waits, it is all that a device knows. -/
theorem Ctx_of : iprop(Known m ∗ levAts Lv lv) ⊢ (Ctx m : sProp 𝕄) := by
  unfold Known Ctx
  iintro ⟨⟨H1, H2, H3⟩, H4⟩
  isplitl [H1]; · iexact H1
  isplitl [H2]; · iexact H2
  isplitl [H4] <;> iassumption

/-- A device's part of the launch once its semaphores' invariants stand. -/
def Open : sProp 𝕄 :=
  iprop((bigSep Finset.univ fun x : CK => cinv m (cell c x)) ∗ (bigSep Finset.univ fun x : CK => reached ER (cell c x) 0)
    ∗ (bigSep Finset.univ fun y : Bool × Fin 8 => sinv (c, y)) ∗ LSems c ∗ Pos c ∗ Toks c ∗ Turns c)

/-- A semaphore at zero starts to follow the schedule. -/
theorem open_cell (g : GSem nD τ sig) : iprop(semVal g 0 ∗ roundState ER (Rd m) g 0) ⊢ (|={Set.univ}=> cinv m g : sProp 𝕄) := by
  unfold cinv
  exact (Rounds.body_intro ER (Rd m) g).trans inv_alloc

/-- All shared semaphores of a device do. -/
theorem open_cells : iprop(SSems c ∗ bigSep Finset.univ fun x : CK => roundState ER (Rd m) (cell c x) 0)
    ⊢ (|={Set.univ}=> bigSep Finset.univ fun x : CK => cinv m (cell c x) : sProp 𝕄) := by
  unfold SSems
  rw [← bigSep_sep']
  exact (bigSep_mono fun x _ => open_cell m (cell c x)).trans (bigSep_fupd _ _)

/-- A device's part of the launch. -/
theorem open_core : iprop(own0 c ∗ unscopedSems0 c ∗ G m c) ⊢ (|={Set.univ}=> Open m c : sProp 𝕄) := by
  have hs := sems_split (F := F) c
  have ho := open_cells m c
  have hr := bool_eq (F := F) fun y => readerAt ES ((c, y) : Key) 0
  unfold G Open Pos
  rw [hr]
  iintro ⟨H1, H2, H3, H4, H5, H6, H7, H8, H9⟩
  ihave HS := hs $$ [H1 H2]
  · isplitl [H1] <;> iassumption
  icases HS with ⟨HL, HS⟩
  ihave HI := ho $$ [HS H3]
  · isplitl [HS] <;> iassumption
  imod HI with HI
  imodintro
  isplitl [HI]; · iexact HI
  isplitl [H4]; · iexact H4
  isplitl [H7]; · iexact H7
  isplitl [HL]; · iexact HL
  isplitl [H5 H8]
  · isplitl [H5] <;> iassumption
  isplitl [H6] <;> iassumption

/-- What the launch's global step gives device `c`. -/
def G' : sProp 𝕄 := iprop(Known m ∗ LSems c ∗ Pos c ∗ Pay c)

/-- Exchange along `x`. -/
def swapX : Dev nD ≃ Dev nD := ⟨px, px, px_px, px_px⟩
/-- Exchange along `y`. -/
def swapY : Dev nD ≃ Dev nD := ⟨py, py, py_py, py_py⟩

/-- A family over the devices may be taken over their `x` partners. -/
theorem over_px (Φ : Dev nD → sProp (MT nD τ sig ℕ (Elt F) ℕ UU ℕ)) : bigSep Finset.univ Φ = bigSep Finset.univ fun c => Φ (px c) :=
  bigSep_univ_equiv swapX Φ
/-- A family over the devices may be taken over their `y` partners. -/
theorem over_py (Φ : Dev nD → sProp (MT nD τ sig ℕ (Elt F) ℕ UU ℕ)) : bigSep Finset.univ Φ = bigSep Finset.univ fun c => Φ (py c) :=
  bigSep_univ_equiv swapY Φ

/-- Every duty and every turn goes to the device that pays it. -/
theorem pays : iprop((bigSep Finset.univ fun c => Toks c) ∗ bigSep Finset.univ fun c => Turns c) ⊢ (bigSep Finset.univ fun c => Pay c : sProp 𝕄) := by
  unfold Toks Turns Pay
  simp only [bigSep_sep']
  rw [over_px (F := F) (fun c => bigSep (Finset.Ico 0 64) fun v => dutyTok ER (cell c (rx (m8 v))) (v / 8) 0),
    over_py (F := F) (fun c => bigSep (Finset.Ico 0 64) fun v => dutyTok ER (cell c (ry (m8 v))) (v / 8) 0),
    over_px (F := F) (fun c => bigSep (Finset.Ico 0 56) fun u => dutyTok ER (cell c cx) 0 u),
    over_py (F := F) (fun c => bigSep (Finset.Ico 0 56) fun u => dutyTok ER (cell c cy) 0 u),
    over_px (F := F) (fun c => dutyTok ER (cell c ba) 0 0), over_py (F := F) (fun c => dutyTok ER (cell c ba) 0 1),
    over_px (F := F) (fun c => bigSep (Finset.Ico 0 64) fun v => writeTok ES ((c, true, m8 v) : Key) (v / 8 + 1)),
    over_py (F := F) (fun c => bigSep (Finset.Ico 0 64) fun v => writeTok ES ((c, false, m8 v) : Key) (v / 8 + 1))]
  iintro ⟨⟨H1, H2, H3, H4, H5, H6⟩, H7, H8⟩
  isplitl [H1]; · iexact H1
  isplitl [H7]; · iexact H7
  isplitl [H2]; · iexact H2
  isplitl [H8]; · iexact H8
  isplitl [H3]; · iexact H3
  isplitl [H4]; · iexact H4
  isplitl [H5] <;> iassumption

/-- All devices' parts, with each duty at the device that pays it. -/
theorem regroup : (bigSep Finset.univ (Open m) : sProp 𝕄) ⊢ bigSep Finset.univ (G' m) := by
  have hp := pays (F := F)
  have hK : (Known m : sProp 𝕄) ⊢ bigSep Finset.univ fun _ : Dev nD => Known m := BI.bigSep_of_persistent Finset.univ (Known m)
  have h1 : (bigSep Finset.univ (Open m) : sProp 𝕄) = iprop((bigSep Finset.univ fun x : Dev nD × CK => cinv m (cell x.1 x.2))
      ∗ (bigSep Finset.univ fun x : Dev nD × CK => reached ER (cell x.1 x.2) 0) ∗ (bigSep Finset.univ sinv)
      ∗ (bigSep Finset.univ fun c => LSems c) ∗ (bigSep Finset.univ fun c => Pos c) ∗ (bigSep Finset.univ fun c => Toks c) ∗ bigSep Finset.univ fun c => Turns c) := by
    unfold Open
    rw [bigSep_sep', bigSep_sep', bigSep_sep', bigSep_sep', bigSep_sep', bigSep_sep',
      bigSep_univ_prod (fun x : Dev nD × CK => (cinv m (cell x.1 x.2) : sProp 𝕄)),
      bigSep_univ_prod (fun x : Dev nD × CK => (reached ER (cell x.1 x.2) 0 : sProp 𝕄)), bigSep_univ_prod (fun k : Key => (sinv k : sProp 𝕄))]
  have h2 : (bigSep Finset.univ (G' m) : sProp 𝕄) = iprop((bigSep Finset.univ fun _ : Dev nD => Known m)
      ∗ (bigSep Finset.univ fun c => LSems c) ∗ (bigSep Finset.univ fun c => Pos c) ∗ bigSep Finset.univ fun c => Pay c) := by
    unfold G'
    rw [bigSep_sep', bigSep_sep', bigSep_sep']
  rw [h1, h2]
  unfold Known at hK ⊢
  iintro ⟨H1, H2, H3, H4, H5, H6, H7⟩
  isplitl [H1 H2 H3]
  · iapply hK
    isplitl [H1]; · iexact H1
    isplitl [H3] <;> iassumption
  isplitl [H4]; · iexact H4
  isplitl [H5]; · iexact H5
  iapply hp
  isplitl [H6] <;> iassumption

/-- All devices' semaphores become shared at once. -/
theorem glob : (bigSep Finset.univ fun c => iprop(own0 c ∗ unscopedSems0 c ∗ G m c) : sProp 𝕄) ⊢ |={Set.univ}=> bigSep Finset.univ (G' m) :=
  ((bigSep_mono fun c _ => open_core m c).trans (bigSep_fupd _ _)).trans (BI.fupd_mono (regroup m))

/-! ## The run of a device -/

/-- What a device enters the kernel with, but for its scratch buffers. -/
def Enter : sProp 𝕄 :=
  iprop(Ctx m ∗ inQ m c fullShare ∗ (∃ f, oL c ↦{fullShare} f) ∗ LSems c ∗ Pos c ∗ Pay c ∗ Creds c)

/-- A device at the kernel's start. -/
def Φ₀ : sProp 𝕄 := iprop(Ctx m ∗ Mem m c ∗ LSems c ∗ Pos c ∗ Pay c ∗ Creds c)
/-- A device at the kernel's end. -/
def Φ₁ : sProp 𝕄 := iprop(Fin1 m c ∗ own0 c ∗ Scr c)

/-- The region of the kernel on device `c`: it has no windows and one step. -/
def dats (_ : Fin 1) (c : Dev nD) : Pipeline.Dat τ (Elt F) ℕ ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A step of ghost state may follow a program. -/
theorem wp_update (p : TProg F PUnit) (Q : PUnit → sProp (MT nD τ sig ℕ (Elt F) ℕ UU ℕ)) :
    wpc c p (fun a => iprop(|={Set.univ}=> Q a)) ⊢ wpc c p Q :=
  wp_fupd frame (wpE (defs₀ (F := F)) 𝒱₀ (c : Thread nD τ) none) Set.univ p Q

/-- A program's end may be weakened. -/
theorem wp_weaken (p : TProg F PUnit) (Q Q' : PUnit → sProp (MT nD τ sig ℕ (Elt F) ℕ UU ℕ)) (h : ∀ a, Q a ⊢ Q' a) : wpc c p Q ⊢ wpc c p Q' :=
  wp_mono frame (wpE (defs₀ (F := F)) 𝒱₀ (c : Thread nD τ) none) Set.univ h

/-- The kernel's body takes a device from its start to its end. -/
theorem wp_kernel : iprop(Φ₀ m c ∗ ow c (O₀ c)) ⊢ (wpc c body fun _ => iprop(Φ₁ m c ∗ ow c 0) : sProp 𝕄) := by
  have hs := start_intro m c
  have hb := wp_body m c fun _ => iprop(|={Set.univ}=> (Φ₁ m c ∗ ow c 0))
  have he := end_close m c
  have h : iprop(Φ₀ m c ∗ ow c (O₀ c)) ⊢ (wpc c body fun _ => iprop(|={Set.univ}=> (Φ₁ m c ∗ ow c 0)) : sProp 𝕄) := by
    unfold Φ₀
    iintro ⟨⟨#HC, HM, H1, H2, H3, H4⟩, HO⟩
    ihave HS := hs $$ [HM H1 H2 H3 H4 HO]
    · isplitl [HM]; · iexact HM
      isplitl [H1]; · iexact H1
      isplitl [H2]; · iexact H2
      isplitl [H3]; · iexact H3
      isplitl [H4] <;> iassumption
    iapply hb $$ [HS]
    · isplitr; · iexact HC
      iexact HS
    iintro HE
    unfold Φ₁
    iapply he
    isplitr; · iexact HC
    iexact HE
  exact h.trans (wp_update c body _)

/-- The region has one step. -/
theorem fin_N (t : Fin cfg0.N) : t = t0_0 := fin_N0 t

set_option maxRecDepth 65536 in
/-- That step calls the kernel's body. -/
theorem called : (defs₀ .tc cfg0.body (cfg0.bodyArgs t0_0 (cfg0.slots t0_0)) : TProg F PUnit) = body :=
  (show (defs₀ .tc cfg0.body (cfg0.bodyArgs t0_0 (cfg0.slots t0_0)) : TProg F PUnit) = bodyAt0 t0_0 from rfl).trans body_eq

/-- A body that runs from start to end meets the region's obligation. -/
theorem obligation (p : TProg F PUnit) (hk : iprop(Φ₀ m c ∗ ow c (O₀ c)) ⊢ (wpc c p fun _ => iprop(Φ₁ m c ∗ ow c 0) : sProp 𝕄)) :
    iprop((dats m 0 c).Φ t0_0.castSucc ∗ (dats m 0 c).owesAt 0 t0_0.castSucc ∗ emp)
      ⊢ (wpc c p fun _ => iprop((dats m 0 c).Φ t0_0.succ ∗ (dats m 0 c).owesAt 0 t0_0.succ ∗ emp) : sProp 𝕄) := by
  show iprop(Φ₀ m c ∗ (dats m 0 c).owesAt 0 t0_0.castSucc ∗ emp) ⊢ (wpc c p fun _ => iprop(Φ₁ m c ∗ (dats m 0 c).owesAt 0 t0_0.succ ∗ emp) : sProp 𝕄)
  have h1 : iprop(Φ₀ m c ∗ (dats m 0 c).owesAt 0 t0_0.castSucc ∗ emp) ⊢ (iprop(Φ₀ m c ∗ ow c (O₀ c)) : sProp 𝕄) := by
    unfold Pipeline.Dat.owesAt Pipeline.owesWithin ow
    iintro ⟨H, ⟨%W, -, HO⟩, -⟩
    isplitl [H]; · iexact H
    iexists W
    iexact HO
  have h2 : iprop(Φ₁ m c ∗ ow c 0) ⊢ (iprop(Φ₁ m c ∗ (dats m 0 c).owesAt 0 t0_0.succ ∗ emp) : sProp 𝕄) := by
    unfold Pipeline.Dat.owesAt Pipeline.owesWithin ow
    iintro ⟨H1, ⟨%W, HO⟩⟩
    isplitl [H1]; · iexact H1
    isplitl
    · iexists W
      isplitr; · ipureintro; exact fun _ _ => Or.inl trivial
      iexact HO
    · iempintro
  exact h1.trans (hk.trans (wp_weaken c p _ _ fun _ => h2))

/-- A family over no windows is nothing. -/
theorem no_windows (Φ : Fin cfg0.W → sProp (MT nD τ sig ℕ (Elt F) ℕ UU ℕ)) : bigSep Finset.univ Φ = iprop(emp) := rfl

/-- The kernel's body meets the region's obligation. -/
theorem body_obligation : Pipeline.BodyObligation (dats (F := F) m 0 c) (defs₀ (F := F)) 𝒱₀ 0 Set.univ := fun t => by
  rw [fin_N t, called, no_windows, no_windows]
  have hk := wp_kernel m c
  generalize (body : TProg F PUnit) = p at hk ⊢
  exact obligation m c p hk

/-! ## The launch -/

/-- There is no window whose share could differ. -/
theorem share_eq (c : Dev nD) (w : Fin cfg0.W) : (dats m 0 c).share w = fullShare := w.elim0

/-- What the launch leaves device `c` is what it enters the kernel with. -/
theorem enter : iprop(Pipeline.unscopedRestP Pipeline.Prefetch.none cfg0.spec c (fun b => m ((c : Thread nD τ).loc b)) ∗ levAts Lv lv
      ∗ Pipeline.launchCred O₀ c ∗ prngReg c (ρ c) ∗ G' m c)
    ⊢ (|={Set.univ}=> iprop(Enter m c ∗ emp) : sProp 𝕄) := by
  have hc := creds (F := F) c
  have hx := Ctx_of m
  rw [Pipeline.unscopedRestP_none, unscopedRest0_eq]
  unfold G' Enter
  iintro ⟨⟨Hi, Ho⟩, HL, HC, -, HK, H1, H2, H3⟩
  ihave HC := hc $$ HC
  ihave HX := hx $$ [HK HL]
  · isplitl [HK] <;> iassumption
  imodintro
  isplitl
  · isplitl [HX]; · iexact HX
    isplitl [Hi]; · iexact Hi
    isplitl [Ho]
    · iexists _; iexact Ho
    isplitl [H1]; · iexact H1
    isplitl [H2]; · iexact H2
    isplitl [H3] <;> iassumption
  · iempintro

/-- With the scratch buffers, that is the kernel's start. -/
theorem phi0 : iprop(Enter m c ∗ Pipeline.prefHeld Pipeline.Prefetch.none c (fun _ => fullShare.right) (fun k => k.elim0) ∗ Pipeline.scopedRest cfg0.spec c)
    ⊢ ((dats m 0 c).Φ 0 : sProp 𝕄) := by
  show _ ⊢ (Φ₀ m c : sProp 𝕄)
  unfold Enter Φ₀ Mem
  iintro ⟨⟨H1, H2, H3, H4, H5, H6, H7⟩, -, H8⟩
  isplitl [H1]; · iexact H1
  isplitl [H2 H3 H8]
  · isplitl [H2]; · iexact H2
    isplitl [H3] <;> iassumption
  isplitl [H4]; · iexact H4
  isplitl [H5]; · iexact H5
  isplitl [H6] <;> iassumption

/-- The kernel's end gives its scratch and semaphores back. -/
theorem phi1 : ((dats m 0 c).Φ (Fin.last cfg0.N) : sProp 𝕄) ⊢ iprop(Fin1 m c ∗ own0 c ∗ Scr c) := by
  show (Φ₁ m c : sProp 𝕄) ⊢ _
  unfold Φ₁
  iintro H
  iexact H

/-- There is no window to wait for. -/
theorem waits : (levAts Lv lv : sProp 𝕄) ⊢ Pipeline.cellsWaits cfgs (dats m) 0 0 c :=
  Pipeline.cellsWaits_intro cfgs (dats m) 0 0 c fun w _ _ => w.elim0

/-- What is known of the machine once device `c` has returned. -/
def QC (s : MemSt nD τ sig (Elt F)) : Prop :=
  (s.mem ((c : Thread nD τ).loc main_arg0) = m ((c : Thread nD τ).loc main_arg0) ∧ s.mem ((c : Thread nD τ).loc main_v1) = OUT m c)
    ∧ ∀ sm : SemLoc sig, sm.isScoped .tc = false → s.sem ((c : Thread nD τ), sm) = 0

/-- A buffer held whole is what the memory holds. -/
theorem read_all {s' : Phys nD τ sig (Elt F)} {ℓ : Loc nD τ sig} {f : Buf (Elt F) ℓ} :
    iprop(SI s' ∗ ℓ ↦{fullShare} f) ⊢ (iprop(⌜s'.mem.mem ℓ = f⌝ ∗ SI s') : sProp 𝕄) := by
  iintro ⟨HS, Hp⟩
  icombine HS Hp gives %h
  isplitr
  · ipureintro; exact Buf.eq_of_forall_mem_univ h
  iexact HS

/-- A device's end tells what its memory holds. -/
theorem fin_read (s' : Phys nD τ sig (Elt F)) : iprop(Fin1 m c ∗ emp ∗ SI s') ⊢ (|={Set.univ}=> iprop(⌜QC m c s'.mem⌝ ∗ SI s') : sProp 𝕄) := by
  have h1 := read_all (F := F) (s' := s') (ℓ := xM.view.loc (c : Thread nD τ)) (f := m (xM.view.loc (c : Thread nD τ)))
  have h2 := read_all (F := F) (s' := s') (ℓ := oL c) (f := OUT m c)
  have h3 := Pipeline.unscopedSems0_read (X := (unscopedSems0 c : sProp 𝕄)) (c := c) fupd_intro s'
  unfold Fin1
  iintro ⟨⟨Hi, Ho, Hu⟩, -, HS⟩
  ihave H := h1 $$ [Hi HS]
  · isplitl [HS] <;> iassumption
  icases H with ⟨%e1, HS⟩
  ihave H := h2 $$ [Ho HS]
  · isplitl [HS] <;> iassumption
  icases H with ⟨%e2, HS⟩
  ihave H := h3 $$ [Hu HS]
  · isplitl [Hu] <;> iassumption
  imod H with ⟨%e3, HS⟩
  imodintro
  isplitr
  · ipureintro; exact ⟨⟨e1, e2⟩, e3⟩
  iexact HS

set_option maxRecDepth 65536 in
/-- On sixteen devices, for any float values and from any memory with zero counters: every weakly fair execution of the
    program terminates; in every final state each device's result holds `OUT`, its argument what it held, and every
    semaphore counter is zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = OUT m c)
      ∧ r.2.sem = fun _ => 0) := by
  refine Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := ?hmain)
    (hbody := ?hbody) (hne := fun w => w.elim0) (harr := arr_whole0) (hstage := stage_whole0) (hshare := share_eq m)
    (hdistinct := winFacts0.arr_inj)
    (O₀ := O₀) (howed₀ := fun _ => rfl) (howedN := fun _ => rfl)
    (L := Lv) (lv := lv) (hL := ?hL) (hwaits := ?hwaits)
    (G := G m) (G' := G' m) (u₀ := u₀) (hu₀ := ?hu₀) (hglob := ?hglob)
    (hA := fun _ _ => rfl) (hpf := fun _ k => k.elim0)
    (X := Enter m) (Y := Fin1 m) (Z := fun _ => iprop(emp))
    (hX := ?hX) (hin := ?hin) (hout := ?hout) (QY := QC m) (hY := ?hY) (hQ := ?hQ)
  case hmain => exact fun _ => rfl
  case hbody =>
    intro c
    have h := body_obligation m c
    generalize (defs₀ : Defs nD τ sig (Elt F) Λ₀) = D at h ⊢
    exact h
  case hL => exact fun g h => if_neg h
  case hwaits => exact waits m
  case hu₀ => exact fund_all m
  case hglob => exact glob m
  case hX => exact enter m ρ
  case hin => exact phi0 m
  case hout => exact phi1 m
  case hY => exact fin_read m
  case hQ => exact fun _ h hs => ⟨fun c => (h c).2.2.1, sem_eq_zero hs fun c => (h c).2.2.2⟩

end Cert.KernelIdeal.Own

end
-- ==== Proof.Value.lean ====
module

public import proofs.«01_k».proof.Proof.KernelIdeal.Buffers
public import proofs.«01_k».proof.Proof.Gen.ReferenceIdeal
public import Idealize.ShloMosaic.PureOps.Ideal.Laws
public import Idealize.ShloMosaic.Lib.Pointwise.Reduce
public import Idealize.ShloMosaic.Lib.Pointwise.ElementwiseCore
public import Idealize.ShloMosaic.Lib.Layout

@[expose] public section

noncomputable section

namespace Cert.KernelIdeal.Own

open Cert.KernelIdeal.Gen
open Idealize.ShloMosaic
open Idealize.ShloMosaic.TcCoe

/-! ## An element of a block of the input -/

section Blocks

variable {F : FTy → Type} [FloatOps F]
variable (m : (ℓ : Loc nD τ sig) → Buf (Elt F) ℓ) (c : Dev nD)

/-- A device's input. -/
abbrev inp : S1x16384x2048.Idx → Elt F .f32 := m ((c : Thread nD τ).loc main_arg0)

/-- An element of the input block whose first row is `r` and whose first column is `q`. -/
theorem inB_at {o : Fin 3 → ℕ} (h : ∀ a, o a + S1x128x1024.size a ≤ S1x16384x2048.size a) {r q : ℕ} (ho : o = ![0, r, q]) (x : S128x1024.Idx)
    (i : S1x16384x2048.Idx) (h1 : (i 1).val = r + (x 0).val) (h2 : (i 2).val = q + (x 1).val) : inB m c o h x = inp m c i := by
  subst ho
  show inp m c ((Rect.unit (s := S1x16384x2048) ![0, r, q] S1x128x1024.size h).emb (Shape.reshapeEquiv _ x)) = inp m c i
  refine congrArg (inp m c) (funext fun a => Fin.ext ?_)
  rw [Rect.emb_apply, show Shape.reshapeEquiv _ x = (Fin.cons ⟨0, Nat.one_pos⟩ x : S1x128x1024.Idx) from Shape.reshapeEquiv_cons_one _ x]
  fin_cases a
  · show 0 + 1 * 0 = (i 0).val
    have : (i 0).val < 1 := (i 0).isLt
    omega
  · show r + 1 * (x 0).val = (i 1).val
    omega
  · show q + 1 * (x 1).val = (i 2).val
    omega

end Blocks

/-- The partner along `x` has the other half of the columns. -/
theorem px_half (c : Dev nD) : (px c).val / 8 = 1 - c.val / 8 := by revert c; decide
/-- The partner along `x` has the same place along `y`. -/
theorem px_my (c : Dev nD) : (px c).val / 4 % 2 = c.val / 4 % 2 := by revert c; decide
/-- The `x` partner of the `y` partner has the other half of the columns. -/
theorem pxy_half (c : Dev nD) : (px (py c)).val / 8 = 1 - c.val / 8 := by revert c; decide
/-- The `x` partner of the `y` partner has the other place along `y`. -/
theorem pxy_my (c : Dev nD) : (px (py c)).val / 4 % 2 = 1 - c.val / 4 % 2 := by revert c; decide
/-- There are two halves of the columns. -/
theorem half_lt (c : Dev nD) : c.val / 8 < 2 := by revert c; decide

/-! ## The sum -/

section Sum

variable (m : (ℓ : Loc nD τ sig) → Buf (Elt Ideal) ℓ) (c : Dev nD)

/-- The element of an input of one row block in a device's own columns. -/
def own (i : S16384x1024.Idx) : S1x16384x2048.Idx := fun a =>
  ⟨![0, (i 0).val, 1024 * (c.val / 8) + (i 1).val] a, by
    have h0 : (i 0).val < 16384 := (i 0).isLt
    have h1 : (i 1).val < 1024 := (i 1).isLt
    have h2 := half_lt c
    fin_cases a
    · exact Nat.one_pos
    · exact h0
    · show 1024 * (c.val / 8) + (i 1).val < 2048
      omega⟩

/-- Each element of a device's result is its own input's plus another device's, one that differs from it along `x`. -/
theorem out_at (i : S16384x1024.Idx) : ∃ d : Dev nD, d.val / 8 = 1 - c.val / 8 ∧
    OUT m c i = (FloatOps.addf (F := Ideal) (φ := .bf16) (inp m c (own c i)) (inp m d (own c i)) : Ideal .bf16) := by
  have h0 : (i 0).val < 16384 := (i 0).isLt
  have hh := half_lt c
  have hy : myV c < 2 := my_lt c
  have hj : (i 0).val / 256 < 64 := by omega
  unfold OUT
  by_cases hd : (i 0).val / 128 % 2 = myV c
  · refine ⟨px c, px_half c, ?_⟩
    rw [if_pos hd]
    have e1 := inB_at m c (o := oD c ((i 0).val / 256)) (k0_off2_inb c (n64 ((i 0).val / 256))) (k0_off2_eq c (n64 ((i 0).val / 256))) (inBlk i) (own c i)
      (by rw [n64_val hj]; show (i 0).val = 256 * ((i 0).val / 256) + 128 * myV c + (i 0).val % 128; omega) rfl
    have e2 := inB_at m (px c) (o := k0_off1 (px c) (BitVec.ofNat 32 (2 * (n64 ((i 0).val / 256)).val))) (k0_off1_inb (px c) (n64 ((i 0).val / 256))) (by rw [k0_off1_eq]) (inBlk i) (own c i)
      (by rw [n64_val hj, px_my]; show (i 0).val = 256 * ((i 0).val / 256) + 128 * myV c + (i 0).val % 128; omega)
      (by rw [px_half]; show 1024 * (c.val / 8) + (i 1).val = 1024 - 1024 * (1 - c.val / 8) + (i 1).val; omega)
    unfold valD redVal sendVal
    rw [addf_apply, truncf_apply, truncf_apply]
    exact congrArg₂ (FloatOps.addf (F := Ideal) (φ := .bf16)) e1 e2
  · refine ⟨px (py c), pxy_half c, ?_⟩
    rw [if_neg hd]
    have e1 := inB_at m c (o := oR c ((i 0).val / 256)) (k0_off3_inb c (n64 ((i 0).val / 256))) (k0_off3_eq c (n64 ((i 0).val / 256))) (inBlk i) (own c i)
      (by rw [n64_val hj]; show (i 0).val = 256 * ((i 0).val / 256) + 128 - 128 * myV c + (i 0).val % 128; omega) rfl
    have e2 := inB_at m (px (py c)) (o := k0_off1 (px (py c)) (BitVec.ofNat 32 (2 * (n64 ((i 0).val / 256)).val))) (k0_off1_inb (px (py c)) (n64 ((i 0).val / 256))) (by rw [k0_off1_eq]) (inBlk i) (own c i)
      (by rw [n64_val hj, pxy_my]; show (i 0).val = 256 * ((i 0).val / 256) + 128 * (1 - myV c) + (i 0).val % 128; omega)
      (by rw [pxy_half]; show 1024 * (c.val / 8) + (i 1).val = 1024 - 1024 * (1 - c.val / 8) + (i 1).val; omega)
    unfold valR redVal sendVal
    rw [addf_apply, truncf_apply, truncf_apply]
    exact congrArg₂ (FloatOps.addf (F := Ideal) (φ := .bf16)) e1 e2

/-! ## The reference's sum -/

/-- The shape of the whole input. -/
abbrev SX : Shape := ⟨3, ![2, 16384, 2048]⟩
/-- The shape of the whole result. -/
abbrev SR : Shape := ⟨2, ![16384, 2048]⟩

/-- The reference's result. -/
abbrev refOut (X : SX.Idx → Elt Ideal .f32) : SR.Idx → Elt Ideal .bf16 :=
  truncf .bf16 (Host.reduceAdd (F := Ideal) (φ := .f32) X (constant Cert.ReferenceIdeal.S_ .f32 0x00000000#32)
    Cert.ReferenceIdeal.Facts₀.reducesTo_S2x16384x2048_S16384x2048_d0 Cert.ReferenceIdeal.Facts₀.h_S_) Cert.ReferenceIdeal.Facts₀.bitsLt_bf16_f32

/-- An element of the whole input. -/
def at3 (k : Fin 2) (j : SR.Idx) : SX.Idx := Fin.cons k j

/-- Each element of the reference's result is the sum of the two elements above it. -/
theorem ref_at (X : SX.Idx → Elt Ideal .f32) (j : SR.Idx) : refOut X j = (X (at3 0 j) + X (at3 1 j) : EReal) := by
  have hr : SX.Reduces [0] SR := by decide
  have e0 : refOut X j = Host.reduceAdd (F := Ideal) (φ := .f32) X (constant Cert.ReferenceIdeal.S_ .f32 0x00000000#32)
    Cert.ReferenceIdeal.Facts₀.reducesTo_S2x16384x2048_S16384x2048_d0 Cert.ReferenceIdeal.Facts₀.h_S_ j := rfl
  rw [e0, Host.reduceAdd_apply, Ideal.hostReduceAdd_def, Ideal.hostReduceAdd_single _ hr, constant_apply, Ideal.ofBits_def, Ideal.ofBits_zero_f32, zero_add]
  refine (Fin.sum_univ_two _).trans ?_
  have e (k : Fin 2) : hr.lift j k = at3 k j := by
    funext a
    refine Fin.ext ?_
    refine (hr.lift_val j k a).trans ?_
    fin_cases a <;> rfl
  rw [e, e]

/-- Where the devices hold their parts of an array, they end with their parts of the reference's result. -/
theorem value (X : SX.Idx → Elt Ideal .f32)
    (hX : ∀ c : Dev nD, m ((c : Thread nD τ).loc main_arg0)
      = Layout.blockN ⟨3, ![1, 16384, 2048]⟩ ⟨3, ![2, 16384, 2048]⟩ (Layout.meshBlock [2, 2, 4] ![[0], [], []] c) X) :
    OUT m c = Layout.blockN ⟨2, ![16384, 1024]⟩ ⟨2, ![16384, 2048]⟩ (Layout.meshBlock [2, 2, 4] ![[], [0]] c) (refOut X) := by
  funext i
  have hb (d : Dev nD) (k : Fin 2) (hk : d.val / 8 = k.val) (j : SR.Idx) (h0 : (j 0).val = (i 0).val) (h1 : (j 1).val = 1024 * (c.val / 8) + (i 1).val) :
      inp m d (own c i) = X (at3 k j) := by
    show m ((d : Thread nD τ).loc main_arg0) (own c i) = _
    rw [hX d, Layout.blockN_apply]
    refine congrArg X (funext fun a => Fin.ext ?_)
    rw [Layout.TilesN.idx_val]
    fin_cases a
    · show (d.val / 8 % 2 * 1 + 0) * 1 + 0 = k.val
      have := k.isLt
      omega
    · show 0 * 16384 + (i 0).val = (j 0).val
      omega
    · show 0 * 2048 + (1024 * (c.val / 8) + (i 1).val) = (j 1).val
      omega
  obtain ⟨d, hd, e⟩ := out_at m c i
  rw [e, Layout.blockN_apply, ref_at]
  generalize hj : Layout.TilesN.idx _ _ i = j
  have h0 : (j 0).val = (i 0).val := by
    rw [← hj, Layout.TilesN.idx_val]
    show 0 * 16384 + (i 0).val = (i 0).val
    omega
  have h1 : (j 1).val = 1024 * (c.val / 8) + (i 1).val := by
    rw [← hj, Layout.TilesN.idx_val]
    show (c.val / 8 % 2 * 1 + 0) * 1024 + (i 1).val = 1024 * (c.val / 8) + (i 1).val
    have := half_lt c
    omega
  have hh := half_lt c
  show (inp m c (own c i) + inp m d (own c i) : EReal) = _
  by_cases hc : c.val / 8 = 0
  · rw [hb c 0 hc j h0 h1, hb d 1 (by rw [hd, hc]; rfl) j h0 h1]
  · rw [hb c 1 (show c.val / 8 = 1 by omega) j h0 h1, hb d 0 (show d.val / 8 = 0 by omega) j h0 h1, add_comm]

end Sum

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends on every device, leaves its argument alone and leaves every semaphore at zero. -/
theorem frame_k : Cert.quiescent_Kernel := fun m g _ =>
  (θ_run _ _ _).mono (fun _ h => ⟨fun c => (h.1 c).1, h.2⟩) (Cert.Kernel.Own.run_main (F := Bits) m g)

/-- The same, of the kernel over exact values. -/
theorem frame_ki : Cert.quiescent_KernelIdeal := fun m g _ =>
  (θ_run _ _ _).mono (fun _ h => ⟨fun c => (h.1 c).1, h.2⟩) (Cert.KernelIdeal.Own.run_main (F := Ideal) m g)

/-- The reference ends and leaves its argument alone; it has no semaphore. -/
theorem frame_ri : Cert.quiescent_ReferenceIdeal := fun m g _ =>
  (θ_run _ _ _).mono (fun r h => ⟨fun c => (h c).2, sem_eq_zero_of_no_sems (by decide) r.2⟩) (Cert.ReferenceIdeal.Value.run (F := Ideal) m g)

/-- Over exact values, every device's result is its part of the reference's. -/
theorem values : Cert.algebraic_KernelIdeal_ReferenceIdeal := by
  intro m g m' g' _ hX
  refine ⟨Cert.KernelIdeal.Own.refOut (m' (((0 : Dev Cert.ReferenceIdeal.nD).tc : Thread Cert.ReferenceIdeal.nD Cert.ReferenceIdeal.τ).loc Cert.ReferenceIdeal.main_arg0)), ?_, ?_⟩
  · exact (θ_run _ _ _).mono (fun _ h c => ⟨(h.1 c).2.trans (Cert.KernelIdeal.Own.value m c _ hX), (h.1 c).1⟩) (Cert.KernelIdeal.Own.run_main (F := Ideal) m g)
  · exact (θ_run _ _ _).mono (fun _ h => h 0) (Cert.ReferenceIdeal.Value.run (F := Ideal) m' g')

/-- All the claims. -/
theorem claim : Cert.Claim :=
  ⟨Cert.Kernel.Gen.facts, Cert.KernelIdeal.Gen.facts, Cert.ReferenceIdeal.Gen.facts, frame_k, frame_ki, frame_ri, trivial, values⟩

end Cert.Proof

end
